-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_past [hPre_finite_and_past : Cert.Pre_finite_and_past.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_past.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_past [hPre_finite_and_past : Cert.Pre_finite_and_past.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_past.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Combine [hPre_rows_exist : Cert.Pre_rows_exist.Facts] (m : (ℓ : Loc Cert.Combine.nD Cert.Combine.τ Cert.Combine.sig) → Buf (Elt Bits) ℓ) : Prop :=
  ∀ c : Dev Cert.Combine.nD,
    (Cert.Pre_rows_exist.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_rows_exist : Cert.Pre_rows_exist.Facts] (m : (ℓ : Loc Cert.CombineIdeal.nD Cert.CombineIdeal.τ Cert.CombineIdeal.sig) → Buf (Elt Ideal) ℓ) : Prop :=
  ∀ c : Dev Cert.CombineIdeal.nD,
    (Cert.Pre_rows_exist.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_exist [hPre_rows_exist : Cert.Pre_rows_exist.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_exist.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_past [hKernelIdeal : Cert.KernelIdeal.Facts] [hPre_finite_and_past : Cert.Pre_finite_and_past.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_past m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_past [hReferenceIdeal : Cert.ReferenceIdeal.Facts] [hPre_finite_and_past : Cert.Pre_finite_and_past.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_past m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Combine [hCombine : Cert.Combine.Facts] [hPre_rows_exist : Cert.Pre_rows_exist.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_rows_exist : Cert.Pre_rows_exist.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_CombineReferenceIdeal_pre_rows_exist [hCombineReferenceIdeal : Cert.CombineReferenceIdeal.Facts] [hPre_rows_exist : Cert.Pre_rows_exist.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_exist m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def preserves_Kernel_KernelIdeal : Prop :=
  True

def algebraic_KernelIdeal_ReferenceIdeal_pre_finite_and_past [hKernelIdeal : Cert.KernelIdeal.Facts] [hReferenceIdeal : Cert.ReferenceIdeal.Facts] [hPre_finite_and_past : Cert.Pre_finite_and_past.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_past m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Projection_ProjectionIdeal : Prop :=
  IdealRules.named_const.Statement Cert.ProjectionIdeal.κ "scale" .f32 0x3E38AA3B#32 (((8 * (Real.log 2))⁻¹ : ℝ) : EReal)

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v21_0)) (v1 : (c : Dev Cert.ProjectionIdeal.nD) → Buf (Elt Ideal) ((c.tc : Thread Cert.ProjectionIdeal.nD Cert.ProjectionIdeal.τ).loc Cert.ProjectionIdeal.main_v21_1)) (v2 : (c : Dev Cert.ProjectionIdeal.nD) → Buf (Elt Ideal) ((c.tc : Thread Cert.ProjectionIdeal.nD Cert.ProjectionIdeal.τ).loc Cert.ProjectionIdeal.main_v21_2)) (v3 : (c : Dev Cert.ProjectionIdeal.nD) → Buf (Elt Ideal) ((c.tc : Thread Cert.ProjectionIdeal.nD Cert.ProjectionIdeal.τ).loc Cert.ProjectionIdeal.main_v21_3)) (v4 : (c : Dev Cert.ProjectionIdeal.nD) → Buf (Elt Ideal) ((c.tc : Thread Cert.ProjectionIdeal.nD Cert.ProjectionIdeal.τ).loc Cert.ProjectionIdeal.main_v21_4)) (v5 : (c : Dev Cert.ProjectionIdeal.nD) → Buf (Elt Ideal) ((c.tc : Thread Cert.ProjectionIdeal.nD Cert.ProjectionIdeal.τ).loc Cert.ProjectionIdeal.main_v21_5)) (v6 : (c : Dev Cert.ProjectionIdeal.nD) → Buf (Elt Ideal) ((c.tc : Thread Cert.ProjectionIdeal.nD Cert.ProjectionIdeal.τ).loc Cert.ProjectionIdeal.main_v21_6)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v21_0) = v0 c
          ∧ r.2.mem ((c.tc : Thread Cert.ProjectionIdeal.nD Cert.ProjectionIdeal.τ).loc Cert.ProjectionIdeal.main_v21_1) = v1 c
          ∧ r.2.mem ((c.tc : Thread Cert.ProjectionIdeal.nD Cert.ProjectionIdeal.τ).loc Cert.ProjectionIdeal.main_v21_2) = v2 c
          ∧ r.2.mem ((c.tc : Thread Cert.ProjectionIdeal.nD Cert.ProjectionIdeal.τ).loc Cert.ProjectionIdeal.main_v21_3) = v3 c
          ∧ r.2.mem ((c.tc : Thread Cert.ProjectionIdeal.nD Cert.ProjectionIdeal.τ).loc Cert.ProjectionIdeal.main_v21_4) = v4 c
          ∧ r.2.mem ((c.tc : Thread Cert.ProjectionIdeal.nD Cert.ProjectionIdeal.τ).loc Cert.ProjectionIdeal.main_v21_5) = v5 c
          ∧ r.2.mem ((c.tc : Thread Cert.ProjectionIdeal.nD Cert.ProjectionIdeal.τ).loc Cert.ProjectionIdeal.main_v21_6) = v6 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v56) = v0 c
          ∧ r.2.mem ((c.tc : Thread Cert.ProjectionReferenceIdeal.nD Cert.ProjectionReferenceIdeal.τ).loc Cert.ProjectionReferenceIdeal.main_v57) = v1 c
          ∧ r.2.mem ((c.tc : Thread Cert.ProjectionReferenceIdeal.nD Cert.ProjectionReferenceIdeal.τ).loc Cert.ProjectionReferenceIdeal.main_v58) = v2 c
          ∧ r.2.mem ((c.tc : Thread Cert.ProjectionReferenceIdeal.nD Cert.ProjectionReferenceIdeal.τ).loc Cert.ProjectionReferenceIdeal.main_v40) = v3 c
          ∧ r.2.mem ((c.tc : Thread Cert.ProjectionReferenceIdeal.nD Cert.ProjectionReferenceIdeal.τ).loc Cert.ProjectionReferenceIdeal.main_v41) = v4 c
          ∧ r.2.mem ((c.tc : Thread Cert.ProjectionReferenceIdeal.nD Cert.ProjectionReferenceIdeal.τ).loc Cert.ProjectionReferenceIdeal.main_v51) = v5 c
          ∧ r.2.mem ((c.tc : Thread Cert.ProjectionReferenceIdeal.nD Cert.ProjectionReferenceIdeal.τ).loc Cert.ProjectionReferenceIdeal.main_v55) = v6 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v15)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v15) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v39) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Combine_CombineIdeal : Prop :=
  True

def algebraic_CombineIdeal_CombineReferenceIdeal [hCombineIdeal : Cert.CombineIdeal.Facts] [hCombineReferenceIdeal : Cert.CombineReferenceIdeal.Facts] [hPre_rows_exist : Cert.Pre_rows_exist.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v24) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hPre_finite_and_past : Cert.Pre_finite_and_past.Facts) (hPre_rows_exist : Cert.Pre_rows_exist.Facts),
    quiescent_Kernel (hKernel := hKernel)
    ∧ quiescent_KernelIdeal (hKernelIdeal := hKernelIdeal)
    ∧ quiescent_KernelIdeal_pre_finite_and_past (hKernelIdeal := hKernelIdeal) (hPre_finite_and_past := hPre_finite_and_past)
    ∧ quiescent_ReferenceIdeal (hReferenceIdeal := hReferenceIdeal)
    ∧ quiescent_ReferenceIdeal_pre_finite_and_past (hReferenceIdeal := hReferenceIdeal) (hPre_finite_and_past := hPre_finite_and_past)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Combine (hCombine := hCombine) (hPre_rows_exist := hPre_rows_exist)
    ∧ quiescent_CombineIdeal (hCombineIdeal := hCombineIdeal) (hPre_rows_exist := hPre_rows_exist)
    ∧ quiescent_CombineReferenceIdeal (hCombineReferenceIdeal := hCombineReferenceIdeal)
    ∧ quiescent_CombineReferenceIdeal_pre_rows_exist (hCombineReferenceIdeal := hCombineReferenceIdeal) (hPre_rows_exist := hPre_rows_exist)
    ∧ preserves_Kernel_KernelIdeal
    ∧ algebraic_KernelIdeal_ReferenceIdeal_pre_finite_and_past (hKernelIdeal := hKernelIdeal) (hReferenceIdeal := hReferenceIdeal) (hPre_finite_and_past := hPre_finite_and_past)
    ∧ preserves_Projection_ProjectionIdeal
    ∧ algebraic_ProjectionIdeal_ProjectionReferenceIdeal (hProjectionIdeal := hProjectionIdeal) (hProjectionReferenceIdeal := hProjectionReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Combine_CombineIdeal
    ∧ algebraic_CombineIdeal_CombineReferenceIdeal (hCombineIdeal := hCombineIdeal) (hCombineReferenceIdeal := hCombineReferenceIdeal) (hPre_rows_exist := hPre_rows_exist)
-- ==== Pre_finite_and_past.lean ====
abbrev S32768x512 : Shape := ⟨2, ![32768, 512]⟩
abbrev S8 : Shape := ⟨1, ![8]⟩
abbrev S8x8x16384 : Shape := ⟨3, ![8, 8, 16384]⟩
abbrev S16384 : Shape := ⟨1, ![16384]⟩
abbrev S_ : Shape := ⟨0, ![]⟩
abbrev S1x1x16384 : Shape := ⟨3, ![1, 1, 16384]⟩

class Facts : Prop where
  bcast_S_S16384 : S_.BroadcastsInDim S16384 (![] : Fin 0 → Fin S16384.rank)
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8 : S_.BroadcastsInDim S8 (![] : Fin 0 → Fin S8.rank)
  reducesTo_S8_S_d0 : S8.ReducesTo [0] S_
  bcast_S16384_S1x1x16384_2 : S16384.BroadcastsInDim S1x1x16384 (![2] : Fin 1 → Fin S1x1x16384.rank)
  bcast_S1x1x16384_S8x8x16384_0_1_2 : S1x1x16384.BroadcastsInDim S8x8x16384 (![0, 1, 2] : Fin 3 → Fin S8x8x16384.rank)
  reducesTo_S8x8x16384_S_d0_1_2 : S8x8x16384.ReducesTo [0, 1, 2] S_

variable [Facts]

def fn_where {F : FTy → Type} [FloatOps F] (arg0 : IVec S16384 1) (arg1 : IVec S16384 32) (arg2 : IVec S16384 32) : IVec S16384 32 :=
  let v0 : IVec S16384 32 := select arg0 arg1 arg2
  v0

def fn_floor_divide {F : FTy → Type} [FloatOps F] (arg0 : IVec S16384 32) (arg1 : IVec S_ 32) : IVec S16384 32 :=
  let v0 : IVec S_ 32 := id arg1
  let v1 : IVec S16384 32 := broadcastInDim S16384 ![] bcast_S_S16384 v0
  let v2 : IVec S16384 32 := Host.divsi arg0 v1
  let v3 : IVec S16384 32 := signi arg0
  let v4 : IVec S_ 32 := signi v0
  let v5 : IVec S16384 32 := broadcastInDim S16384 ![] bcast_S_S16384 v4
  let v6 : IVec S16384 1 := cmpi .ne v3 v5
  let v7 : IVec S16384 32 := broadcastInDim S16384 ![] bcast_S_S16384 v0
  let v8 : IVec S16384 32 := Host.remsi arg0 v7
  let c : IVec S_ 32 := constantI S_ 32 0#32
  let v9 : IVec S16384 32 := broadcastInDim S16384 ![] bcast_S_S16384 c
  let v10 : IVec S16384 1 := cmpi .ne v8 v9
  let v11 : IVec S16384 1 := andi v6 v10
  let c_0 : IVec S_ 32 := constantI S_ 32 1#32
  let v12 : IVec S16384 32 := broadcastInDim S16384 ![] bcast_S_S16384 c_0
  let v13 : IVec S16384 32 := subi v2 v12
  let v14 : IVec S16384 32 := fn_where (F := F) v11 v13 v2
  v14

def fn_part1 {F : FTy → Type} [FloatOps F] (main_arg4 : IVec S8x8x16384 32) (main_v15 : IVec S_ 1) (main_v16 : IVec S1x1x16384 32) : IVec S_ 1 :=
  let main_v17 : IVec S8x8x16384 32 := broadcastInDim S8x8x16384 ![0, 1, 2] bcast_S1x1x16384_S8x8x16384_0_1_2 main_v16
  let main_v18 : IVec S8x8x16384 1 := cmpi .slt main_arg4 main_v17
  let main_c_5 : IVec S_ 1 := constantI S_ 1 1#1
  let main_v19 : IVec S_ 1 := (fun x v => Host.reduce IntOp.andi x v reducesTo_S8x8x16384_S_d0_1_2 h_S_) main_v18 main_c_5
  let main_v20 : IVec S_ 1 := andi main_v15 main_v19
  main_v20

def fn {F : FTy → Type} [FloatOps F] (main_arg0 : FVec F S32768x512 .f32) (main_arg1 : FVec F S32768x512 .f32) (main_arg2 : FVec F S32768x512 .f32) (main_arg3 : FVec F S8 .f32) (main_arg4 : IVec S8x8x16384 32) : IVec S_ 1 :=
  let main_v0 : IVec S16384 32 := iotaInDim S16384 32 0
  let main_c : IVec S_ 32 := constantI S_ 32 256#32
  let main_v1 : IVec S16384 32 := fn_floor_divide (F := F) main_v0 main_c
  let main_v2 : FVec F S32768x512 .f32 := Host.absf main_arg0
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_c_0 : IVec S_ 1 := constantI S_ 1 1#1
  let main_v5 : IVec S_ 1 := (fun x v => Host.reduce IntOp.andi x v reducesTo_S32768x512_S_d0_1 h_S_) main_v4 main_c_0
  let main_v6 : FVec F S32768x512 .f32 := Host.absf main_arg1
  let main_cst_1 : FVec F S_ .f32 := constant S_ .f32 0x7F800000#32
  let main_v7 : FVec F S32768x512 .f32 := broadcastInDim S32768x512 ![] bcast_S_S32768x512 main_cst_1
  let main_v8 : IVec S32768x512 1 := cmpf .olt main_v6 main_v7
  let main_c_2 : IVec S_ 1 := constantI S_ 1 1#1
  let main_v9 : IVec S_ 1 := (fun x v => Host.reduce IntOp.andi x v reducesTo_S32768x512_S_d0_1 h_S_) main_v8 main_c_2
  let main_v10 : IVec S_ 1 := andi main_v5 main_v9
  let main_v11 : FVec F S8 .f32 := Host.absf main_arg3
  let main_cst_3 : FVec F S_ .f32 := constant S_ .f32 0x7F800000#32
  let main_v12 : FVec F S8 .f32 := broadcastInDim S8 ![] bcast_S_S8 main_cst_3
  let main_v13 : IVec S8 1 := cmpf .olt main_v11 main_v12
  let main_c_4 : IVec S_ 1 := constantI S_ 1 1#1
  let main_v14 : IVec S_ 1 := (fun x v => Host.reduce IntOp.andi x v reducesTo_S8_S_d0 h_S_) main_v13 main_c_4
  let main_v15 : IVec S_ 1 := andi main_v10 main_v14
  let main_v16 : IVec S1x1x16384 32 := broadcastInDim S1x1x16384 ![2] bcast_S16384_S1x1x16384_2 main_v1
  fn_part1 (F := F) main_arg4 main_v15 main_v16
-- ==== Pre_rows_exist.lean ====
abbrev S65536 : Shape := ⟨1, ![65536]⟩
abbrev S32768x1024 : Shape := ⟨2, ![32768, 1024]⟩
abbrev S32768x2 : Shape := ⟨2, ![32768, 2]⟩
abbrev S69632x1024 : Shape := ⟨2, ![69632, 1024]⟩
abbrev S1x1024 : Shape := ⟨2, ![1, 1024]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S32768x1024 .f32) (main_arg2 : FVec F S32768x2 .f32) (main_arg3 : FVec F S69632x1024 .f32) (main_arg4 : FVec F S1x1024 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 69632#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Kernel.lean ====
abbrev S32768x512 : Shape := ⟨2, ![32768, 512]⟩
abbrev S8 : Shape := ⟨1, ![8]⟩
abbrev S8x8x16384 : Shape := ⟨3, ![8, 8, 16384]⟩
abbrev S_ : Shape := ⟨0, ![]⟩
abbrev S128x256x4x128 : Shape := ⟨4, ![128, 256, 4, 128]⟩
abbrev S128x4x128x256 : Shape := ⟨4, ![128, 4, 128, 256]⟩
abbrev S128 : Shape := ⟨1, ![128]⟩
abbrev S128x1 : Shape := ⟨2, ![128, 1]⟩
abbrev S128x4x1x128x256 : Shape := ⟨5, ![128, 4, 1, 128, 256]⟩
abbrev S128x4x2x128x256 : Shape := ⟨5, ![128, 4, 2, 128, 256]⟩
abbrev S4x2x1 : Shape := ⟨3, ![4, 2, 1]⟩
abbrev S4x2x256x128 : Shape := ⟨4, ![4, 2, 256, 128]⟩
abbrev S1 : Shape := ⟨1, ![1]⟩
abbrev S4x2x256 : Shape := ⟨3, ![4, 2, 256]⟩
abbrev S1024 : Shape := ⟨1, ![1024]⟩
abbrev S1024x128 : Shape := ⟨2, ![1024, 128]⟩
abbrev S1x8x256 : Shape := ⟨3, ![1, 8, 256]⟩
abbrev S256x128 : Shape := ⟨2, ![256, 128]⟩
abbrev S16384x128 : Shape := ⟨2, ![16384, 128]⟩
abbrev S64x1x2x128x256 : Shape := ⟨5, ![64, 1, 2, 128, 256]⟩
abbrev S1x2x256x128 : Shape := ⟨4, ![1, 2, 256, 128]⟩
abbrev S2x256x256 : Shape := ⟨3, ![2, 256, 256]⟩
abbrev S2x1x256 : Shape := ⟨3, ![2, 1, 256]⟩
abbrev S2x128x256 : Shape := ⟨3, ![2, 128, 256]⟩
abbrev S1x128 : Shape := ⟨2, ![1, 128]⟩
abbrev S1x256x128 : Shape := ⟨3, ![1, 256, 128]⟩
abbrev S2x256x128 : Shape := ⟨3, ![2, 256, 128]⟩
abbrev S8x256 : Shape := ⟨2, ![8, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S1x1x1x128x256 : Shape := ⟨5, ![1, 1, 1, 128, 256]⟩
abbrev S128x256 : Shape := ⟨2, ![128, 256]⟩
abbrev S1x128x256 : Shape := ⟨3, ![1, 128, 256]⟩
abbrev S1024x256 : Shape := ⟨2, ![1024, 256]⟩
abbrev S1x1x1x1 : Shape := ⟨4, ![1, 1, 1, 1]⟩
abbrev S1x1 : Shape := ⟨2, ![1, 1]⟩
abbrev S128x1024 : Shape := ⟨2, ![128, 1024]⟩

abbrev nBuf : Space → Nat
  | .hbm => 126
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S8, .f32⟩
  | .hbm, ⟨4, _⟩ => ⟨S8x8x16384, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S32768x512, .bf16⟩
  | .hbm, ⟨14, _⟩ => ⟨S32768x512, .bf16⟩
  | .hbm, ⟨15, _⟩ => ⟨S128x256x4x128, .f32⟩
  | .hbm, ⟨16, _⟩ => ⟨S128x4x128x256, .f32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128x1, .i1⟩
  | .hbm, ⟨22, _⟩ => ⟨S_, .f32⟩
  | .hbm, ⟨23, _⟩ => ⟨S_, .f32⟩
  | .hbm, ⟨24, _⟩ => ⟨S128x4x128x256, .i1⟩
  | .hbm, ⟨25, _⟩ => ⟨S128x4x128x256, .f32⟩
  | .hbm, ⟨26, _⟩ => ⟨S128x4x128x256, .f32⟩
  | .hbm, ⟨27, _⟩ => ⟨S_, .f32⟩
  | .hbm, ⟨28, _⟩ => ⟨S_, .f32⟩
  | .hbm, ⟨29, _⟩ => ⟨S128x4x128x256, .i1⟩
  | .hbm, ⟨30, _⟩ => ⟨S128x4x128x256, .f32⟩
  | .hbm, ⟨31, _⟩ => ⟨S128x4x128x256, .f32⟩
  | .hbm, ⟨32, _⟩ => ⟨S128x4x1x128x256, .f32⟩
  | .hbm, ⟨33, _⟩ => ⟨S128x4x1x128x256, .f32⟩
  | .hbm, ⟨34, _⟩ => ⟨S128x4x2x128x256, .f32⟩
  | .hbm, ⟨35, _⟩ => ⟨S128x4x2x128x256, .bf16⟩
  | .hbm, ⟨36, _⟩ => ⟨S8, .f32⟩
  | .hbm, ⟨37, _⟩ => ⟨S8, .f32⟩
  | .hbm, ⟨38, _⟩ => ⟨S4x2x1, .f32⟩
  | .hbm, ⟨39, _⟩ => ⟨S4x2x1, .bf16⟩
  | .hbm, ⟨40, _⟩ => ⟨S4x2x1, .f32⟩
  | .hbm, ⟨41, _⟩ => ⟨S4x2x1, .f32⟩
  | .hbm, ⟨42, _⟩ => ⟨S_, .f32⟩
  | .hbm, ⟨43, _⟩ => ⟨S4x2x256x128, .f32⟩
  | .hbm, ⟨44, _⟩ => ⟨S_, .f32⟩
  | .hbm, ⟨45, _⟩ => ⟨S4x2x1, .f32⟩
  | .hbm, ⟨46, _⟩ => ⟨S4x2x1, .f32⟩
  | .hbm, ⟨47, _⟩ => ⟨S_, .f32⟩
  | .hbm, ⟨48, _⟩ => ⟨S4x2x1, .f32⟩
  | .hbm, ⟨49, _⟩ => ⟨S4x2x1, .f32⟩
  | .hbm, ⟨50, _⟩ => ⟨S_, .i32⟩
  | .hbm, ⟨51, _⟩ => ⟨S1, .i32⟩
  | .hbm, ⟨52, _⟩ => ⟨S4x2x256, .f32⟩
  | .hbm, ⟨53, _⟩ => ⟨S4x2x256x128, .f32⟩
  | .hbm, ⟨54, _⟩ => ⟨S_, .i32⟩
  | .hbm, ⟨55, _⟩ => ⟨S1, .i32⟩
  | .hbm, ⟨56, _⟩ => ⟨S4x2x256, .f32⟩
  | .hbm, ⟨57, _⟩ => ⟨S4x2x256x128, .f32⟩
  | .hbm, ⟨58, _⟩ => ⟨S_, .i32⟩
  | .hbm, ⟨59, _⟩ => ⟨S1, .i32⟩
  | .hbm, ⟨60, _⟩ => ⟨S4x2x256, .f32⟩
  | .hbm, ⟨61, _⟩ => ⟨S4x2x256x128, .f32⟩
  | .hbm, ⟨62, _⟩ => ⟨S_, .i32⟩
  | .hbm, ⟨63, _⟩ => ⟨S1, .i32⟩
  | .hbm, ⟨64, _⟩ => ⟨S4x2x256, .f32⟩
  | .hbm, ⟨65, _⟩ => ⟨S4x2x256x128, .f32⟩
  | .hbm, ⟨66, _⟩ => ⟨S4x2x256x128, .bf16⟩
  | .hbm, ⟨67, _⟩ => ⟨S1024, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S1024, .i32⟩
  | .hbm, ⟨78, _⟩ => ⟨S1024, .i1⟩
  | .hbm, ⟨79, _⟩ => ⟨S_, .i32⟩
  | .hbm, ⟨80, _⟩ => ⟨S1024, .i32⟩
  | .hbm, ⟨81, _⟩ => ⟨S1024, .i1⟩
  | .hbm, ⟨82, _⟩ => ⟨S_, .i32⟩
  | .hbm, ⟨83, _⟩ => ⟨S_, .i1⟩
  | .hbm, ⟨84, _⟩ => ⟨S1024, .i1⟩
  | .hbm, ⟨85, _⟩ => ⟨S1024, .i1⟩
  | .hbm, ⟨86, _⟩ => ⟨S1024, .i1⟩
  | .hbm, ⟨87, _⟩ => ⟨S1024, .i32⟩
  | .hbm, ⟨88, _⟩ => ⟨S1024, .i32⟩
  | .hbm, ⟨89, _⟩ => ⟨S1024, .i32⟩
  | .hbm, ⟨90, _⟩ => ⟨S1024, .f32⟩
  | .hbm, ⟨91, _⟩ => ⟨S_, .i32⟩
  | .hbm, ⟨92, _⟩ => ⟨S_, .i32⟩
  | .hbm, ⟨93, _⟩ => ⟨S1024, .i32⟩
  | .hbm, ⟨94, _⟩ => ⟨S1024, .i32⟩
  | .hbm, ⟨95, _⟩ => ⟨S1024, .i32⟩
  | .hbm, ⟨96, _⟩ => ⟨S_, .i32⟩
  | .hbm, ⟨97, _⟩ => ⟨S1024, .i32⟩
  | .hbm, ⟨98, _⟩ => ⟨S1024, .i1⟩
  | .hbm, ⟨99, _⟩ => ⟨S1024, .i32⟩
  | .hbm, ⟨100, _⟩ => ⟨S1024, .i32⟩
  | .hbm, ⟨101, _⟩ => ⟨S_, .i32⟩
  | .hbm, ⟨102, _⟩ => ⟨S1024, .i32⟩
  | .hbm, ⟨103, _⟩ => ⟨S1024, .i1⟩
  | .hbm, ⟨104, _⟩ => ⟨S1024, .i1⟩
  | .hbm, ⟨105, _⟩ => ⟨S_, .i32⟩
  | .hbm, ⟨106, _⟩ => ⟨S1024, .i32⟩
  | .hbm, ⟨107, _⟩ => ⟨S1024, .i32⟩
  | .hbm, ⟨108, _⟩ => ⟨S1024, .i32⟩
  | .hbm, ⟨109, _⟩ => ⟨S1024, .f32⟩
  | .hbm, ⟨110, _⟩ => ⟨S_, .f32⟩
  | .hbm, ⟨111, _⟩ => ⟨S1024x128, .f32⟩
  | .hbm, ⟨112, _⟩ => ⟨S_, .i32⟩
  | .hbm, ⟨113, _⟩ => ⟨S1, .i32⟩
  | .hbm, ⟨114, _⟩ => ⟨S1024x128, .f32⟩
  | .hbm, ⟨115, _⟩ => ⟨S_, .i32⟩
  | .hbm, ⟨116, _⟩ => ⟨S1, .i32⟩
  | .hbm, ⟨117, _⟩ => ⟨S1024x128, .f32⟩
  | .hbm, ⟨118, _⟩ => ⟨S_, .i32⟩
  | .hbm, ⟨119, _⟩ => ⟨S1, .i32⟩
  | .hbm, ⟨120, _⟩ => ⟨S1024x128, .f32⟩
  | .hbm, ⟨121, _⟩ => ⟨S_, .i32⟩
  | .hbm, ⟨122, _⟩ => ⟨S1, .i32⟩
  | .hbm, ⟨123, _⟩ => ⟨S1024x128, .f32⟩
  | .hbm, ⟨124, _⟩ => ⟨S1024x128, .bf16⟩
  | .hbm, ⟨125, _⟩ => ⟨S32768x512, .bf16⟩
  | .local _ .vmem, ⟨0, _⟩ => ⟨S1x8x256, .i32⟩
  | .local _ .vmem, ⟨1, _⟩ => ⟨S1x8x256, .i32⟩
  | .local _ .vmem, ⟨2, _⟩ => ⟨S256x128, .bf16⟩
  | .local _ .vmem, ⟨3, _⟩ => ⟨S256x128, .bf16⟩
  | .local _ .vmem, ⟨4, _⟩ => ⟨S16384x128, .bf16⟩
  | .local _ .vmem, ⟨5, _⟩ => ⟨S16384x128, .bf16⟩
  | .local _ .vmem, ⟨6, _⟩ => ⟨S64x1x2x128x256, .bf16⟩
  | .local _ .vmem, ⟨7, _⟩ => ⟨S64x1x2x128x256, .bf16⟩
  | .local _ .vmem, ⟨8, _⟩ => ⟨S1x2x256x128, .bf16⟩
  | .local _ .vmem, ⟨9, _⟩ => ⟨S1x2x256x128, .bf16⟩
  | .local _ .vmem, ⟨10, _⟩ => ⟨S1024x128, .bf16⟩
  | .local _ .vmem, ⟨11, _⟩ => ⟨S256x128, .bf16⟩
  | .local _ .vmem, ⟨12, _⟩ => ⟨S256x128, .bf16⟩
  | .local _ .vmem, ⟨13, _⟩ => ⟨S2x256x256, .bf16⟩
  | .local _ .vmem, ⟨14, _⟩ => ⟨S2x1x256, .f32⟩
  | .local _ .vmem, ⟨15, _⟩ => ⟨S2x128x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v13 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_1 : Ref sig .tc := ⟨.hbm, 76, rfl⟩
abbrev main_call2_v5 : Ref sig .tc := ⟨.hbm, 77, rfl⟩
abbrev main_call2_v6 : Ref sig .tc := ⟨.hbm, 78, rfl⟩
abbrev main_call2_c_2 : Ref sig .tc := ⟨.hbm, 79, rfl⟩
abbrev main_call2_v7 : Ref sig .tc := ⟨.hbm, 80, rfl⟩
abbrev main_call2_v8 : Ref sig .tc := ⟨.hbm, 81, rfl⟩
abbrev main_call2_c_3 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_v44 : Ref sig .tc := ⟨.hbm, 89, rfl⟩
abbrev main_v45 : Ref sig .tc := ⟨.hbm, 90, rfl⟩
abbrev main_c_12 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_c : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_0 : Ref sig .tc := ⟨.hbm, 105, rfl⟩
abbrev main_call3_v12 : Ref sig .tc := ⟨.hbm, 106, rfl⟩
abbrev main_call3_v13 : Ref sig .tc := ⟨.hbm, 107, rfl⟩
abbrev main_v46 : Ref sig .tc := ⟨.hbm, 108, rfl⟩
abbrev main_v47 : Ref sig .tc := ⟨.hbm, 109, rfl⟩
abbrev main_cst_13 : Ref sig .tc := ⟨.hbm, 110, rfl⟩
abbrev main_v48 : Ref sig .tc := ⟨.hbm, 111, rfl⟩
abbrev main_c_14 : Ref sig .tc := ⟨.hbm, 112, rfl⟩
abbrev main_v49 : Ref sig .tc := ⟨.hbm, 113, rfl⟩
abbrev main_v50 : Ref sig .tc := ⟨.hbm, 114, rfl⟩
abbrev main_c_15 : Ref sig .tc := ⟨.hbm, 115, rfl⟩
abbrev main_v51 : Ref sig .tc := ⟨.hbm, 116, rfl⟩
abbrev main_v52 : Ref sig .tc := ⟨.hbm, 117, rfl⟩
abbrev main_c_16 : Ref sig .tc := ⟨.hbm, 118, rfl⟩
abbrev main_v53 : Ref sig .tc := ⟨.hbm, 119, rfl⟩
abbrev main_v54 : Ref sig .tc := ⟨.hbm, 120, rfl⟩
abbrev main_c_17 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 64], ![false, false, false]⟩

def k0_mult1 (i : grid0.Coords) : BitVec 32 :=
  let arg2 : BitVec 32 := BitVec.ofNat 32 (i 2).val
  let c256_i32 : BitVec 32 := 256#32
  let v30 : BitVec 32 := Scalar.muli arg2 c256_i32
  v30
def k0_off1 (i : grid0.Coords) : Fin 2 → Nat :=
  let arg2 : BitVec 32 := BitVec.ofNat 32 (i 2).val
  let c256_i32 : BitVec 32 := 256#32
  let v30 : BitVec 32 := Scalar.muli arg2 c256_i32
  let v31 : BitVec 32 := v30
  let v32 : Index := Scalar.indexCast v31
  let c0_16 : Index := 0#32
  ![v32.toNat, 0]
def k0_off2 (i : grid0.Coords) : Fin 5 → Nat :=
  let arg2 : BitVec 32 := BitVec.ofNat 32 (i 2).val
  let c0_i32 : BitVec 32 := 0#32
  let v56 : BitVec 32 := Scalar.addi arg2 c0_i32
  let v57 : Index := Scalar.indexCast v56
  let c0_32 : Index := 0#32
  let c0_33 : Index := 0#32
  let c0_34 : Index := 0#32
  let c0_35 : Index := 0#32
  ![v57.toNat, 0, 0, 0, 0]
def k0_off3 (i : grid0.Coords) : Fin 5 → Nat :=
  let arg2 : BitVec 32 := BitVec.ofNat 32 (i 2).val
  let c0_i32_45 : BitVec 32 := 0#32
  let v76 : BitVec 32 := Scalar.addi arg2 c0_i32_45
  let v77 : Index := Scalar.indexCast v76
  let c0_46 : Index := 0#32
  let c1_47 : Index := 1#32
  let c0_48 : Index := 0#32
  let c0_49 : Index := 0#32
  ![v77.toNat, 0, 1, 0, 0]
@[reducible] def k0_t1_loop (i : grid0.Coords) : Scf.Loop 32 :=
  let c0_i32_60 : BitVec 32 := 0#32
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let v101 : BitVec 32 := Scalar.subi v100 c0_i32_60
  let c1_i32_61 : BitVec 32 := 1#32
  let v103 : BitVec 32 := Scalar.divsi v101 c1_i32_61
  let v104 : BitVec 32 := Scalar.muli v103 c1_i32_61
  let v105 : BitVec 32 := Scalar.addi c0_i32_60 v104
  let c1_i32_62 : BitVec 32 := 1#32
  ⟨c0_i32_60, v105, c1_i32_62⟩
def k0_mult2 (i : grid0.Coords) (k0_t1 : Fin (k0_t1_loop i).trips) : BitVec 32 :=
  let c0_i32_60 : BitVec 32 := 0#32
  let c1_i32_62 : BitVec 32 := 1#32
  let arg13 : BitVec 32 := Scf.iv c0_i32_60 c1_i32_62 k0_t1
  let c4_i32_77 : BitVec 32 := 4#32
  let v128 : BitVec 32 := Scalar.muli arg13 c4_i32_77
  let c256_i32_79 : BitVec 32 := 256#32
  let v132 : BitVec 32 := Scalar.muli v128 c256_i32_79
  v132
def k0_off4 (i : grid0.Coords) (k0_t1 : Fin (k0_t1_loop i).trips) : Fin 2 → Nat :=
  let c0_i32_60 : BitVec 32 := 0#32
  let c1_i32_62 : BitVec 32 := 1#32
  let arg13 : BitVec 32 := Scf.iv c0_i32_60 c1_i32_62 k0_t1
  let c4_i32_77 : BitVec 32 := 4#32
  let v128 : BitVec 32 := Scalar.muli arg13 c4_i32_77
  let c256_i32_79 : BitVec 32 := 256#32
  let v132 : BitVec 32 := Scalar.muli v128 c256_i32_79
  let v133 : BitVec 32 := v132
  let v134 : Index := Scalar.indexCast v133
  let c0_80 : Index := 0#32
  ![v134.toNat, 0]
def k0_off5 (i : grid0.Coords) (k0_t1 : Fin (k0_t1_loop i).trips) (c0_i32_119 : BitVec 32) : Fin 5 → Nat :=
  let c0_i32_60 : BitVec 32 := 0#32
  let c1_i32_62 : BitVec 32 := 1#32
  let arg13 : BitVec 32 := Scf.iv c0_i32_60 c1_i32_62 k0_t1
  let c4_i32_77 : BitVec 32 := 4#32
  let v128 : BitVec 32 := Scalar.muli arg13 c4_i32_77
  let v274 : BitVec 32 := Scalar.addi v128 c0_i32_119
  let v275 : Index := Scalar.indexCast v274
  let c0_120 : Index := 0#32
  let c0_121 : Index := 0#32
  let c0_122 : Index := 0#32
  let c0_123 : Index := 0#32
  ![v275.toNat, 0, 0, 0, 0]
def k0_off6 (i : grid0.Coords) (k0_t1 : Fin (k0_t1_loop i).trips) (c0_i32_176 : BitVec 32) : Fin 5 → Nat :=
  let c0_i32_60 : BitVec 32 := 0#32
  let c1_i32_62 : BitVec 32 := 1#32
  let arg13 : BitVec 32 := Scf.iv c0_i32_60 c1_i32_62 k0_t1
  let c4_i32_77 : BitVec 32 := 4#32
  let v128 : BitVec 32 := Scalar.muli arg13 c4_i32_77
  let v427 : BitVec 32 := Scalar.addi v128 c0_i32_176
  let v428 : Index := Scalar.indexCast v427
  let c0_177 : Index := 0#32
  let c1_178 : Index := 1#32
  let c0_179 : Index := 0#32
  let c0_180 : Index := 0#32
  ![v428.toNat, 0, 1, 0, 0]
@[reducible] def k0_t2_loop (i : grid0.Coords) : Scf.Loop 32 :=
  let c0_i32_60 : BitVec 32 := 0#32
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let v101 : BitVec 32 := Scalar.subi v100 c0_i32_60
  let c1_i32_61 : BitVec 32 := 1#32
  let v103 : BitVec 32 := Scalar.divsi v101 c1_i32_61
  let v104 : BitVec 32 := Scalar.muli v103 c1_i32_61
  let v105 : BitVec 32 := Scalar.addi c0_i32_60 v104
  let v102 : BitVec 32 := Scalar.addi c0_i32_60 v101
  let c1_i32_63 : BitVec 32 := 1#32
  ⟨v105, v102, c1_i32_63⟩
def k0_mult3 (i : grid0.Coords) (k0_t2 : Fin (k0_t2_loop i).trips) : BitVec 32 :=
  let c0_i32_60 : BitVec 32 := 0#32
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let v101 : BitVec 32 := Scalar.subi v100 c0_i32_60
  let c1_i32_61 : BitVec 32 := 1#32
  let v103 : BitVec 32 := Scalar.divsi v101 c1_i32_61
  let v104 : BitVec 32 := Scalar.muli v103 c1_i32_61
  let v105 : BitVec 32 := Scalar.addi c0_i32_60 v104
  let c1_i32_63 : BitVec 32 := 1#32
  let arg13 : BitVec 32 := Scf.iv v105 c1_i32_63 k0_t2
  let c4_i32_77 : BitVec 32 := 4#32
  let v128 : BitVec 32 := Scalar.muli arg13 c4_i32_77
  let c256_i32_79 : BitVec 32 := 256#32
  let v132 : BitVec 32 := Scalar.muli v128 c256_i32_79
  v132
def k0_off7 (i : grid0.Coords) (k0_t2 : Fin (k0_t2_loop i).trips) : Fin 2 → Nat :=
  let c0_i32_60 : BitVec 32 := 0#32
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let v101 : BitVec 32 := Scalar.subi v100 c0_i32_60
  let c1_i32_61 : BitVec 32 := 1#32
  let v103 : BitVec 32 := Scalar.divsi v101 c1_i32_61
  let v104 : BitVec 32 := Scalar.muli v103 c1_i32_61
  let v105 : BitVec 32 := Scalar.addi c0_i32_60 v104
  let c1_i32_63 : BitVec 32 := 1#32
  let arg13 : BitVec 32 := Scf.iv v105 c1_i32_63 k0_t2
  let c4_i32_77 : BitVec 32 := 4#32
  let v128 : BitVec 32 := Scalar.muli arg13 c4_i32_77
  let c256_i32_79 : BitVec 32 := 256#32
  let v132 : BitVec 32 := Scalar.muli v128 c256_i32_79
  let v133 : BitVec 32 := v132
  let v134 : Index := Scalar.indexCast v133
  let c0_80 : Index := 0#32
  ![v134.toNat, 0]
def k0_off8 (i : grid0.Coords) (k0_t2 : Fin (k0_t2_loop i).trips) (c0_i32_119 : BitVec 32) : Fin 5 → Nat :=
  let c0_i32_60 : BitVec 32 := 0#32
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let v101 : BitVec 32 := Scalar.subi v100 c0_i32_60
  let c1_i32_61 : BitVec 32 := 1#32
  let v103 : BitVec 32 := Scalar.divsi v101 c1_i32_61
  let v104 : BitVec 32 := Scalar.muli v103 c1_i32_61
  let v105 : BitVec 32 := Scalar.addi c0_i32_60 v104
  let c1_i32_63 : BitVec 32 := 1#32
  let arg13 : BitVec 32 := Scf.iv v105 c1_i32_63 k0_t2
  let c4_i32_77 : BitVec 32 := 4#32
  let v128 : BitVec 32 := Scalar.muli arg13 c4_i32_77
  let v274 : BitVec 32 := Scalar.addi v128 c0_i32_119
  let v275 : Index := Scalar.indexCast v274
  let c0_120 : Index := 0#32
  let c0_121 : Index := 0#32
  let c0_122 : Index := 0#32
  let c0_123 : Index := 0#32
  ![v275.toNat, 0, 0, 0, 0]
def k0_off9 (i : grid0.Coords) (k0_t2 : Fin (k0_t2_loop i).trips) (c0_i32_176 : BitVec 32) : Fin 5 → Nat :=
  let c0_i32_60 : BitVec 32 := 0#32
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let v101 : BitVec 32 := Scalar.subi v100 c0_i32_60
  let c1_i32_61 : BitVec 32 := 1#32
  let v103 : BitVec 32 := Scalar.divsi v101 c1_i32_61
  let v104 : BitVec 32 := Scalar.muli v103 c1_i32_61
  let v105 : BitVec 32 := Scalar.addi c0_i32_60 v104
  let c1_i32_63 : BitVec 32 := 1#32
  let arg13 : BitVec 32 := Scf.iv v105 c1_i32_63 k0_t2
  let c4_i32_77 : BitVec 32 := 4#32
  let v128 : BitVec 32 := Scalar.muli arg13 c4_i32_77
  let v427 : BitVec 32 := Scalar.addi v128 c0_i32_176
  let v428 : Index := Scalar.indexCast v427
  let c0_177 : Index := 0#32
  let c1_178 : Index := 1#32
  let c0_179 : Index := 0#32
  let c0_180 : Index := 0#32
  ![v428.toNat, 0, 1, 0, 0]
@[reducible] def k0_t3_loop (i : grid0.Coords) : Scf.Loop 32 :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let v107 : BitVec 32 := Scalar.subi arg2 v106
  let c1_i32_66 : BitVec 32 := 1#32
  let v109 : BitVec 32 := Scalar.divsi v107 c1_i32_66
  let v110 : BitVec 32 := Scalar.muli v109 c1_i32_66
  let v111 : BitVec 32 := Scalar.addi v106 v110
  let c1_i32_67 : BitVec 32 := 1#32
  ⟨v106, v111, c1_i32_67⟩
def k0_mult4 (i : grid0.Coords) (k0_t3 : Fin (k0_t3_loop i).trips) : BitVec 32 :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let c1_i32_67 : BitVec 32 := 1#32
  let arg13 : BitVec 32 := Scf.iv v106 c1_i32_67 k0_t3
  let c256_i32_78 : BitVec 32 := 256#32
  let v131 : BitVec 32 := Scalar.muli arg13 c256_i32_78
  v131
def k0_off10 (i : grid0.Coords) (k0_t3 : Fin (k0_t3_loop i).trips) : Fin 2 → Nat :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let c1_i32_67 : BitVec 32 := 1#32
  let arg13 : BitVec 32 := Scf.iv v106 c1_i32_67 k0_t3
  let c256_i32_78 : BitVec 32 := 256#32
  let v131 : BitVec 32 := Scalar.muli arg13 c256_i32_78
  let v132 : BitVec 32 := v131
  let v133 : Index := Scalar.indexCast v132
  let c0_79 : Index := 0#32
  ![v133.toNat, 0]
def k0_off11 (i : grid0.Coords) (k0_t3 : Fin (k0_t3_loop i).trips) : Fin 5 → Nat :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let c1_i32_67 : BitVec 32 := 1#32
  let arg13 : BitVec 32 := Scf.iv v106 c1_i32_67 k0_t3
  let c0_i32_108 : BitVec 32 := 0#32
  let v189 : BitVec 32 := Scalar.addi arg13 c0_i32_108
  let v190 : Index := Scalar.indexCast v189
  let c0_109 : Index := 0#32
  let c0_110 : Index := 0#32
  let c0_111 : Index := 0#32
  let c0_112 : Index := 0#32
  ![v190.toNat, 0, 0, 0, 0]
def k0_off12 (i : grid0.Coords) (k0_t3 : Fin (k0_t3_loop i).trips) : Fin 5 → Nat :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let c1_i32_67 : BitVec 32 := 1#32
  let arg13 : BitVec 32 := Scf.iv v106 c1_i32_67 k0_t3
  let c0_i32_138 : BitVec 32 := 0#32
  let v245 : BitVec 32 := Scalar.addi arg13 c0_i32_138
  let v246 : Index := Scalar.indexCast v245
  let c0_139 : Index := 0#32
  let c1_140 : Index := 1#32
  let c0_141 : Index := 0#32
  let c0_142 : Index := 0#32
  ![v246.toNat, 0, 1, 0, 0]
@[reducible] def k0_t4_loop (i : grid0.Coords) : Scf.Loop 32 :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let v107 : BitVec 32 := Scalar.subi arg2 v106
  let c1_i32_66 : BitVec 32 := 1#32
  let v109 : BitVec 32 := Scalar.divsi v107 c1_i32_66
  let v110 : BitVec 32 := Scalar.muli v109 c1_i32_66
  let v111 : BitVec 32 := Scalar.addi v106 v110
  let v108 : BitVec 32 := Scalar.addi v106 v107
  let c1_i32_68 : BitVec 32 := 1#32
  ⟨v111, v108, c1_i32_68⟩
def k0_mult5 (i : grid0.Coords) (k0_t4 : Fin (k0_t4_loop i).trips) : BitVec 32 :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let v107 : BitVec 32 := Scalar.subi arg2 v106
  let c1_i32_66 : BitVec 32 := 1#32
  let v109 : BitVec 32 := Scalar.divsi v107 c1_i32_66
  let v110 : BitVec 32 := Scalar.muli v109 c1_i32_66
  let v111 : BitVec 32 := Scalar.addi v106 v110
  let c1_i32_68 : BitVec 32 := 1#32
  let arg13 : BitVec 32 := Scf.iv v111 c1_i32_68 k0_t4
  let c256_i32_78 : BitVec 32 := 256#32
  let v131 : BitVec 32 := Scalar.muli arg13 c256_i32_78
  v131
def k0_off13 (i : grid0.Coords) (k0_t4 : Fin (k0_t4_loop i).trips) : Fin 2 → Nat :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let v107 : BitVec 32 := Scalar.subi arg2 v106
  let c1_i32_66 : BitVec 32 := 1#32
  let v109 : BitVec 32 := Scalar.divsi v107 c1_i32_66
  let v110 : BitVec 32 := Scalar.muli v109 c1_i32_66
  let v111 : BitVec 32 := Scalar.addi v106 v110
  let c1_i32_68 : BitVec 32 := 1#32
  let arg13 : BitVec 32 := Scf.iv v111 c1_i32_68 k0_t4
  let c256_i32_78 : BitVec 32 := 256#32
  let v131 : BitVec 32 := Scalar.muli arg13 c256_i32_78
  let v132 : BitVec 32 := v131
  let v133 : Index := Scalar.indexCast v132
  let c0_79 : Index := 0#32
  ![v133.toNat, 0]
def k0_off14 (i : grid0.Coords) (k0_t4 : Fin (k0_t4_loop i).trips) : Fin 5 → Nat :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let v107 : BitVec 32 := Scalar.subi arg2 v106
  let c1_i32_66 : BitVec 32 := 1#32
  let v109 : BitVec 32 := Scalar.divsi v107 c1_i32_66
  let v110 : BitVec 32 := Scalar.muli v109 c1_i32_66
  let v111 : BitVec 32 := Scalar.addi v106 v110
  let c1_i32_68 : BitVec 32 := 1#32
  let arg13 : BitVec 32 := Scf.iv v111 c1_i32_68 k0_t4
  let c0_i32_108 : BitVec 32 := 0#32
  let v189 : BitVec 32 := Scalar.addi arg13 c0_i32_108
  let v190 : Index := Scalar.indexCast v189
  let c0_109 : Index := 0#32
  let c0_110 : Index := 0#32
  let c0_111 : Index := 0#32
  let c0_112 : Index := 0#32
  ![v190.toNat, 0, 0, 0, 0]
def k0_off15 (i : grid0.Coords) (k0_t4 : Fin (k0_t4_loop i).trips) : Fin 5 → Nat :=
  let arg2 : BitVec 32 := BitVec.ofNat 32 (i 2).val
  let c0_i32_54 : BitVec 32 := 0#32
  let v85 : BitVec 1 := Scalar.cmpi .sgt arg2 c0_i32_54
  let v86 : BitVec 32 := Scalar.extui v85
  let c0_i32_55 : BitVec 32 := 0#32
  let v87 : BitVec 1 := Scalar.cmpi .slt arg2 c0_i32_55
  let v88 : BitVec 32 := Scalar.extui v87
  let v89 : BitVec 32 := Scalar.subi v86 v88
  let c4_i32 : BitVec 32 := 4#32
  let c0_i32_56 : BitVec 32 := 0#32
  let v90 : BitVec 1 := Scalar.cmpi .sgt c4_i32 c0_i32_56
  let v91 : BitVec 32 := Scalar.extui v90
  let c0_i32_57 : BitVec 32 := 0#32
  let v92 : BitVec 1 := Scalar.cmpi .slt c4_i32 c0_i32_57
  let v93 : BitVec 32 := Scalar.extui v92
  let v94 : BitVec 32 := Scalar.subi v91 v93
  let v95 : BitVec 1 := Scalar.cmpi .ne v89 v94
  let v96 : BitVec 32 := Scalar.remsi arg2 c4_i32
  let c0_i32_58 : BitVec 32 := 0#32
  let v97 : BitVec 1 := Scalar.cmpi .ne v96 c0_i32_58
  let v98 : BitVec 1 := Scalar.andi v95 v97
  let v84 : BitVec 32 := Scalar.divsi arg2 c4_i32
  let c1_i32 : BitVec 32 := 1#32
  let v99 : BitVec 32 := Scalar.subi v84 c1_i32
  let v100 : BitVec 32 := Scalar.select v98 v99 v84
  let c4_i32_64 : BitVec 32 := 4#32
  let v106 : BitVec 32 := Scalar.muli v100 c4_i32_64
  let v107 : BitVec 32 := Scalar.subi arg2 v106
  let c1_i32_66 : BitVec 32 := 1#32
  let v109 : BitVec 32 := Scalar.divsi v107 c1_i32_66
  let v110 : BitVec 32 := Scalar.muli v109 c1_i32_66
  let v111 : BitVec 32 := Scalar.addi v106 v110
  let c1_i32_68 : BitVec 32 := 1#32
  let arg13 : BitVec 32 := Scf.iv v111 c1_i32_68 k0_t4
  let c0_i32_138 : BitVec 32 := 0#32
  let v245 : BitVec 32 := Scalar.addi arg13 c0_i32_138
  let v246 : Index := Scalar.indexCast v245
  let c0_139 : Index := 0#32
  let c1_140 : Index := 1#32
  let c0_141 : Index := 0#32
  let c0_142 : Index := 0#32
  ![v246.toNat, 0, 1, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S1x8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S64x1x2x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S32768x512 : Shape := ⟨2, ![32768, 512]⟩
abbrev S8 : Shape := ⟨1, ![8]⟩
abbrev S8x8x16384 : Shape := ⟨3, ![8, 8, 16384]⟩
abbrev S2x16384x8x64 : Shape := ⟨4, ![2, 16384, 8, 64]⟩
abbrev S2x8x16384x64 : Shape := ⟨4, ![2, 8, 16384, 64]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x8x16384x16384 : Shape := ⟨4, ![2, 8, 16384, 16384]⟩
abbrev S_ : Shape := ⟨0, ![]⟩
abbrev S1x8x1x1 : Shape := ⟨4, ![1, 8, 1, 1]⟩
abbrev S1x1x16384x16384 : Shape := ⟨4, ![1, 1, 16384, 16384]⟩
abbrev S1x8x16384x16384 : Shape := ⟨4, ![1, 8, 16384, 16384]⟩
abbrev S2x4x8x16384 : Shape := ⟨4, ![2, 4, 8, 16384]⟩
abbrev S2x4x6x16384 : Shape := ⟨4, ![2, 4, 6, 16384]⟩
abbrev S2x8x3x16384 : Shape := ⟨4, ![2, 8, 3, 16384]⟩
abbrev S2x8x1x16384 : Shape := ⟨4, ![2, 8, 1, 16384]⟩
abbrev S2x8x16384 : Shape := ⟨3, ![2, 8, 16384]⟩
abbrev S2x8x16384x1 : Shape := ⟨4, ![2, 8, 16384, 1]⟩
abbrev S1x1x1x16384 : Shape := ⟨4, ![1, 1, 1, 16384]⟩

abbrev nBuf : Space → Nat
  | .hbm => 178
  | .vmem => 0
  | .smem => 0
  | _ => 0

abbrev hbmTy0_0 (i : Nat) : BufTy := match i % 128 with
  | 0 => ⟨S32768x512, .f32⟩
  | 1 => ⟨S32768x512, .f32⟩
  | 2 => ⟨S32768x512, .f32⟩
  | 3 => ⟨S8, .f32⟩
  | 4 => ⟨S8x8x16384, .i32⟩
  | 5 => ⟨S2x16384x8x64, .f32⟩
  | 6 => ⟨S2x8x16384x64, .f32⟩
  | 7 => ⟨S2x16384x8x64, .f32⟩
  | 8 => ⟨S2x8x16384x64, .f32⟩
  | 9 => ⟨S2x16384x8x64, .f32⟩
  | 10 => ⟨S2x8x16384x64, .f32⟩
  | 11 => ⟨S16384, .i32⟩
  | 12 => ⟨S16384x1, .i32⟩
  | 13 => ⟨S16384, .i32⟩
  | 14 => ⟨S1x16384, .i32⟩
  | 15 => ⟨S16384x16384, .i32⟩
  | 16 => ⟨S16384x16384, .i32⟩
  | 17 => ⟨S16384x16384, .i32⟩
  | 18 => ⟨S2x8x16384x16384, .f32⟩
  | 19 => ⟨S_, .f32⟩
  | 20 => ⟨S2x8x16384x16384, .f32⟩
  | 21 => ⟨S2x8x16384x16384, .f32⟩
  | 22 => ⟨S1x8x1x1, .f32⟩
  | 23 => ⟨S16384x16384, .f32⟩
  | 24 => ⟨S1x1x16384x16384, .f32⟩
  | 25 => ⟨S1x8x16384x16384, .f32⟩
  | 26 => ⟨S1x8x16384x16384, .f32⟩
  | 27 => ⟨S1x8x16384x16384, .f32⟩
  | 28 => ⟨S2x8x16384x16384, .f32⟩
  | 29 => ⟨S2x8x16384x16384, .f32⟩
  | 30 => ⟨S2x4x8x16384, .i32⟩
  | 31 => ⟨S2x4x6x16384, .i32⟩
  | 32 => ⟨S2x8x3x16384, .i32⟩
  | 33 => ⟨S2x8x1x16384, .i32⟩
  | 34 => ⟨S2x8x16384, .i32⟩
  | 35 => ⟨S2x8x16384x1, .i32⟩
  | 36 => ⟨S_, .i32⟩
  | 37 => ⟨S_, .i32⟩
  | 38 => ⟨S1x16384, .i32⟩
  | 39 => ⟨S1x16384, .i32⟩
  | 40 => ⟨S1x16384, .i32⟩
  | 41 => ⟨S_, .i32⟩
  | 42 => ⟨S1x16384, .i32⟩
  | 43 => ⟨S1x16384, .i1⟩
  | 44 => ⟨S1x16384, .i32⟩
  | 45 => ⟨S1x16384, .i32⟩
  | 46 => ⟨S_, .i32⟩
  | 47 => ⟨S1x16384, .i32⟩
  | 48 => ⟨S1x16384, .i1⟩
  | 49 => ⟨S1x16384, .i1⟩
  | 50 => ⟨S_, .i32⟩
  | 51 => ⟨S1x16384, .i32⟩
  | 52 => ⟨S1x16384, .i32⟩
  | 53 => ⟨S1x16384, .i32⟩
  | 54 => ⟨S1x1x1x16384, .i32⟩
  | 55 => ⟨S2x8x16384x16384, .i32⟩
  | 56 => ⟨S2x8x16384x16384, .i32⟩
  | 57 => ⟨S2x8x16384x16384, .i1⟩
  | 58 => ⟨S2x8x1x16384, .i32⟩
  | 59 => ⟨S2x8x16384, .i32⟩
  | 60 => ⟨S2x8x16384x1, .i32⟩
  | 61 => ⟨S_, .i32⟩
  | 62 => ⟨S_, .i32⟩
  | 63 => ⟨S1x16384, .i32⟩
  | 64 => ⟨S1x16384, .i32⟩
  | 65 => ⟨S1x16384, .i32⟩
  | 66 => ⟨S_, .i32⟩
  | 67 => ⟨S1x16384, .i32⟩
  | 68 => ⟨S1x16384, .i1⟩
  | 69 => ⟨S1x16384, .i32⟩
  | 70 => ⟨S1x16384, .i32⟩
  | 71 => ⟨S_, .i32⟩
  | 72 => ⟨S1x16384, .i32⟩
  | 73 => ⟨S1x16384, .i1⟩
  | 74 => ⟨S1x16384, .i1⟩
  | 75 => ⟨S_, .i32⟩
  | 76 => ⟨S1x16384, .i32⟩
  | 77 => ⟨S1x16384, .i32⟩
  | 78 => ⟨S1x16384, .i32⟩
  | 79 => ⟨S1x1x1x16384, .i32⟩
  | 80 => ⟨S2x8x16384x16384, .i32⟩
  | 81 => ⟨S2x8x16384x16384, .i32⟩
  | 82 => ⟨S2x8x16384x16384, .i1⟩
  | 83 => ⟨S2x8x16384x16384, .i1⟩
  | 84 => ⟨S2x8x1x16384, .i32⟩
  | 85 => ⟨S2x8x16384, .i32⟩
  | 86 => ⟨S2x8x16384x1, .i32⟩
  | 87 => ⟨S_, .i32⟩
  | 88 => ⟨S_, .i32⟩
  | 89 => ⟨S1x16384, .i32⟩
  | 90 => ⟨S1x16384, .i32⟩
  | 91 => ⟨S1x16384, .i32⟩
  | 92 => ⟨S_, .i32⟩
  | 93 => ⟨S1x16384, .i32⟩
  | 94 => ⟨S1x16384, .i1⟩
  | 95 => ⟨S1x16384, .i32⟩
  | 96 => ⟨S1x16384, .i32⟩
  | 97 => ⟨S_, .i32⟩
  | 98 => ⟨S1x16384, .i32⟩
  | 99 => ⟨S1x16384, .i1⟩
  | 100 => ⟨S1x16384, .i1⟩
  | 101 => ⟨S_, .i32⟩
  | 102 => ⟨S1x16384, .i32⟩
  | 103 => ⟨S1x16384, .i32⟩
  | 104 => ⟨S1x16384, .i32⟩
  | 105 => ⟨S1x1x1x16384, .i32⟩
  | 106 => ⟨S2x8x16384x16384, .i32⟩
  | 107 => ⟨S2x8x16384x16384, .i32⟩
  | 108 => ⟨S2x8x16384x16384, .i1⟩
  | 109 => ⟨S2x8x16384x16384, .i1⟩
  | 110 => ⟨S_, .i32⟩
  | 111 => ⟨S_, .i32⟩
  | 112 => ⟨S1x16384, .i32⟩
  | 113 => ⟨S1x16384, .i32⟩
  | 114 => ⟨S1x16384, .i32⟩
  | 115 => ⟨S_, .i32⟩
  | 116 => ⟨S1x16384, .i32⟩
  | 117 => ⟨S1x16384, .i1⟩
  | 118 => ⟨S1x16384, .i32⟩
  | 119 => ⟨S1x16384, .i32⟩
  | 120 => ⟨S_, .i32⟩
  | 121 => ⟨S1x16384, .i32⟩
  | 122 => ⟨S1x16384, .i1⟩
  | 123 => ⟨S1x16384, .i1⟩
  | 124 => ⟨S_, .i32⟩
  | 125 => ⟨S1x16384, .i32⟩
  | 126 => ⟨S1x16384, .i32⟩
  | 127 => ⟨S1x16384, .i32⟩
  | _ => ⟨S32768x512, .f32⟩

abbrev hbmTy0_1 (i : Nat) : BufTy := match i % 128 with
  | 0 => ⟨S_, .i32⟩
  | 1 => ⟨S_, .i32⟩
  | 2 => ⟨S16384x1, .i32⟩
  | 3 => ⟨S16384x1, .i32⟩
  | 4 => ⟨S16384x1, .i32⟩
  | 5 => ⟨S_, .i32⟩
  | 6 => ⟨S16384x1, .i32⟩
  | 7 => ⟨S16384x1, .i1⟩
  | 8 => ⟨S16384x1, .i32⟩
  | 9 => ⟨S16384x1, .i32⟩
  | 10 => ⟨S_, .i32⟩
  | 11 => ⟨S16384x1, .i32⟩
  | 12 => ⟨S16384x1, .i1⟩
  | 13 => ⟨S16384x1, .i1⟩
  | 14 => ⟨S_, .i32⟩
  | 15 => ⟨S16384x1, .i32⟩
  | 16 => ⟨S16384x1, .i32⟩
  | 17 => ⟨S16384x1, .i32⟩
  | 18 => ⟨S16384x16384, .i32⟩
  | 19 => ⟨S16384x16384, .i32⟩
  | 20 => ⟨S16384x16384, .i1⟩
  | 21 => ⟨S_, .i32⟩
  | 22 => ⟨S16384x16384, .i32⟩
  | 23 => ⟨S16384x16384, .i1⟩
  | 24 => ⟨S16384x16384, .i1⟩
  | 25 => ⟨S1x1x16384x16384, .i1⟩
  | 26 => ⟨S2x8x16384x16384, .i1⟩
  | 27 => ⟨S2x8x16384x16384, .i1⟩
  | 28 => ⟨S_, .f32⟩
  | 29 => ⟨S_, .f32⟩
  | 30 => ⟨S2x8x16384x16384, .f32⟩
  | 31 => ⟨S2x8x16384x16384, .f32⟩
  | 32 => ⟨S_, .f32⟩
  | 33 => ⟨S2x8x16384, .f32⟩
  | 34 => ⟨S_, .f32⟩
  | 35 => ⟨S2x8x16384, .f32⟩
  | 36 => ⟨S2x8x16384, .f32⟩
  | 37 => ⟨S2x8x16384x1, .f32⟩
  | 38 => ⟨S2x8x16384x16384, .f32⟩
  | 39 => ⟨S2x8x16384x16384, .f32⟩
  | 40 => ⟨S2x8x16384x16384, .f32⟩
  | 41 => ⟨S_, .f32⟩
  | 42 => ⟨S2x8x16384, .f32⟩
  | 43 => ⟨S2x8x16384x1, .f32⟩
  | 44 => ⟨S2x8x16384x16384, .f32⟩
  | 45 => ⟨S2x8x16384x16384, .f32⟩
  | 46 => ⟨S2x8x16384x64, .f32⟩
  | 47 => ⟨S2x16384x8x64, .f32⟩
  | 48 => ⟨S32768x512, .f32⟩
  | 49 => ⟨S32768x512, .bf16⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_0 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_c : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_0 : Ref sig .tc := ⟨.hbm, 75, rfl⟩
abbrev main_call1_v12 : Ref sig .tc := ⟨.hbm, 76, rfl⟩
abbrev main_call1_v13 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_1 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_c_2 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_v7 : Ref sig .tc := ⟨.hbm, 118, rfl⟩
abbrev main_call3_v8 : Ref sig .tc := ⟨.hbm, 119, rfl⟩
abbrev main_call3_c : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_0 : Ref sig .tc := ⟨.hbm, 124, rfl⟩
abbrev main_call3_v12 : Ref sig .tc := ⟨.hbm, 125, rfl⟩
abbrev main_call3_v13 : Ref sig .tc := ⟨.hbm, 126, rfl⟩
abbrev main_v53 : Ref sig .tc := ⟨.hbm, 127, rfl⟩
abbrev main_c_3 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_c : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_0 : Ref sig .tc := ⟨.hbm, 142, rfl⟩
abbrev main_call4_v12 : Ref sig .tc := ⟨.hbm, 143, rfl⟩
abbrev main_call4_v13 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_c_4 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_cst_5 : Ref sig .tc := ⟨.hbm, 156, rfl⟩
abbrev main_call5_v0 : Ref sig .tc := ⟨.hbm, 157, rfl⟩
abbrev main_call5_v1 : Ref sig .tc := ⟨.hbm, 158, rfl⟩
abbrev main_v64 : Ref sig .tc := ⟨.hbm, 159, rfl⟩
abbrev main_cst_6 : Ref sig .tc := ⟨.hbm, 160, rfl⟩
abbrev main_v65 : Ref sig .tc := ⟨.hbm, 161, rfl⟩
abbrev main_cst_7 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_cst_8 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩

abbrev nD : Nat := 1
abbrev τ : Topo := Topo.v7x

variable {F : FTy → Type} [FloatOps F]
-- ==== Projection.lean ====
abbrev S2x16384x1024 : Shape := ⟨3, ![2, 16384, 1024]⟩
abbrev S1024 : Shape := ⟨1, ![1024]⟩
abbrev S1024x6912 : Shape := ⟨2, ![1024, 6912]⟩
abbrev S1024x32 : Shape := ⟨2, ![1024, 32]⟩
abbrev S32768x1024 : Shape := ⟨2, ![32768, 1024]⟩
abbrev S1024x1024 : Shape := ⟨2, ![1024, 1024]⟩
abbrev S1024x512 : Shape := ⟨2, ![1024, 512]⟩
abbrev S512x1024 : Shape := ⟨2, ![512, 1024]⟩
abbrev S1024x3072 : Shape := ⟨2, ![1024, 3072]⟩
abbrev S1024x1792 : Shape := ⟨2, ![1024, 1792]⟩
abbrev S1024x1536 : Shape := ⟨2, ![1024, 1536]⟩
abbrev S1024x64 : Shape := ⟨2, ![1024, 64]⟩
abbrev S_ : Shape := ⟨0, ![]⟩
abbrev S1024x128 : Shape := ⟨2, ![1024, 128]⟩
abbrev S1024x2048 : Shape := ⟨2, ![1024, 2048]⟩
abbrev S1x1024 : Shape := ⟨2, ![1, 1024]⟩
abbrev S32768x512 : Shape := ⟨2, ![32768, 512]⟩
abbrev S128x4x2x128x256 : Shape := ⟨5, ![128, 4, 2, 128, 256]⟩
abbrev S32768x3072 : Shape := ⟨2, ![32768, 3072]⟩
abbrev S32768x2048 : Shape := ⟨2, ![32768, 2048]⟩
abbrev S128x1x512 : Shape := ⟨3, ![128, 1, 512]⟩
abbrev S256x1024 : Shape := ⟨2, ![256, 1024]⟩
abbrev S256x512 : Shape := ⟨2, ![256, 512]⟩
abbrev S1x4x2x128x256 : Shape := ⟨5, ![1, 4, 2, 128, 256]⟩
abbrev S256x3072 : Shape := ⟨2, ![256, 3072]⟩
abbrev S256x2048 : Shape := ⟨2, ![256, 2048]⟩
abbrev S1x1x512 : Shape := ⟨3, ![1, 1, 512]⟩
abbrev S256 : Shape := ⟨1, ![256]⟩
abbrev S256x1 : Shape := ⟨2, ![256, 1]⟩
abbrev S512x256 : Shape := ⟨2, ![512, 256]⟩
abbrev S128x1 : Shape := ⟨2, ![128, 1]⟩
abbrev S128x256 : Shape := ⟨2, ![128, 256]⟩
abbrev S1x1x1x128x256 : Shape := ⟨5, ![1, 1, 1, 128, 256]⟩
abbrev S512 : Shape := ⟨1, ![512]⟩
abbrev S1x512 : Shape := ⟨2, ![1, 512]⟩

abbrev nBuf : Space → Nat
  | .hbm => 38
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x6912, .f32⟩
  | .hbm, ⟨3, _⟩ => ⟨S1024x32, .f32⟩
  | .hbm, ⟨4, _⟩ => ⟨S32768x1024, .f32⟩
  | .hbm, ⟨5, _⟩ => ⟨S1024x1024, .f32⟩
  | .hbm, ⟨6, _⟩ => ⟨S1024x1024, .bf16⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024x3072, .f32⟩
  | .hbm, ⟨11, _⟩ => ⟨S1024x3072, .bf16⟩
  | .hbm, ⟨12, _⟩ => ⟨S1024x512, .f32⟩
  | .hbm, ⟨13, _⟩ => ⟨S1024x512, .bf16⟩
  | .hbm, ⟨14, _⟩ => ⟨S1024x1792, .f32⟩
  | .hbm, ⟨15, _⟩ => ⟨S1024x1536, .f32⟩
  | .hbm, ⟨16, _⟩ => ⟨S1024x64, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x64, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x2048, .f32⟩
  | .hbm, ⟨29, _⟩ => ⟨S1024x2048, .bf16⟩
  | .hbm, ⟨30, _⟩ => ⟨S1x1024, .f32⟩
  | .hbm, ⟨31, _⟩ => ⟨S32768x512, .bf16⟩
  | .hbm, ⟨32, _⟩ => ⟨S32768x512, .bf16⟩
  | .hbm, ⟨33, _⟩ => ⟨S128x4x2x128x256, .bf16⟩
  | .hbm, ⟨34, _⟩ => ⟨S32768x3072, .f32⟩
  | .hbm, ⟨35, _⟩ => ⟨S32768x512, .f32⟩
  | .hbm, ⟨36, _⟩ => ⟨S32768x2048, .f32⟩
  | .hbm, ⟨37, _⟩ => ⟨S128x1x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S1024x3072, .bf16⟩
  | .local _ .vmem, ⟨6, _⟩ => ⟨S1024x512, .bf16⟩
  | .local _ .vmem, ⟨7, _⟩ => ⟨S1024x2048, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x4x2x128x256, .bf16⟩
  | .local _ .vmem, ⟨13, _⟩ => ⟨S1x4x2x128x256, .bf16⟩
  | .local _ .vmem, ⟨14, _⟩ => ⟨S256x3072, .f32⟩
  | .local _ .vmem, ⟨15, _⟩ => ⟨S256x3072, .f32⟩
  | .local _ .vmem, ⟨16, _⟩ => ⟨S256x512, .f32⟩
  | .local _ .vmem, ⟨17, _⟩ => ⟨S256x512, .f32⟩
  | .local _ .vmem, ⟨18, _⟩ => ⟨S256x2048, .f32⟩
  | .local _ .vmem, ⟨19, _⟩ => ⟨S256x2048, .f32⟩
  | .local _ .vmem, ⟨20, _⟩ => ⟨S1x1x512, .f32⟩
  | .local _ .vmem, ⟨21, _⟩ => ⟨S1x1x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_call2_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev main_v21_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x2x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjectionIdeal.lean ====
variable {F : FTy → Type} [FloatOps F] [Named F]
def κ : String → Option EReal := fun
  | "scale" => some (((8 * (Real.log 2))⁻¹ : ℝ) : EReal)
  | _ => none
-- ==== ProjectionReferenceIdeal.lean ====
abbrev S2x16384x1024 : Shape := ⟨3, ![2, 16384, 1024]⟩
abbrev S1024 : Shape := ⟨1, ![1024]⟩
abbrev S1024x6912 : Shape := ⟨2, ![1024, 6912]⟩
abbrev S1024x32 : Shape := ⟨2, ![1024, 32]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x6944 : Shape := ⟨2, ![1024, 6944]⟩
abbrev S2x16384x6944 : Shape := ⟨3, ![2, 16384, 6944]⟩
abbrev S32768x6944 : Shape := ⟨2, ![32768, 6944]⟩
abbrev S32768x512 : Shape := ⟨2, ![32768, 512]⟩
abbrev S128x256x4x128 : Shape := ⟨4, ![128, 256, 4, 128]⟩
abbrev S128x4x128x256 : Shape := ⟨4, ![128, 4, 128, 256]⟩
abbrev S128 : Shape := ⟨1, ![128]⟩
abbrev S128x1 : Shape := ⟨2, ![128, 1]⟩
abbrev S128x4x1x128x256 : Shape := ⟨5, ![128, 4, 1, 128, 256]⟩
abbrev S128x4x2x128x256 : Shape := ⟨5, ![128, 4, 2, 128, 256]⟩
abbrev S32768x3072 : Shape := ⟨2, ![32768, 3072]⟩
abbrev S32768x1824 : Shape := ⟨2, ![32768, 1824]⟩
abbrev S32768x1536 : Shape := ⟨2, ![32768, 1536]⟩
abbrev S32768x64 : Shape := ⟨2, ![32768, 64]⟩
abbrev S32768x128 : Shape := ⟨2, ![32768, 128]⟩
abbrev S32768x32 : Shape := ⟨2, ![32768, 32]⟩
abbrev S32768x2048 : Shape := ⟨2, ![32768, 2048]⟩
abbrev S128x1x256x512 : Shape := ⟨4, ![128, 1, 256, 512]⟩
abbrev S128x1x512 : Shape := ⟨3, ![128, 1, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x6912, .f32⟩
  | .hbm, ⟨3, _⟩ => ⟨S1024x32, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S1024x6944, .f32⟩
  | .hbm, ⟨21, _⟩ => ⟨S2x16384x6944, .f32⟩
  | .hbm, ⟨22, _⟩ => ⟨S32768x6944, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S128x256x4x128, .f32⟩
  | .hbm, ⟨33, _⟩ => ⟨S128x4x128x256, .f32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S128x1, .i1⟩
  | .hbm, ⟨39, _⟩ => ⟨S_, .f32⟩
  | .hbm, ⟨40, _⟩ => ⟨S_, .f32⟩
  | .hbm, ⟨41, _⟩ => ⟨S128x4x128x256, .i1⟩
  | .hbm, ⟨42, _⟩ => ⟨S128x4x128x256, .f32⟩
  | .hbm, ⟨43, _⟩ => ⟨S128x4x128x256, .f32⟩
  | .hbm, ⟨44, _⟩ => ⟨S_, .f32⟩
  | .hbm, ⟨45, _⟩ => ⟨S_, .f32⟩
  | .hbm, ⟨46, _⟩ => ⟨S128x4x128x256, .i1⟩
  | .hbm, ⟨47, _⟩ => ⟨S128x4x128x256, .f32⟩
  | .hbm, ⟨48, _⟩ => ⟨S128x4x128x256, .f32⟩
  | .hbm, ⟨49, _⟩ => ⟨S128x4x1x128x256, .f32⟩
  | .hbm, ⟨50, _⟩ => ⟨S128x4x1x128x256, .f32⟩
  | .hbm, ⟨51, _⟩ => ⟨S128x4x2x128x256, .f32⟩
  | .hbm, ⟨52, _⟩ => ⟨S32768x3072, .f32⟩
  | .hbm, ⟨53, _⟩ => ⟨S32768x3072, .f32⟩
  | .hbm, ⟨54, _⟩ => ⟨S32768x3072, .f32⟩
  | .hbm, ⟨55, _⟩ => ⟨S_, .f32⟩
  | .hbm, ⟨56, _⟩ => ⟨S32768x3072, .f32⟩
  | .hbm, ⟨57, _⟩ => ⟨S32768x3072, .f32⟩
  | .hbm, ⟨58, _⟩ => ⟨S_, .f32⟩
  | .hbm, ⟨59, _⟩ => ⟨S32768x3072, .f32⟩
  | .hbm, ⟨60, _⟩ => ⟨S32768x3072, .f32⟩
  | .hbm, ⟨61, _⟩ => ⟨S32768x512, .f32⟩
  | .hbm, ⟨62, _⟩ => ⟨S32768x1824, .f32⟩
  | .hbm, ⟨63, _⟩ => ⟨S32768x1536, .f32⟩
  | .hbm, ⟨64, _⟩ => ⟨S32768x64, .f32⟩
  | .hbm, ⟨65, _⟩ => ⟨S_, .i32⟩
  | .hbm, ⟨66, _⟩ => ⟨S_, .f32⟩
  | .hbm, ⟨67, _⟩ => ⟨S32768x128, .f32⟩
  | .hbm, ⟨68, _⟩ => ⟨S32768x64, .f32⟩
  | .hbm, ⟨69, _⟩ => ⟨S_, .i32⟩
  | .hbm, ⟨70, _⟩ => ⟨S_, .f32⟩
  | .hbm, ⟨71, _⟩ => ⟨S32768x128, .f32⟩
  | .hbm, ⟨72, _⟩ => ⟨S32768x128, .f32⟩
  | .hbm, ⟨73, _⟩ => ⟨S32768x32, .f32⟩
  | .hbm, ⟨74, _⟩ => ⟨S_, .i32⟩
  | .hbm, ⟨75, _⟩ => ⟨S_, .f32⟩
  | .hbm, ⟨76, _⟩ => ⟨S32768x128, .f32⟩
  | .hbm, ⟨77, _⟩ => ⟨S32768x2048, .f32⟩
  | .hbm, ⟨78, _⟩ => ⟨S128x1x256x512, .f32⟩
  | .hbm, ⟨79, _⟩ => ⟨S_, .f32⟩
  | .hbm, ⟨80, _⟩ => ⟨S128x1x512, .f32⟩
  | .hbm, ⟨81, _⟩ => ⟨S_, .f32⟩
  | .hbm, ⟨82, _⟩ => ⟨S128x1x512, .f32⟩
  | .hbm, ⟨83, _⟩ => ⟨S128x1x512, .f32⟩
  | .hbm, ⟨84, _⟩ => ⟨S32768x512, .bf16⟩
  | .hbm, ⟨85, _⟩ => ⟨S32768x512, .bf16⟩
  | .hbm, ⟨86, _⟩ => ⟨S128x4x2x128x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_call2_v0 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_call3_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_call4_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Experts.lean ====
abbrev S32 : Shape := ⟨1, ![32]⟩
abbrev S69632x1024 : Shape := ⟨2, ![69632, 1024]⟩
abbrev S32x1024x512 : Shape := ⟨3, ![32, 1024, 512]⟩
abbrev S32x512x1024 : Shape := ⟨3, ![32, 512, 1024]⟩
abbrev S544 : Shape := ⟨1, ![544]⟩
abbrev S544x1 : Shape := ⟨2, ![544, 1]⟩
abbrev S_ : Shape := ⟨0, ![]⟩
abbrev S1x32 : Shape := ⟨2, ![1, 32]⟩
abbrev S544x32 : Shape := ⟨2, ![544, 32]⟩
abbrev S128x1024 : Shape := ⟨2, ![128, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S128x512 : Shape := ⟨2, ![128, 512]⟩
abbrev S512x1024 : Shape := ⟨2, ![512, 1024]⟩

abbrev nBuf : Space → Nat
  | .hbm => 23
  | .vmem => 10
  | .smem => 1
  | _ => 0

abbrev bufTy : (tb : Table) → Fin (tcTables nBuf tb) → BufTy
  | .hbm, ⟨0, _⟩ => ⟨S32, .i32⟩
  | .hbm, ⟨1, _⟩ => ⟨S69632x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S544, .i32⟩
  | .hbm, ⟨6, _⟩ => ⟨S544x1, .i32⟩
  | .hbm, ⟨7, _⟩ => ⟨S_, .i32⟩
  | .hbm, ⟨8, _⟩ => ⟨S544x1, .i32⟩
  | .hbm, ⟨9, _⟩ => ⟨S544x1, .i32⟩
  | .hbm, ⟨10, _⟩ => ⟨S1x32, .i32⟩
  | .hbm, ⟨11, _⟩ => ⟨S544x32, .i32⟩
  | .hbm, ⟨12, _⟩ => ⟨S544x32, .i32⟩
  | .hbm, ⟨13, _⟩ => ⟨S544x32, .i1⟩
  | .hbm, ⟨14, _⟩ => ⟨S544x32, .i32⟩
  | .hbm, ⟨15, _⟩ => ⟨S_, .i32⟩
  | .hbm, ⟨16, _⟩ => ⟨S544, .i32⟩
  | .hbm, ⟨17, _⟩ => ⟨S_, .i32⟩
  | .hbm, ⟨18, _⟩ => ⟨S544, .i32⟩
  | .hbm, ⟨19, _⟩ => ⟨S32x1024x512, .bf16⟩
  | .hbm, ⟨20, _⟩ => ⟨S32x1024x512, .bf16⟩
  | .hbm, ⟨21, _⟩ => ⟨S32x512x1024, .bf16⟩
  | .hbm, ⟨22, _⟩ => ⟨S69632x1024, .f32⟩
  | .local _ .vmem, ⟨0, _⟩ => ⟨S128x1024, .f32⟩
  | .local _ .vmem, ⟨1, _⟩ => ⟨S128x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S128x1024, .f32⟩
  | .local _ .vmem, ⟨9, _⟩ => ⟨S128x1024, .f32⟩
  | .local _ .smem, ⟨0, _⟩ => ⟨S544, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![544], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S32 : Shape := ⟨1, ![32]⟩
abbrev S69632x1024 : Shape := ⟨2, ![69632, 1024]⟩
abbrev S32x1024x512 : Shape := ⟨3, ![32, 1024, 512]⟩
abbrev S32x512x1024 : Shape := ⟨3, ![32, 512, 1024]⟩
abbrev S544 : Shape := ⟨1, ![544]⟩
abbrev S_ : Shape := ⟨0, ![]⟩
abbrev S1x32 : Shape := ⟨2, ![1, 32]⟩
abbrev S544x1 : Shape := ⟨2, ![544, 1]⟩
abbrev S544x32 : Shape := ⟨2, ![544, 32]⟩
abbrev S544x128x1024 : Shape := ⟨3, ![544, 128, 1024]⟩
abbrev S544x1024x512 : Shape := ⟨3, ![544, 1024, 512]⟩
abbrev S544x128x512 : Shape := ⟨3, ![544, 128, 512]⟩
abbrev S544x512x1024 : Shape := ⟨3, ![544, 512, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32, .i32⟩
  | .hbm, ⟨1, _⟩ => ⟨S69632x1024, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S544, .i32⟩
  | .hbm, ⟨6, _⟩ => ⟨S_, .i32⟩
  | .hbm, ⟨7, _⟩ => ⟨S544, .i32⟩
  | .hbm, ⟨8, _⟩ => ⟨S544, .i32⟩
  | .hbm, ⟨9, _⟩ => ⟨S1x32, .i32⟩
  | .hbm, ⟨10, _⟩ => ⟨S544x1, .i32⟩
  | .hbm, ⟨11, _⟩ => ⟨S544x32, .i32⟩
  | .hbm, ⟨12, _⟩ => ⟨S544x32, .i32⟩
  | .hbm, ⟨13, _⟩ => ⟨S544x32, .i1⟩
  | .hbm, ⟨14, _⟩ => ⟨S544x32, .i32⟩
  | .hbm, ⟨15, _⟩ => ⟨S_, .i32⟩
  | .hbm, ⟨16, _⟩ => ⟨S544, .i32⟩
  | .hbm, ⟨17, _⟩ => ⟨S_, .i32⟩
  | .hbm, ⟨18, _⟩ => ⟨S544, .i32⟩
  | .hbm, ⟨19, _⟩ => ⟨S544, .i32⟩
  | .hbm, ⟨20, _⟩ => ⟨S544x128x1024, .f32⟩
  | .hbm, ⟨21, _⟩ => ⟨S_, .i32⟩
  | .hbm, ⟨22, _⟩ => ⟨S544, .i32⟩
  | .hbm, ⟨23, _⟩ => ⟨S544, .i1⟩
  | .hbm, ⟨24, _⟩ => ⟨S_, .i32⟩
  | .hbm, ⟨25, _⟩ => ⟨S544, .i32⟩
  | .hbm, ⟨26, _⟩ => ⟨S544, .i32⟩
  | .hbm, ⟨27, _⟩ => ⟨S544, .i32⟩
  | .hbm, ⟨28, _⟩ => ⟨S544x1, .i32⟩
  | .hbm, ⟨29, _⟩ => ⟨S544x1024x512, .f32⟩
  | .hbm, ⟨30, _⟩ => ⟨S544x128x512, .f32⟩
  | .hbm, ⟨31, _⟩ => ⟨S544x128x512, .f32⟩
  | .hbm, ⟨32, _⟩ => ⟨S544x128x512, .f32⟩
  | .hbm, ⟨33, _⟩ => ⟨S_, .f32⟩
  | .hbm, ⟨34, _⟩ => ⟨S544x128x512, .f32⟩
  | .hbm, ⟨35, _⟩ => ⟨S544x128x512, .f32⟩
  | .hbm, ⟨36, _⟩ => ⟨S_, .f32⟩
  | .hbm, ⟨37, _⟩ => ⟨S544x128x512, .f32⟩
  | .hbm, ⟨38, _⟩ => ⟨S544x128x512, .f32⟩
  | .hbm, ⟨39, _⟩ => ⟨S544x128x512, .f32⟩
  | .hbm, ⟨40, _⟩ => ⟨S_, .i32⟩
  | .hbm, ⟨41, _⟩ => ⟨S544, .i32⟩
  | .hbm, ⟨42, _⟩ => ⟨S544, .i1⟩
  | .hbm, ⟨43, _⟩ => ⟨S_, .i32⟩
  | .hbm, ⟨44, _⟩ => ⟨S544, .i32⟩
  | .hbm, ⟨45, _⟩ => ⟨S544, .i32⟩
  | .hbm, ⟨46, _⟩ => ⟨S544, .i32⟩
  | .hbm, ⟨47, _⟩ => ⟨S544x1, .i32⟩
  | .hbm, ⟨48, _⟩ => ⟨S544x1024x512, .f32⟩
  | .hbm, ⟨49, _⟩ => ⟨S544x128x512, .f32⟩
  | .hbm, ⟨50, _⟩ => ⟨S544x128x512, .f32⟩
  | .hbm, ⟨51, _⟩ => ⟨S_, .i32⟩
  | .hbm, ⟨52, _⟩ => ⟨S544, .i32⟩
  | .hbm, ⟨53, _⟩ => ⟨S544, .i1⟩
  | .hbm, ⟨54, _⟩ => ⟨S_, .i32⟩
  | .hbm, ⟨55, _⟩ => ⟨S544, .i32⟩
  | .hbm, ⟨56, _⟩ => ⟨S544, .i32⟩
  | .hbm, ⟨57, _⟩ => ⟨S544, .i32⟩
  | .hbm, ⟨58, _⟩ => ⟨S544x1, .i32⟩
  | .hbm, ⟨59, _⟩ => ⟨S544x512x1024, .f32⟩
  | .hbm, ⟨60, _⟩ => ⟨S544x128x1024, .f32⟩
  | .hbm, ⟨61, _⟩ => ⟨S69632x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Combine.lean ====
abbrev S65536 : Shape := ⟨1, ![65536]⟩
abbrev S32768x1024 : Shape := ⟨2, ![32768, 1024]⟩
abbrev S32768x2 : Shape := ⟨2, ![32768, 2]⟩
abbrev S69632x1024 : Shape := ⟨2, ![69632, 1024]⟩
abbrev S1x1024 : Shape := ⟨2, ![1, 1024]⟩
abbrev S256x1024 : Shape := ⟨2, ![256, 1024]⟩
abbrev S256x2 : Shape := ⟨2, ![256, 2]⟩
abbrev S_ : Shape := ⟨0, ![]⟩
abbrev S1 : Shape := ⟨1, ![1]⟩
abbrev S256x1 : Shape := ⟨2, ![256, 1]⟩
abbrev S256 : Shape := ⟨1, ![256]⟩

abbrev nBuf : Space → Nat
  | .hbm => 5
  | .vmem => 9
  | .smem => 1
  | _ => 0

abbrev bufTy : (tb : Table) → Fin (tcTables nBuf tb) → BufTy
  | .hbm, ⟨0, _⟩ => ⟨S32768x1024, .f32⟩
  | .hbm, ⟨1, _⟩ => ⟨S32768x2, .f32⟩
  | .hbm, ⟨2, _⟩ => ⟨S69632x1024, .f32⟩
  | .hbm, ⟨3, _⟩ => ⟨S1x1024, .f32⟩
  | .hbm, ⟨4, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x2, .f32⟩
  | .local _ .vmem, ⟨3, _⟩ => ⟨S256x2, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .smem, ⟨0, _⟩ => ⟨S65536, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c256_i32_18 : BitVec 32 := 256#32
  let v28 : BitVec 32 := Scalar.muli arg0 c256_i32_18
  let c0_i32 : BitVec 32 := 0#32
  let c1_i32 : BitVec 32 := 1#32
  let arg10 : BitVec 32 := Scf.iv c0_i32 c1_i32 k0_t1
  let v29 : BitVec 32 := Scalar.addi v28 arg10
  let c2_i32 : BitVec 32 := 2#32
  let v30 : BitVec 32 := Scalar.muli v29 c2_i32
  let c0_i32_19 : BitVec 32 := 0#32
  let v31 : BitVec 32 := Scalar.addi v30 c0_i32_19
  let v32 : Index := Scalar.indexCast v31
  ![v32.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_20 : BitVec 32 := 0#32
  ![arg10.toNat, 0]
def k0_off3 (v33 : BitVec 32) : Fin 2 → Nat :=
  let c0_i32_21 : BitVec 32 := 0#32
  ![v33.toNat, 0]

def k0_chk1 (v33 : BitVec 32) : Prop :=
  (∀ a, (k0_off3 v33) a + S1x1024.size a ≤ S69632x1024.size a)
theorem k0_off3_inb : ∀ (v33 : BitVec 32) (k0_hw1 : k0_chk1 v33), ∀ a, (k0_off3 v33) a + S1x1024.size a ≤ S69632x1024.size a := fun v33 k0_hw1 => k0_hw1

def k0_off4 (i : grid0.Coords) (k0_t1 : Fin k0_t1_loop.trips) : Fin 1 → Nat :=
  let arg0 : BitVec 32 := BitVec.ofNat 32 (i 0).val
  let c256_i32_22 : BitVec 32 := 256#32
  let v36 : BitVec 32 := Scalar.muli arg0 c256_i32_22
  let c0_i32 : BitVec 32 := 0#32
  let c1_i32 : BitVec 32 := 1#32
  let arg10 : BitVec 32 := Scf.iv c0_i32 c1_i32 k0_t1
  let v37 : BitVec 32 := Scalar.addi v36 arg10
  let c2_i32_23 : BitVec 32 := 2#32
  let v38 : BitVec 32 := Scalar.muli v37 c2_i32_23
  let c1_i32_24 : BitVec 32 := 1#32
  let v39 : BitVec 32 := Scalar.addi v38 c1_i32_24
  let v40 : Index := Scalar.indexCast v39
  ![v40.toNat]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_25 : BitVec 32 := 0#32
  ![arg10.toNat, 0]
def k0_off6 (v41 : BitVec 32) : Fin 2 → Nat :=
  let c0_i32_26 : BitVec 32 := 0#32
  ![v41.toNat, 0]

def k0_chk2 (v41 : BitVec 32) : Prop :=
  (∀ a, (k0_off6 v41) a + S1x1024.size a ≤ S69632x1024.size a)
theorem k0_off6_inb : ∀ (v41 : BitVec 32) (k0_hw2 : k0_chk2 v41), ∀ a, (k0_off6 v41) a + S1x1024.size a ≤ S69632x1024.size a := fun v41 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c0_i32_18 : BitVec 32 := 0#32
  ![arg10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReferenceIdeal.lean ====
abbrev S65536 : Shape := ⟨1, ![65536]⟩
abbrev S32768x1024 : Shape := ⟨2, ![32768, 1024]⟩
abbrev S32768x2 : Shape := ⟨2, ![32768, 2]⟩
abbrev S69632x1024 : Shape := ⟨2, ![69632, 1024]⟩
abbrev S1x1024 : Shape := ⟨2, ![1, 1024]⟩
abbrev S_ : Shape := ⟨0, ![]⟩
abbrev S65536x1 : Shape := ⟨2, ![65536, 1]⟩
abbrev S65536x1024 : Shape := ⟨2, ![65536, 1024]⟩
abbrev S32768x2x1024 : Shape := ⟨3, ![32768, 2, 1024]⟩
abbrev S32768x2x1 : Shape := ⟨3, ![32768, 2, 1]⟩
abbrev S32768 : Shape := ⟨1, ![32768]⟩
abbrev S32768x1 : Shape := ⟨2, ![32768, 1]⟩

abbrev nBuf : Space → Nat
  | .hbm => 36
  | .vmem => 0
  | .smem => 0
  | _ => 0

abbrev bufTy : (tb : Table) → Fin (tcTables nBuf tb) → BufTy
  | .hbm, ⟨0, _⟩ => ⟨S65536, .i32⟩
  | .hbm, ⟨1, _⟩ => ⟨S32768x1024, .f32⟩
  | .hbm, ⟨2, _⟩ => ⟨S32768x2, .f32⟩
  | .hbm, ⟨3, _⟩ => ⟨S69632x1024, .f32⟩
  | .hbm, ⟨4, _⟩ => ⟨S1x1024, .f32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536x1024, .f32⟩
  | .hbm, ⟨14, _⟩ => ⟨S32768x2x1024, .f32⟩
  | .hbm, ⟨15, _⟩ => ⟨S32768x2x1, .f32⟩
  | .hbm, ⟨16, _⟩ => ⟨S32768x2x1024, .f32⟩
  | .hbm, ⟨17, _⟩ => ⟨S32768x2x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.Softmax.lean ====
/- The arithmetic of an online softmax over selected blocks, in powers of two: the weights, how a running sum is rescaled when
   the running shift moves, one step over a block and one over four, and the quotient that is left at the end. No program here. -/
module

public import Idealize.ShloMosaic.Lib.Pointwise

@[expose] public section

noncomputable section

open Idealize.ShloMosaic
open scoped Classical

namespace Attn

/-- The weight of one key with score `z` (in powers of two) under the shift `μ`: `2 ^ (z - μ)`, and nothing if the key is masked. -/
def wt (P : Prop) (z μ : ℝ) : EReal := if P then ((Real.rpow 2 (z - μ) : ℝ) : EReal) else 0

/-- What a set of keys adds to a weighted sum of the values `V`. -/
def part {ι : Type} [Fintype ι] (P : ι → Prop) (z : ι → ℝ) (V : ι → EReal) (μ : ℝ) : EReal := ∑ κ, V κ * wt (P κ) (z κ) μ

theorem rpow2_add (x y : ℝ) : Real.rpow 2 (x + y) = Real.rpow 2 x * Real.rpow 2 y := Real.rpow_add (by norm_num) x y

theorem rpow2_pos (x : ℝ) : 0 < Real.rpow 2 x := Real.rpow_pos_of_pos (by norm_num) x

theorem wt_scale (P : Prop) (z μ μ' : ℝ) : wt P z μ * Ideal.exp2 ((μ : EReal) - (μ' : EReal)) = wt P z μ' := by
  unfold wt
  split_ifs
  · rw [← EReal.coe_sub, Ideal.exp2_coe, ← EReal.coe_mul, ← rpow2_add]
    congr 2; ring
  · simp

theorem exp2_nonneg (x : EReal) : 0 ≤ Ideal.exp2 x := by
  induction x with
  | bot => simp
  | top => simp
  | coe r => simpa using EReal.coe_nonneg.2 (rpow2_pos r).le

theorem exp2_sub_ne_top (μ μ' : ℝ) : Ideal.exp2 ((μ : EReal) - (μ' : EReal)) ≠ ⊤ := by
  rw [← EReal.coe_sub, Ideal.exp2_coe]; exact EReal.coe_ne_top _

theorem sum_mul_real {ι : Type} (s : Finset ι) (f : ι → EReal) {x : EReal} (h0 : 0 ≤ x) (h1 : x ≠ ⊤) :
    (∑ κ ∈ s, f κ) * x = ∑ κ ∈ s, f κ * x := by
  classical
  induction s using Finset.induction_on with
  | empty => simp
  | insert a s ha ih => rw [Finset.sum_insert ha, Finset.sum_insert ha, EReal.right_distrib_of_nonneg_of_ne_top h0 h1, ih]

theorem part_scale {ι : Type} [Fintype ι] (P : ι → Prop) (z : ι → ℝ) (V : ι → EReal) (μ μ' : ℝ) :
    part P z V μ * Ideal.exp2 ((μ : EReal) - (μ' : EReal)) = part P z V μ' := by
  unfold part
  rw [sum_mul_real _ _ (exp2_nonneg _) (exp2_sub_ne_top _ _)]
  exact Finset.sum_congr rfl fun κ _ => by rw [mul_assoc, wt_scale]

/-- The running sum after the own block and the first `J` blocks of the past. -/
def acc {ι : Type} [Fintype ι] (Po : ι → Prop) (zo : ι → ℝ) (Vo : ι → EReal) (P : ℕ → Prop) (z : ℕ → ι → ℝ) (V : ℕ → ι → EReal)
    (J : ℕ) (μ : ℝ) : EReal :=
  part Po zo Vo μ + ∑ b ∈ Finset.range J, part (fun _ => P b) (z b) (V b) μ

section
variable {ι : Type} [Fintype ι] (Po : ι → Prop) (zo : ι → ℝ) (Vo : ι → EReal) (P : ℕ → Prop) (z : ℕ → ι → ℝ) (V : ℕ → ι → EReal)

theorem acc_zero (μ : ℝ) : acc Po zo Vo P z V 0 μ = part Po zo Vo μ := by simp [acc]

theorem acc_succ (J : ℕ) (μ : ℝ) :
    acc Po zo Vo P z V (J + 1) μ = acc Po zo Vo P z V J μ + part (fun _ => P J) (z J) (V J) μ := by
  simp [acc, Finset.sum_range_succ, add_assoc]

theorem acc_scale (J : ℕ) (μ μ' : ℝ) :
    acc Po zo Vo P z V J μ * Ideal.exp2 ((μ : EReal) - (μ' : EReal)) = acc Po zo Vo P z V J μ' := by
  unfold acc
  rw [EReal.right_distrib_of_nonneg_of_ne_top (exp2_nonneg _) (exp2_sub_ne_top _ _), part_scale,
    sum_mul_real _ _ (exp2_nonneg _) (exp2_sub_ne_top _ _)]
  congr 1
  exact Finset.sum_congr rfl fun b _ => part_scale _ _ _ _ _

end

/-- The largest score of a block. -/
def top {n : ℕ} (S : Fin n → EReal) : EReal := Finset.fold max ⊥ S Finset.univ

theorem top_ne_top {n : ℕ} (S : Fin n → EReal) (s : Fin n → ℝ) (h : ∀ κ, S κ = s κ) : top S ≠ ⊤ := by
  refine ne_of_lt ?_
  unfold top
  rw [Finset.fold_max_lt]
  exact ⟨bot_lt_top, fun x _ => by rw [h]; exact EReal.coe_lt_top _⟩

/-- A block's score to compare with: its largest if the block is chosen. -/
def best (P : Prop) {n : ℕ} (S : Fin n → EReal) : EReal := if P then top S else ⊥

theorem best_ne_top (P : Prop) {n : ℕ} (S : Fin n → EReal) (s : Fin n → ℝ) (h : ∀ κ, S κ = s κ) : best P S ≠ ⊤ := by
  unfold best; split_ifs
  · exact top_ne_top S s h
  · exact bot_ne_top

/-- A score's weight as the kernel takes it: the shift is `⊤` where the block isn't chosen. -/
def pw (P : Prop) (s c0 m' : EReal) : EReal := Ideal.exp2 (s - if P then m' - c0 else ⊤)

theorem pw_eq (P : Prop) (s c μ' : ℝ) : pw P (s : EReal) (c : EReal) (μ' : EReal) = wt P (s + c) μ' := by
  unfold pw wt
  split_ifs
  · rw [← EReal.coe_sub, ← EReal.coe_sub, Ideal.exp2_coe]
    congr 2; ring
  · rw [sub_eq_add_neg, EReal.neg_top, EReal.add_bot, Ideal.exp2_bot]

theorem max_real (μ c : ℝ) (x : EReal) (h : x ≠ ⊤) : ∃ μ' : ℝ, max (μ : EReal) (x + (c : EReal)) = μ' := by
  induction x with
  | bot => exact ⟨μ, by simp⟩
  | top => exact absurd rfl h
  | coe r => exact ⟨max μ (r + c), by rw [← EReal.coe_add]; exact (EReal.coe_strictMono.monotone.map_max (a := μ) (b := r + c)).symm⟩

theorem sum_pw (P : Prop) {n : ℕ} (S : Fin n → EReal) (s : Fin n → ℝ) (h : ∀ κ, S κ = s κ) (V : Fin n → EReal) (c μ' : ℝ) :
    ∑ κ, V κ * pw P (S κ) (c : EReal) (μ' : EReal) = part (fun _ => P) (fun κ => s κ + c) V μ' :=
  Finset.sum_congr rfl fun κ _ => by rw [h, pw_eq]

/-- The quotient at the end doesn't depend on the shift, and is the average with normalised weights. -/
theorem part_pos {ι : Type} [Fintype ι] (P : ι → Prop) (z : ι → ℝ) (μ : ℝ) (k : ι) (hk : P k) :
    ∃ d : ℝ, 0 < d ∧ part P z (fun _ => 1) μ = d := by
  refine ⟨∑ κ, if P κ then Real.rpow 2 (z κ - μ) else 0, ?_, ?_⟩
  · refine Finset.sum_pos' (fun κ _ => ?_) ⟨k, Finset.mem_univ _, ?_⟩
    · split_ifs
      · exact (rpow2_pos _).le
      · exact le_rfl
    · rw [if_pos hk]; exact rpow2_pos _
  · unfold part
    have : ∀ s : Finset ι, ∑ κ ∈ s, (1 : EReal) * wt (P κ) (z κ) μ = ((∑ κ ∈ s, if P κ then Real.rpow 2 (z κ - μ) else 0 : ℝ) : EReal) := by
      intro s
      classical
      induction s using Finset.induction_on with
      | empty => simp
      | insert a s ha ih =>
        rw [Finset.sum_insert ha, Finset.sum_insert ha, EReal.coe_add, ih, one_mul]
        congr 1
        unfold wt; split_ifs <;> simp
    exact this _

theorem div_real (x : EReal) {d : ℝ} (hd : 0 < d) : Ideal.div x d = x * ((d⁻¹ : ℝ) : EReal) := by
  unfold Ideal.div
  rw [if_neg (by exact_mod_cast hd.ne'), EReal.coe_inv]

theorem quotient_shift {ι : Type} [Fintype ι] (P : ι → Prop) (z : ι → ℝ) (V : ι → EReal) (k : ι) (hk : P k) (μ ν : ℝ) :
    Ideal.div (part P z V μ) (part P z (fun _ => 1) μ) = ∑ κ, Ideal.div (wt (P κ) (z κ) ν) (part P z (fun _ => 1) ν) * V κ := by
  obtain ⟨d, hd, hd'⟩ := part_pos P z ν k hk
  have hs : 0 < Real.rpow 2 (ν - μ) := rpow2_pos _
  rw [← part_scale P z V ν μ, ← part_scale P z (fun _ => 1) ν μ, hd', ← EReal.coe_sub, Ideal.exp2_coe, ← EReal.coe_mul,
    div_real _ (mul_pos hd hs)]
  have e : (part P z V ν * ((Real.rpow 2 (ν - μ) : ℝ) : EReal)) * (((d * Real.rpow 2 (ν - μ))⁻¹ : ℝ) : EReal) = part P z V ν * ((d⁻¹ : ℝ) : EReal) := by
    rw [mul_assoc, ← EReal.coe_mul]
    congr 2
    field_simp
  rw [e]
  unfold part
  rw [sum_mul_real _ _ (EReal.coe_nonneg.2 (inv_pos.2 hd).le) (EReal.coe_ne_top _)]
  refine Finset.sum_congr rfl fun κ _ => ?_
  rw [div_real _ hd, mul_comm (V κ), mul_assoc, mul_assoc, mul_comm (V κ)]

end Attn

end
-- ==== Proof.Quotient.lean ====
/- The running sum over the own block and the blocks before it is one weighted sum over all keys, and its quotient the softmax average. -/
module

public import proofs.«01_k».proof.Proof.Softmax

@[expose] public section

noncomputable section

open Idealize.ShloMosaic
open scoped Classical

namespace Attn

/-- The keys a query attends to: those up to it in its own block, and those of the blocks it chose before. -/
def Attended (n : ℕ) (Po : Fin 256 → Prop) (P : ℕ → Prop) (k : Fin 64 × Fin 256) : Prop := (k.1.val = n ∧ Po k.2) ∨ (k.1.val < n ∧ P k.1.val)

theorem acc_all (n : ℕ) (hn : n < 64) (Po : Fin 256 → Prop) (P : ℕ → Prop) (z : ℕ → Fin 256 → ℝ) (V : ℕ → Fin 256 → EReal) (μ : ℝ) :
    acc Po (z n) (V n) P z V n μ = part (Attended n Po P) (fun k => z k.1.val k.2) (fun k => V k.1.val k.2) μ := by
  let f : ℕ → EReal := fun b => if b = n then part Po (z n) (V n) μ else if b < n then part (fun _ => P b) (z b) (V b) μ else 0
  have h1 : part (Attended n Po P) (fun k => z k.1.val k.2) (fun k => V k.1.val k.2) μ = ∑ b : Fin 64, f b.val := by
    unfold part
    rw [Fintype.sum_prod_type]
    refine Finset.sum_congr rfl fun b _ => ?_
    show _ = if b.val = n then _ else if b.val < n then _ else _
    by_cases hb : b.val = n
    · rw [if_pos hb]
      refine Finset.sum_congr rfl fun κ _ => ?_
      have : Attended n Po P (b, κ) = Po κ := by unfold Attended; simp [hb]
      rw [this]; simp only [hb]
    · rw [if_neg hb]
      by_cases hl : b.val < n
      · rw [if_pos hl]
        refine Finset.sum_congr rfl fun κ _ => ?_
        have : Attended n Po P (b, κ) = P b.val := by unfold Attended; simp [hb, hl]
        rw [this]
      · rw [if_neg hl]
        refine Finset.sum_eq_zero fun κ _ => ?_
        have : Attended n Po P (b, κ) = False := by unfold Attended; simp [hb, hl]
        rw [this, wt, if_neg id, mul_zero]
  have h2 : acc Po (z n) (V n) P z V n μ = ∑ b ∈ Finset.range (n + 1), f b := by
    rw [Finset.sum_range_succ, add_comm]
    unfold acc
    refine congrArg₂ (· + ·) (if_pos rfl).symm (Finset.sum_congr rfl fun b hb => ?_)
    have := Finset.mem_range.1 hb
    show _ = if b = n then _ else if b < n then _ else _
    rw [if_neg (by omega), if_pos this]
  rw [h1, h2, Fin.sum_univ_eq_sum_range f 64]
  refine Finset.sum_subset (Finset.range_subset_range.2 (by omega)) fun b _ hb => ?_
  have := mt Finset.mem_range.2 hb
  show (if b = n then _ else if b < n then _ else _) = _
  rw [if_neg (by omega), if_neg (by omega)]

/-- The quotient of two running sums, the second of ones, is the average under normalised weights, whatever shift these are taken at. -/
theorem average (n : ℕ) (hn : n < 64) (Po : Fin 256 → Prop) (P : ℕ → Prop) (z : ℕ → Fin 256 → ℝ) (V O : ℕ → Fin 256 → EReal) (hO : ∀ b : Fin 64, ∀ κ, O b.val κ = 1) (q : Fin 256) (hq : Po q) (μ ν : ℝ) :
    Ideal.div (acc Po (z n) (V n) P z V n μ) (acc Po (z n) (O n) P z O n μ)
      = ∑ k : Fin 64 × Fin 256, Ideal.div (wt (Attended n Po P k) (z k.1.val k.2) ν) (∑ l : Fin 64 × Fin 256, wt (Attended n Po P l) (z l.1.val l.2) ν) * V k.1.val k.2 := by
  rw [acc_all n hn, acc_all n hn, show (fun k : Fin 64 × Fin 256 => O k.1.val k.2) = fun _ => 1 from funext fun k => hO k.1 k.2]
  rw [quotient_shift (Attended n Po P) (fun k : Fin 64 × Fin 256 => z k.1.val k.2) (fun k => V k.1.val k.2) (⟨n, hn⟩, q) (Or.inl ⟨rfl, hq⟩) μ ν]
  refine Finset.sum_congr rfl fun k _ => congrArg (fun d => Ideal.div _ d * _) ?_
  unfold part
  exact Finset.sum_congr rfl fun l _ => one_mul _

end Attn
-- ==== Proof.Spec.lean ====
/- The attention, in numbers: queries, keys, values, slopes and lists of blocks as functions of row and lane, and what the
   attention gives at one query of one head. -/
module

public import proofs.«01_k».proof.Proof.Quotient

@[expose] public section

noncomputable section

open Idealize.ShloMosaic
open scoped Classical

namespace Attn

/-- Head `H`'s product of the query in row `r` with the key in row `k`. -/
def product (Q K : ℕ → ℕ → ℝ) (H r k : ℕ) : ℝ := ∑ d : Fin 64, Q r (64 * H + d.val) * K k (64 * H + d.val)

/-- Whether head `H` of batch `a` lists block `b` for the query at position `pos`: the head's three rows of the lists. -/
def chosen (I : ℕ → ℕ → ℕ → BitVec 32) (a H pos b : ℕ) : Prop :=
  I (4 * a + H / 2) (3 * (H % 2)) pos = BitVec.ofNat 32 b ∨ I (4 * a + H / 2) (3 * (H % 2) + 1) pos = BitVec.ofNat 32 b
    ∨ I (4 * a + H / 2) (3 * (H % 2) + 2) pos = BitVec.ofNat 32 b

/-- The exponent (to base two) of key `κ` of block `b` for query `q` of block `n`, up to what depends on the query alone. -/
def power (Q K : ℕ → ℕ → ℝ) (A : ℕ → ℝ) (a n q H b : ℕ) (κ : Fin 256) : ℝ :=
  product Q K H (16384 * a + 256 * n + q) (16384 * a + 256 * b + κ.val) * (1 / 8 * (Real.log 2)⁻¹)
    + A H * (Real.log 2)⁻¹ * (256 * ((b : ℝ) - n) + κ.val)

/-- The weight of a key. -/
def weight (Q K : ℕ → ℕ → ℝ) (A : ℕ → ℝ) (I : ℕ → ℕ → ℕ → BitVec 32) (a n q H : ℕ) (ν : ℝ) (k : Fin 64 × Fin 256) : EReal :=
  wt (Attended n (fun κ => κ.val ≤ q) (chosen I a H (256 * n + q)) k) (power Q K A a n q H k.1.val k.2) ν

/-- Lane `d` of head `H`'s attention for query `q` of block `n`: the values averaged by the weights. -/
def attention (Q K : ℕ → ℕ → ℝ) (W : ℕ → ℕ → EReal) (A : ℕ → ℝ) (I : ℕ → ℕ → ℕ → BitVec 32) (a n q H d : ℕ) (ν : ℝ) : EReal :=
  ∑ k : Fin 64 × Fin 256, Ideal.div (weight Q K A I a n q H ν k) (∑ l : Fin 64 × Fin 256, weight Q K A I a n q H ν l)
    * W (16384 * a + 256 * k.1.val + k.2.val) (64 * H + d)

end Attn

end
-- ==== Proof.Columns.lean ====
/- Writing one column at a time into an array, read at an index: each `.at[…, c].set(v)` of the host code puts `v` in
   column `c` and leaves the other columns alone. -/
module

public import proofs.«01_k».proof.Proof.Gen.KernelIdeal.Frame.Runs
public import Idealize.ShloMosaic.Lib.Routing.OpsOne
public import Idealize.ShloMosaic.Lib.Pipeline.ValueKit

@[expose] public section

set_option maxRecDepth 16384

noncomputable section

open Idealize.ShloMosaic Idealize.ShloMosaic.TcCoe Idealize.SL.Sem Idealize.ShloMosaic.Routing
open scoped Classical

namespace Cert.KernelIdeal.Value

open Cert.KernelIdeal Cert.KernelIdeal.Gen

/-- The column number `w`, as the scatter's index vector. -/
def column (w : BitVec 32) : IVec S1 32 := broadcastInDim S1 ![] bcast_S_S1 (constantI S_ 32 w)

/-- `x` with `v` written down its column `w`. -/
def setCol (x : FVec Ideal S1024x128 .f32) (w : BitVec 32) (v : FVec Ideal S1024 .f32) : FVec Ideal S1024x128 .f32 :=
  Host.scatter scatter_S1024x128_S1_S1024_0_1_1_0 (fun _ b => b) x (column w) v

/-- `x` with `v` written along column `w` of its last axis. -/
def setLast (x : FVec Ideal S4x2x256x128 .f32) (w : BitVec 32) (v : FVec Ideal S4x2x256 .f32) : FVec Ideal S4x2x256x128 .f32 :=
  Host.scatter scatter_S4x2x256x128_S1_S4x2x256_012_3_3_0 (fun _ b => b) x (column w) v

theorem lands_row (w : BitVec 32) (e r : Fin 1024) (j : Fin 128) :
    scatter_S1024x128_S1_S1024_0_1_1_0.resultIdx? (ix1 e) (column w) = some (ix2 r j) ↔ e.val = r.val ∧ w.toInt = j.val := by
  have h0 : scatter_S1024x128_S1_S1024_0_1_1_0.start (ix1 e) (column w) 0 = 0 := rfl
  have h1 : scatter_S1024x128_S1_S1024_0_1_1_0.start (ix1 e) (column w) 1 = w.toInt := rfl
  have k0 : scatter_S1024x128_S1_S1024_0_1_1_0.window (ix1 e) 0 = e.val := rfl
  have k1 : scatter_S1024x128_S1_S1024_0_1_1_0.window (ix1 e) 1 = 0 := rfl
  refine (resultIdx?_ix2 _ _ _ _ _).trans ?_
  rw [h0, h1, k0, k1]
  omega

theorem lands_last (w : BitVec 32) (a a' : Fin 4) (b b' : Fin 2) (e e' : Fin 256) (j : Fin 128) :
    scatter_S4x2x256x128_S1_S4x2x256_012_3_3_0.resultIdx? (ix3 a b e) (column w) = some (ix4 a' b' e' j)
      ↔ (a.val = a'.val ∧ b.val = b'.val ∧ e.val = e'.val) ∧ w.toInt = j.val := by
  have h0 : scatter_S4x2x256x128_S1_S4x2x256_012_3_3_0.start (ix3 a b e) (column w) 0 = 0 := rfl
  have h1 : scatter_S4x2x256x128_S1_S4x2x256_012_3_3_0.start (ix3 a b e) (column w) 1 = 0 := rfl
  have h2 : scatter_S4x2x256x128_S1_S4x2x256_012_3_3_0.start (ix3 a b e) (column w) 2 = 0 := rfl
  have h3 : scatter_S4x2x256x128_S1_S4x2x256_012_3_3_0.start (ix3 a b e) (column w) 3 = w.toInt := rfl
  have k0 : scatter_S4x2x256x128_S1_S4x2x256_012_3_3_0.window (ix3 a b e) 0 = a.val := rfl
  have k1 : scatter_S4x2x256x128_S1_S4x2x256_012_3_3_0.window (ix3 a b e) 1 = b.val := rfl
  have k2 : scatter_S4x2x256x128_S1_S4x2x256_012_3_3_0.window (ix3 a b e) 2 = e.val := rfl
  have k3 : scatter_S4x2x256x128_S1_S4x2x256_012_3_3_0.window (ix3 a b e) 3 = 0 := rfl
  rw [resultIdx?_eq_some]
  constructor
  · intro h
    have g0 := h 0
    have g1 := h 1
    have g2 := h 2
    have g3 := h 3
    rw [h0, k0] at g0
    rw [h1, k1] at g1
    rw [h2, k2] at g2
    rw [h3, k3] at g3
    change (0 : ℤ) + (a.val : ℤ) = (a'.val : ℤ) at g0
    change (0 : ℤ) + (b.val : ℤ) = (b'.val : ℤ) at g1
    change (0 : ℤ) + (e.val : ℤ) = (e'.val : ℤ) at g2
    change w.toInt + ((0 : ℕ) : ℤ) = (j.val : ℤ) at g3
    omega
  · rintro ⟨⟨ha, hb, he⟩, hw⟩ x
    match x with
    | ⟨0, _⟩ => rw [show (⟨0, _⟩ : Fin 4) = 0 from rfl, h0, k0, ha]; exact zero_add _
    | ⟨1, _⟩ => rw [show (⟨1, _⟩ : Fin 4) = 1 from rfl, h1, k1, hb]; exact zero_add _
    | ⟨2, _⟩ => rw [show (⟨2, _⟩ : Fin 4) = 2 from rfl, h2, k2, he]; exact zero_add _
    | ⟨3, _⟩ => rw [show (⟨3, _⟩ : Fin 4) = 3 from rfl, h3, k3, hw]; exact add_zero _

theorem setCol_at (x : FVec Ideal S1024x128 .f32) (w : BitVec 32) (v : FVec Ideal S1024 .f32) (r : Fin 1024) (j : Fin 128) :
    setCol x w v (ix2 r j) = if w.toInt = j.val then v (ix1 r) else x (ix2 r j) := by
  by_cases h : w.toInt = j.val
  · rw [if_pos h]
    refine scatter_set_hit _ _ _ _ _ _ (fun k hk => ?_) (ix1 r) ((lands_row w r r j).2 ⟨rfl, h⟩)
    obtain ⟨e, rfl⟩ : ∃ e : Fin 1024, k = ix1 e := ⟨k 0, eq_ix1 k⟩
    rw [Fin.ext ((lands_row w e r j).1 hk).1]
  · rw [if_neg h]
    refine scatter_set_miss _ _ _ _ _ fun k hk => ?_
    obtain ⟨e, rfl⟩ : ∃ e : Fin 1024, k = ix1 e := ⟨k 0, eq_ix1 k⟩
    exact h ((lands_row w e r j).1 hk).2

theorem setLast_at (x : FVec Ideal S4x2x256x128 .f32) (w : BitVec 32) (v : FVec Ideal S4x2x256 .f32) (a : Fin 4) (b : Fin 2) (e : Fin 256) (j : Fin 128) :
    setLast x w v (ix4 a b e j) = if w.toInt = j.val then v (ix3 a b e) else x (ix4 a b e j) := by
  by_cases h : w.toInt = j.val
  · rw [if_pos h]
    refine scatter_set_hit _ _ _ _ _ _ (fun k hk => ?_) (ix3 a b e) ((lands_last w a a b b e e j).2 ⟨⟨rfl, rfl, rfl⟩, h⟩)
    obtain ⟨a', b', e', rfl⟩ : ∃ (a' : Fin 4) (b' : Fin 2) (e' : Fin 256), k = ix3 a' b' e' := ⟨k 0, k 1, k 2, eq_ix3 k⟩
    have q := ((lands_last w a' a b' b e' e j).1 hk).1
    rw [Fin.ext q.1, Fin.ext q.2.1, Fin.ext q.2.2]
  · rw [if_neg h]
    refine scatter_set_miss _ _ _ _ _ fun k hk => ?_
    obtain ⟨a', b', e', rfl⟩ : ∃ (a' : Fin 4) (b' : Fin 2) (e' : Fin 256), k = ix3 a' b' e' := ⟨k 0, k 1, k 2, eq_ix3 k⟩
    exact h ((lands_last w a' a b' b e' e j).1 hk).2

end Cert.KernelIdeal.Value

end
-- ==== Proof.Steps.lean ====
/- What one trip of the kernel's two loops stores, element by element: the new running maximum and the new running sum of a head,
   for a trip over four blocks of the past and for a trip over one. -/
module

public import proofs.«01_k».proof.Proof.Gen.KernelIdeal.Loops
public import Idealize.ShloMosaic.Lib.Pipeline.ValueKit
public import proofs.«01_k».proof.Proof.Softmax

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

/-- A query's three chosen blocks hold block `w`. -/
def Sel (x0 x1 x2 w : BitVec 32) : Prop := x0 = w ∨ x1 = w ∨ x2 = w

theorem bit_or (a b : BitVec 1) : (IntOp.ori a b = 1#1) = (a = 1#1 ∨ b = 1#1) := by
  revert a b; decide

theorem select_sel (x0 x1 x2 w : BitVec 32) (a b : EReal) :
    Scalar.select (IntOp.ori (IntOp.ori (IntOp.cmpi CmpIPredicate.eq x0 w) (IntOp.cmpi CmpIPredicate.eq x1 w)) (IntOp.cmpi CmpIPredicate.eq x2 w)) a b
      = if Sel x0 x1 x2 w then a else b := by
  have hc : ∀ x y : BitVec 32, (IntOp.cmpi CmpIPredicate.eq x y = 1#1) = (x = y) := by
    intro x y
    unfold IntOp.cmpi
    by_cases h : x = y
    · simp [h]
    · have : (x == y) = false := by simp [h]
      simp [h, this]
  refine if_congr (iff_of_eq ?_) rfl rfl
  change (_ = 1#1) = _
  rw [bit_or, bit_or, hc, hc, hc, or_assoc]
  rfl

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem exp2_def (x : EReal) : (FloatOps.exp2 (F := Ideal) (φ := .f32) x : EReal) = Ideal.exp2 x := rfl

/-- A sum over 1024 places by its four quarters. -/
theorem sum_quarters (f : Fin 1024 → EReal) :
    ∑ x, f x = ∑ κ : Fin 256, f ⟨κ.val, by omega⟩ + ∑ κ : Fin 256, f ⟨256 + κ.val, by omega⟩ + ∑ κ : Fin 256, f ⟨512 + κ.val, by omega⟩
      + ∑ κ : Fin 256, f ⟨768 + κ.val, by omega⟩ := by
  have h := Fin.sum_univ_add (M := EReal) (a := 512) (b := 512) f
  have h1 := Fin.sum_univ_add (M := EReal) (a := 256) (b := 256) fun x => f (Fin.castAdd 512 x)
  have h2 := Fin.sum_univ_add (M := EReal) (a := 256) (b := 256) fun x => f (Fin.natAdd 512 x)
  rw [h, h1, h2, ← add_assoc]
  refine congrArg₂ (· + ·) (congrArg₂ (· + ·) rfl ?_) ?_
  · exact Finset.sum_congr rfl fun x _ => congrArg f (Fin.ext (by simp <;> omega))
  · exact Finset.sum_congr rfl fun x _ => congrArg f (Fin.ext (by simp <;> omega))

/-- Four pieces of 256 places side by side. -/
def quart (f0 f1 f2 f3 : Fin 256 → EReal) (z : Fin 1024) : EReal :=
  if h : z.val < 256 then f0 ⟨z.val, h⟩ else if h : z.val - 256 < 256 then f1 ⟨z.val - 256, h⟩
    else if h : z.val - 256 - 256 < 256 then f2 ⟨z.val - 256 - 256, h⟩ else f3 ⟨z.val - 256 - 256 - 256, by omega⟩

section quart
variable (f0 f1 f2 f3 : Fin 256 → EReal) (κ : Fin 256)

theorem quart0 : quart f0 f1 f2 f3 ⟨κ.val, by omega⟩ = f0 κ := by
  unfold quart; rw [dif_pos κ.isLt]

theorem quart1 : quart f0 f1 f2 f3 ⟨256 + κ.val, by omega⟩ = f1 κ := by
  unfold quart
  rw [dif_neg (by dsimp only; omega), dif_pos (by dsimp only; omega)]
  exact congrArg f1 (Fin.ext (by dsimp only; omega))

theorem quart2 : quart f0 f1 f2 f3 ⟨512 + κ.val, by omega⟩ = f2 κ := by
  unfold quart
  rw [dif_neg (by dsimp only; omega), dif_neg (by dsimp only; omega), dif_pos (by dsimp only; omega)]
  exact congrArg f2 (Fin.ext (by dsimp only; omega))

theorem quart3 : quart f0 f1 f2 f3 ⟨768 + κ.val, by omega⟩ = f3 κ := by
  unfold quart
  rw [dif_neg (by dsimp only; omega), dif_neg (by dsimp only; omega), dif_neg (by dsimp only; omega)]
  exact congrArg f3 (Fin.ext (by dsimp only; omega))

end quart

section tail
variable (i : grid0.Coords) (v24 : IVec S8x256 32) (a2 w w1 : BitVec 32) (k : Fin (k0_t3_loop i).trips)
  (S : FVec Ideal S256x256 .f32) (x y : Vec Ideal S1x1x1x1 .bf16) (m : Vec Ideal S1x1x256 .f32) (a : Vec Ideal S1x128x256 .f32)
  (v : Vec Ideal S1x1x1x128x256 .bf16) (r : Fin 128) (q : Fin 256)

/-- The new maximum of a trip over one block: the old one, or the block's where it is chosen. -/
abbrev max1 (P : Prop) (S : Fin 256 → EReal) (c0 m : EReal) : EReal := max m (best P S + c0)

/-- The new sum of a trip over one block. -/
abbrev sum1 (P : Prop) (S : Fin 256 → EReal) (c0 m a : EReal) (v : Fin 256 → EReal) : EReal :=
  a * Ideal.exp2 (m - max1 P S c0 m) + ∑ κ, v κ * pw P (S κ) c0 (max1 P S c0 m)

/-- The bias of the block's first key: the head's slope times its distance to the query block's first row. -/
abbrev bias (x y : Vec Ideal S1x1x1x1 .bf16) (j a2 : BitVec 32) : EReal :=
  (x (ix4 0 0 0 0) + y (ix4 0 0 0 0)) * (((Scalar.muli (Scalar.subi j a2) 256#32).toInt : ℝ) : EReal)

theorem tail_max0 : k0_pay97 S (k0_pay90 i a2 w w1 k x y) (k0_pay91 i v24 w w1 k) (k0_pay92 i v24 w w1 k) m (ix3 0 0 q)
    = max1 (Sel (v24 (ix2 0 q)) (v24 (ix2 1 q)) (v24 (ix2 2 q)) (Scalar.addi (Scf.iv w w1 k) 0#32)) (fun κ => S (ix2 κ q)) (bias x y (Scf.iv w w1 k) a2) (m (ix3 0 0 q)) := by
  pointwise [k0_pay97, k0_pay95, k0_pay94, k0_pay93, k0_pay90, k0_pay91, k0_pay92, k0_pay86]
  rw [select_sel, ofBits_bot]
  rfl

theorem tail_sum0 : k0_pay96 S (k0_pay90 i a2 w w1 k x y) (k0_pay91 i v24 w w1 k) (k0_pay92 i v24 w w1 k) m a v (ix3 0 r q)
    = sum1 (Sel (v24 (ix2 0 q)) (v24 (ix2 1 q)) (v24 (ix2 2 q)) (Scalar.addi (Scf.iv w w1 k) 0#32)) (fun κ => S (ix2 κ q)) (bias x y (Scf.iv w w1 k) a2) (m (ix3 0 0 q)) (a (ix3 0 r q)) (fun κ => v (ix5 0 0 0 r κ)) := by
  pointwise [k0_pay96, k0_pay95, k0_pay94, k0_pay93, k0_pay90, k0_pay91, k0_pay92, k0_pay86]
  simp only [select_sel, ofBits_bot, ofBits_top]
  rfl

theorem tail_max1 : k0_pay6 (k0_pay101 v24 (Scf.iv w w1 k) (k0_pay86 i a2 w w1 k) S x y m) (ix3 0 0 q)
    = max1 (Sel (v24 (ix2 3 q)) (v24 (ix2 4 q)) (v24 (ix2 5 q)) (Scalar.addi (Scf.iv w w1 k) 0#32)) (fun κ => S (ix2 κ q)) (bias x y (Scf.iv w w1 k) a2) (m (ix3 0 0 q)) := by
  pointwise [k0_pay6, k0_pay101, k0_pay100, k0_pay99, k0_pay98, k0_pay86]
  rw [select_sel, ofBits_bot]
  rfl

theorem tail_sum1 : k0_pay5 (k0_pay102 v24 (Scf.iv w w1 k) (k0_pay86 i a2 w w1 k) S x y m) (k0_pay103 a) (k0_pay104 v24 (Scf.iv w w1 k) (k0_pay86 i a2 w w1 k) S x y m) v (ix3 0 r q)
    = sum1 (Sel (v24 (ix2 3 q)) (v24 (ix2 4 q)) (v24 (ix2 5 q)) (Scalar.addi (Scf.iv w w1 k) 0#32)) (fun κ => S (ix2 κ q)) (bias x y (Scf.iv w w1 k) a2) (m (ix3 0 0 q)) (a (ix3 0 r q)) (fun κ => v (ix5 0 0 0 r κ)) := by
  pointwise [k0_pay5, k0_pay102, k0_pay103, k0_pay104, k0_pay101, k0_pay100, k0_pay99, k0_pay98, k0_pay86]
  simp only [select_sel, ofBits_bot, ofBits_top]
  rfl

theorem tail_score0 (K C : Vec Ideal S256x128 .bf16) (Q : Vec Ideal S1x256x256 .bf16) (κ : Fin 256) :
    k0_pay88 K C Q (ix2 κ q) = ∑ x, K (ix2 κ x) * Q (ix3 0 q ⟨x.val, by omega⟩) + ∑ x, C (ix2 κ x) * Q (ix3 0 q ⟨128 + x.val, by omega⟩) := by
  pointwise [k0_pay88, k0_pay87]

theorem tail_score1 (K C : Vec Ideal S256x128 .bf16) (Q : Vec Ideal S1x256x256 .bf16) (κ : Fin 256) :
    k0_pay89 K C Q (ix2 κ q) = ∑ x, K (ix2 κ x) * Q (ix3 0 q ⟨x.val, by omega⟩) + ∑ x, C (ix2 κ x) * Q (ix3 0 q ⟨128 + x.val, by omega⟩) := by
  pointwise [k0_pay89, k0_pay87]

end tail

section group
variable (i : grid0.Coords) (v24 : IVec S8x256 32) (a2 : BitVec 32) (k : Fin (k0_t1_loop i).trips)
  (S : FVec Ideal S1024x256 .f32) (x y : Vec Ideal S1x1x1x1 .bf16) (m : Vec Ideal S1x1x256 .f32) (a : Vec Ideal S1x128x256 .f32)
  (v0 v1 v2 v3 : Vec Ideal S1x1x1x128x256 .bf16) (r : Fin 128) (q : Fin 256)

/-- The new maximum of a trip over four blocks. -/
abbrev max4 (P0 P1 P2 P3 : Prop) (S0 S1 S2 S3 : Fin 256 → EReal) (c0 m : EReal) : EReal :=
  max m (max (max (max (best P0 S0) (best P1 S1)) (best P2 S2)) (best P3 S3) + c0)

/-- The new sum of a trip over four blocks. -/
abbrev sum4 (P0 P1 P2 P3 : Prop) (S0 S1 S2 S3 : Fin 256 → EReal) (c0 m a : EReal) (v0 v1 v2 v3 : Fin 256 → EReal) : EReal :=
  a * Ideal.exp2 (m - max4 P0 P1 P2 P3 S0 S1 S2 S3 c0 m)
    + (∑ κ, v0 κ * pw P0 (S0 κ) c0 (max4 P0 P1 P2 P3 S0 S1 S2 S3 c0 m) + ∑ κ, v1 κ * pw P1 (S1 κ) c0 (max4 P0 P1 P2 P3 S0 S1 S2 S3 c0 m)
      + ∑ κ, v2 κ * pw P2 (S2 κ) c0 (max4 P0 P1 P2 P3 S0 S1 S2 S3 c0 m) + ∑ κ, v3 κ * pw P3 (S3 κ) c0 (max4 P0 P1 P2 P3 S0 S1 S2 S3 c0 m))

/-- The first of the four blocks of trip `k`. -/
abbrev gw (k : Fin (k0_t1_loop i).trips) : BitVec 32 := Scalar.muli (Scf.iv 0#32 1#32 k) 4#32

/-- Whether the head whose choices stand in rows `h`, `h + 1`, `h + 2` chose block `u` of the four. -/
abbrev gsel (h0 h1 h2 : Fin 8) (u : BitVec 32) : Prop := Sel (v24 (ix2 h0 q)) (v24 (ix2 h1 q)) (v24 (ix2 h2 q)) (Scalar.addi (gw i k) u)

abbrev quarter (o : ℕ) (ho : o ≤ 768) (κ : Fin 256) : EReal := S (ix2 ⟨o + κ.val, by omega⟩ q)

theorem quarter0 (κ : Fin 256) : S (ix2 ⟨κ.val, by omega⟩ q) = quarter S q 0 (by omega) κ :=
  congrArg (fun z => S (ix2 z q)) (Fin.ext (by simp))

theorem group_max0 : k0_pay33 (k0_pay25 v24 S (k0_pay14 i a2 0#32 1#32 k x y) (k0_pay20 v24 (gw i k) S (Scalar.addi (gw i k) 0#32) (k0_pay15 i v24 0#32 1#32 k)
      (k0_pay16 v24)) (Scalar.addi (gw i k) 3#32) (k0_pay21 v24 (gw i k)) (k0_pay22 v24 (gw i k)) m) (ix3 0 0 q)
    = max4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q)) := by
  pointwise [k0_pay33, k0_pay25, k0_pay20, k0_pay15,k0_pay16,k0_pay17, k0_pay18,k0_pay19,k0_pay21,k0_pay22,k0_pay23,k0_pay24, k0_pay14, k0_pay10]
  simp only [select_sel, ofBits_bot, quarter0]
  rfl

theorem group_new0 : k0_pay25 v24 S (k0_pay14 i a2 0#32 1#32 k x y) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m (ix2 0 q)
    = (max4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q))) := by
  pointwise [k0_pay25, k0_pay20, k0_pay15,k0_pay16,k0_pay17, k0_pay18,k0_pay19,k0_pay21,k0_pay22,k0_pay23,k0_pay24, k0_pay14, k0_pay10]
  simp only [select_sel, ofBits_bot, quarter0]
  rfl

theorem group_bias0 : k0_pay14 i a2 0#32 1#32 k x y (ix2 0 0) = bias x y (gw i k) a2 := by
  pointwise [k0_pay14, k0_pay10]

theorem group_alpha0 : k0_pay26 v24 S (k0_pay14 i a2 0#32 1#32 k x y) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m (ix2 0 q)
    = Ideal.exp2 (m (ix3 0 0 q) - (max4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q)))) := by
  pointwise [k0_pay26, k0_pay24]
  rw [group_new0]
  rfl

theorem group_p0_0 (κ : Fin 256) : k0_pay27 v24 S (k0_pay14 i a2 0#32 1#32 k x y) (k0_pay17 (Scalar.addi (gw i k) 0#32) (k0_pay15 i v24 0#32 1#32 k) (k0_pay16 v24)) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m (ix2 κ q)
    = pw (gsel i v24 k q 0 1 2 0#32) (quarter S q 0 (by omega) κ) (bias x y (gw i k) a2) (max4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q))) := by
  have hM := group_new0 i v24 a2 k S x y m q
  have hc := group_bias0 i a2 k x y
  unfold k0_pay27
  generalize k0_pay25 v24 S (k0_pay14 i a2 0#32 1#32 k x y) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m = M at hM ⊢
  generalize (k0_pay14 i a2 0#32 1#32 k x y) = c at hc ⊢
  pointwise [k0_pay17, k0_pay15, k0_pay16]
  rw [hM, hc]
  simp only [select_sel, ofBits_top, quarter0]
  rfl

theorem group_p0_1 (κ : Fin 256) : k0_pay28 v24 S (k0_pay14 i a2 0#32 1#32 k x y) (k0_pay18 v24 (gw i k)) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m (ix2 κ q)
    = pw (gsel i v24 k q 0 1 2 1#32) (quarter S q 256 (by omega) κ) (bias x y (gw i k) a2) (max4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q))) := by
  have hM := group_new0 i v24 a2 k S x y m q
  have hc := group_bias0 i a2 k x y
  unfold k0_pay28
  generalize k0_pay25 v24 S (k0_pay14 i a2 0#32 1#32 k x y) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m = M at hM ⊢
  generalize (k0_pay14 i a2 0#32 1#32 k x y) = c at hc ⊢
  pointwise [k0_pay18]
  rw [hM, hc]
  simp only [select_sel, ofBits_top]
  rfl

theorem group_p0_2 (κ : Fin 256) : k0_pay29 v24 S (k0_pay14 i a2 0#32 1#32 k x y) (k0_pay19 v24 (gw i k)) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m (ix2 κ q)
    = pw (gsel i v24 k q 0 1 2 2#32) (quarter S q 512 (by omega) κ) (bias x y (gw i k) a2) (max4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q))) := by
  have hM := group_new0 i v24 a2 k S x y m q
  have hc := group_bias0 i a2 k x y
  unfold k0_pay29
  generalize k0_pay25 v24 S (k0_pay14 i a2 0#32 1#32 k x y) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m = M at hM ⊢
  generalize (k0_pay14 i a2 0#32 1#32 k x y) = c at hc ⊢
  pointwise [k0_pay19]
  rw [hM, hc]
  simp only [select_sel, ofBits_top]
  rfl

theorem group_p0_3 (κ : Fin 256) : FloatOps.exp2 (F := Ideal) (φ := .f32) (k0_pay30 S (ix2 κ q) - k0_pay31 v24 S (k0_pay14 i a2 0#32 1#32 k x y) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m (ix2 κ q))
    = pw (gsel i v24 k q 0 1 2 3#32) (quarter S q 768 (by omega) κ) (bias x y (gw i k) a2) (max4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q))) := by
  have hM := group_new0 i v24 a2 k S x y m q
  have hc := group_bias0 i a2 k x y
  unfold k0_pay30 k0_pay31
  generalize k0_pay25 v24 S (k0_pay14 i a2 0#32 1#32 k x y) (k0_pay20 v24 (gw i k) S (Scalar.addi (gw i k) 0#32) (k0_pay15 i v24 0#32 1#32 k) (k0_pay16 v24)) (Scalar.addi (gw i k) 3#32) (k0_pay21 v24 (gw i k)) (k0_pay22 v24 (gw i k)) m = M at hM ⊢
  generalize (k0_pay14 i a2 0#32 1#32 k x y) = c at hc ⊢
  pointwise [k0_pay21, k0_pay22, k0_pay23]
  rw [hM, hc]
  simp only [select_sel, ofBits_top]
  rfl

theorem group_store0 (al : FVec Ideal S1x256 .f32) (p0 p1 p2 : FVec Ideal S256x256 .bf16) (s3 sh : FVec Ideal S256x256 .f32) :
    k0_pay32 al p0 p1 p2 s3 sh a v0 v1 v2 v3 (ix3 0 r q)
      = a (ix3 0 r q) * al (ix2 0 q) + (∑ κ, v0 (ix5 0 0 0 r κ) * p0 (ix2 κ q) + ∑ κ, v1 (ix5 0 0 0 r κ) * p1 (ix2 κ q)
        + ∑ κ, v2 (ix5 0 0 0 r κ) * p2 (ix2 κ q) + ∑ κ, v3 (ix5 0 0 0 r κ) * FloatOps.exp2 (F := Ideal) (φ := .f32) (s3 (ix2 κ q) - sh (ix2 κ q))) := by
  pointwise [k0_pay32]
  rw [sum_quarters]
  refine congrArg₂ (· + ·) rfl (congrArg₂ (· + ·) (congrArg₂ (· + ·) (congrArg₂ (· + ·) ?_ ?_) ?_) ?_) <;> refine Finset.sum_congr rfl fun κ _ => ?_
  · exact congrArg₂ (· * ·) (quart0 (fun κ => v0 (ix5 0 0 0 r κ)) (fun κ => v1 (ix5 0 0 0 r κ)) (fun κ => v2 (ix5 0 0 0 r κ)) (fun κ => v3 (ix5 0 0 0 r κ)) κ)
      (quart0 (fun κ => p0 (ix2 κ q)) (fun κ => p1 (ix2 κ q)) (fun κ => p2 (ix2 κ q)) (fun κ => FloatOps.exp2 (F := Ideal) (φ := .f32) (s3 (ix2 κ q) - sh (ix2 κ q))) κ)
  · exact congrArg₂ (· * ·) (quart1 (fun κ => v0 (ix5 0 0 0 r κ)) (fun κ => v1 (ix5 0 0 0 r κ)) (fun κ => v2 (ix5 0 0 0 r κ)) (fun κ => v3 (ix5 0 0 0 r κ)) κ)
      (quart1 (fun κ => p0 (ix2 κ q)) (fun κ => p1 (ix2 κ q)) (fun κ => p2 (ix2 κ q)) (fun κ => FloatOps.exp2 (F := Ideal) (φ := .f32) (s3 (ix2 κ q) - sh (ix2 κ q))) κ)
  · exact congrArg₂ (· * ·) (quart2 (fun κ => v0 (ix5 0 0 0 r κ)) (fun κ => v1 (ix5 0 0 0 r κ)) (fun κ => v2 (ix5 0 0 0 r κ)) (fun κ => v3 (ix5 0 0 0 r κ)) κ)
      (quart2 (fun κ => p0 (ix2 κ q)) (fun κ => p1 (ix2 κ q)) (fun κ => p2 (ix2 κ q)) (fun κ => FloatOps.exp2 (F := Ideal) (φ := .f32) (s3 (ix2 κ q) - sh (ix2 κ q))) κ)
  · exact congrArg₂ (· * ·) (quart3 (fun κ => v0 (ix5 0 0 0 r κ)) (fun κ => v1 (ix5 0 0 0 r κ)) (fun κ => v2 (ix5 0 0 0 r κ)) (fun κ => v3 (ix5 0 0 0 r κ)) κ)
      (quart3 (fun κ => p0 (ix2 κ q)) (fun κ => p1 (ix2 κ q)) (fun κ => p2 (ix2 κ q)) (fun κ => FloatOps.exp2 (F := Ideal) (φ := .f32) (s3 (ix2 κ q) - sh (ix2 κ q))) κ)

theorem group_sum0 : k0_pay32 (k0_pay26 v24 S (k0_pay14 i a2 0#32 1#32 k x y) (k0_pay20 v24 (gw i k) S (Scalar.addi (gw i k) 0#32) (k0_pay15 i v24 0#32 1#32 k)
      (k0_pay16 v24)) (Scalar.addi (gw i k) 3#32) (k0_pay21 v24 (gw i k)) (k0_pay22 v24 (gw i k)) m)
      (k0_pay27 v24 S (k0_pay14 i a2 0#32 1#32 k x y) (k0_pay17 (Scalar.addi (gw i k) 0#32) (k0_pay15 i v24 0#32 1#32 k) (k0_pay16 v24)) (k0_pay20 v24 (gw i k) S (Scalar.addi (gw i k) 0#32) (k0_pay15 i v24 0#32 1#32 k)
      (k0_pay16 v24)) (Scalar.addi (gw i k) 3#32) (k0_pay21 v24 (gw i k)) (k0_pay22 v24 (gw i k)) m)
      (k0_pay28 v24 S (k0_pay14 i a2 0#32 1#32 k x y) (k0_pay18 v24 (gw i k)) (k0_pay20 v24 (gw i k) S (Scalar.addi (gw i k) 0#32) (k0_pay15 i v24 0#32 1#32 k)
      (k0_pay16 v24)) (Scalar.addi (gw i k) 3#32) (k0_pay21 v24 (gw i k)) (k0_pay22 v24 (gw i k)) m)
      (k0_pay29 v24 S (k0_pay14 i a2 0#32 1#32 k x y) (k0_pay19 v24 (gw i k)) (k0_pay20 v24 (gw i k) S (Scalar.addi (gw i k) 0#32) (k0_pay15 i v24 0#32 1#32 k)
      (k0_pay16 v24)) (Scalar.addi (gw i k) 3#32) (k0_pay21 v24 (gw i k)) (k0_pay22 v24 (gw i k)) m)
      (k0_pay30 S)
      (k0_pay31 v24 S (k0_pay14 i a2 0#32 1#32 k x y) (k0_pay20 v24 (gw i k) S (Scalar.addi (gw i k) 0#32) (k0_pay15 i v24 0#32 1#32 k)
      (k0_pay16 v24)) (Scalar.addi (gw i k) 3#32) (k0_pay21 v24 (gw i k)) (k0_pay22 v24 (gw i k)) m)
      a v0 v1 v2 v3 (ix3 0 r q)
    = sum4 (gsel i v24 k q 0 1 2 0#32) (gsel i v24 k q 0 1 2 1#32) (gsel i v24 k q 0 1 2 2#32) (gsel i v24 k q 0 1 2 3#32)
        (quarter S q 0 (by omega)) (quarter S q 256 (by omega)) (quarter S q 512 (by omega)) (quarter S q 768 (by omega))
        (bias x y (gw i k) a2) (m (ix3 0 0 q)) (a (ix3 0 r q)) (fun κ => v0 (ix5 0 0 0 r κ)) (fun κ => v1 (ix5 0 0 0 r κ)) (fun κ => v2 (ix5 0 0 0 r κ)) (fun κ => v3 (ix5 0 0 0 r κ)) := by
  rw [group_store0, group_alpha0]
  simp only [group_p0_0, group_p0_1, group_p0_2, group_p0_3]

theorem group_new1 : k0_pay42 v24 (gw i k) S (k0_pay34 (k0_pay10 i a2 0#32 1#32 k) x y) (k0_pay36 v24 (gw i k) S) (k0_pay37 v24 (gw i k)) (k0_pay38 S)
      (FloatOps.ofBits FTy.f32 0xFF800000#32) m (ix2 0 q)
    = (max4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q))) := by
  pointwise [k0_pay42, k0_pay34, k0_pay36, k0_pay37, k0_pay38, k0_pay35, k0_pay39, k0_pay40, k0_pay41, k0_pay10]
  simp only [select_sel, ofBits_bot, quarter0]
  rfl

theorem group_max1 : k0_pay2 (k0_pay42 v24 (gw i k) S (k0_pay34 (k0_pay10 i a2 0#32 1#32 k) x y) (k0_pay36 v24 (gw i k) S) (k0_pay37 v24 (gw i k)) (k0_pay38 S)
      (FloatOps.ofBits FTy.f32 0xFF800000#32) m) (ix3 0 0 q)
    = (max4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q))) := by
  pointwise [k0_pay2]
  exact group_new1 i v24 a2 k S x y m q

theorem group_bias1 : (k0_pay34 (k0_pay10 i a2 0#32 1#32 k) x y) (ix2 0 0) = bias x y (gw i k) a2 := by
  pointwise [k0_pay34, k0_pay10]

theorem group_alpha1 : k0_pay43 v24 (gw i k) S (k0_pay34 (k0_pay10 i a2 0#32 1#32 k) x y) (k0_pay36 v24 (gw i k) S) (k0_pay37 v24 (gw i k)) (k0_pay38 S)
      (FloatOps.ofBits FTy.f32 0xFF800000#32) m (ix2 0 q)
    = Ideal.exp2 (m (ix3 0 0 q) - (max4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q)))) := by
  have hM := group_new1 i v24 a2 k S x y m q
  unfold k0_pay43
  generalize k0_pay42 v24 (gw i k) S (k0_pay34 (k0_pay10 i a2 0#32 1#32 k) x y) (k0_pay36 v24 (gw i k) S) (k0_pay37 v24 (gw i k)) (k0_pay38 S)
      (FloatOps.ofBits FTy.f32 0xFF800000#32) m = M at hM ⊢
  pointwise [k0_pay41]
  rw [hM]
  rfl

theorem quarter_pw (S : FVec Ideal S1024x256 .f32) (q : Fin 256) (o : Nat) (ho : o ≤ 768) (P : Prop) (c : EReal) (κ : Fin 256) (A : EReal) {j : Nat} (hj : j < 1024) (h : j = o + κ.val) :
    (FloatOps.exp2 (F := Ideal) (φ := .f32) (S (ix2 ⟨j, hj⟩ q) - if P then A - c else ⊤) : EReal) = pw P (quarter S q o ho κ) c A := by
  subst h
  rfl

theorem group_p1 (f : Fin 1024 → EReal) : ∑ z, f z * k0_pay45 S (k0_pay34 (k0_pay10 i a2 0#32 1#32 k) x y) (k0_pay37 v24 (gw i k)) (k0_pay39 v24 (gw i k)) (k0_pay40 v24 (gw i k)) (k0_pay42 v24 (gw i k) S (k0_pay34 (k0_pay10 i a2 0#32 1#32 k) x y) (k0_pay36 v24 (gw i k) S) (k0_pay37 v24 (gw i k)) (k0_pay38 S)
      (FloatOps.ofBits FTy.f32 0xFF800000#32) m) (k0_pay44 v24 (gw i k) S (k0_pay34 (k0_pay10 i a2 0#32 1#32 k) x y) (k0_pay35 v24 (gw i k)) (k0_pay36 v24 (gw i k) S) (k0_pay37 v24 (gw i k)) (k0_pay38 S)
      (FloatOps.ofBits FTy.f32 0xFF800000#32) m) (ix2 z q)
    = ∑ κ : Fin 256, f ⟨κ.val, by omega⟩ * pw (gsel i v24 k q 3 4 5 0#32) (quarter S q 0 (by omega) κ) (bias x y (gw i k) a2) (max4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q)))
      + ∑ κ : Fin 256, f ⟨256 + κ.val, by omega⟩ * pw (gsel i v24 k q 3 4 5 1#32) (quarter S q 256 (by omega) κ) (bias x y (gw i k) a2) (max4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q)))
      + ∑ κ : Fin 256, f ⟨512 + κ.val, by omega⟩ * pw (gsel i v24 k q 3 4 5 2#32) (quarter S q 512 (by omega) κ) (bias x y (gw i k) a2) (max4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q)))
      + ∑ κ : Fin 256, f ⟨768 + κ.val, by omega⟩ * pw (gsel i v24 k q 3 4 5 3#32) (quarter S q 768 (by omega) κ) (bias x y (gw i k) a2) (max4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q))) := by
  have hM := group_new1 i v24 a2 k S x y m q
  have hc := group_bias1 i a2 k x y
  unfold k0_pay45 k0_pay44
  generalize k0_pay42 v24 (gw i k) S (k0_pay34 (k0_pay10 i a2 0#32 1#32 k) x y) (k0_pay36 v24 (gw i k) S) (k0_pay37 v24 (gw i k)) (k0_pay38 S)
      (FloatOps.ofBits FTy.f32 0xFF800000#32) m = M at hM ⊢
  generalize (k0_pay34 (k0_pay10 i a2 0#32 1#32 k) x y) = c at hc ⊢
  pointwise [k0_pay35, k0_pay37, k0_pay39, k0_pay40]
  rw [sum_quarters]
  simp only [hM, hc, select_sel, ofBits_top]
  refine congrArg₂ (· + ·) (congrArg₂ (· + ·) (congrArg₂ (· + ·) ?_ ?_) ?_) ?_ <;> refine Finset.sum_congr rfl fun κ _ => congrArg₂ (· * ·) rfl ?_
  · rw [dif_pos κ.isLt]; exact quarter_pw S q _ _ _ _ κ _ (by omega) (by omega)
  · rw [dif_neg (by omega), dif_pos (by omega)]; exact quarter_pw S q _ _ _ _ κ _ (by omega) (by omega)
  · rw [dif_neg (by omega), dif_neg (by omega), dif_pos (by omega)]; exact quarter_pw S q _ _ _ _ κ _ (by omega) (by omega)
  · rw [dif_neg (by omega), dif_neg (by omega), dif_neg (by omega)]; exact quarter_pw S q _ _ _ _ κ _ (by omega) (by omega)

theorem group_store1 (p : FVec Ideal S1024x256 .bf16) (al : FVec Ideal S1x256 .f32) :
    k0_pay1 p (k0_pay46 al a) (k0_pay47 v0) v1 v2 v3 (ix3 0 r q)
      = a (ix3 0 r q) * al (ix2 0 q) + ∑ z : Fin 1024, quart (fun κ => v0 (ix5 0 0 0 r κ)) (fun κ => v1 (ix5 0 0 0 r κ)) (fun κ => v2 (ix5 0 0 0 r κ)) (fun κ => v3 (ix5 0 0 0 r κ)) z * p (ix2 z q) := by
  pointwise [k0_pay1, k0_pay46, k0_pay47]
  rfl

theorem group_sum1 : k0_pay1 (k0_pay45 S (k0_pay34 (k0_pay10 i a2 0#32 1#32 k) x y) (k0_pay37 v24 (gw i k)) (k0_pay39 v24 (gw i k)) (k0_pay40 v24 (gw i k)) (k0_pay42 v24 (gw i k) S (k0_pay34 (k0_pay10 i a2 0#32 1#32 k) x y) (k0_pay36 v24 (gw i k) S) (k0_pay37 v24 (gw i k)) (k0_pay38 S)
      (FloatOps.ofBits FTy.f32 0xFF800000#32) m) (k0_pay44 v24 (gw i k) S (k0_pay34 (k0_pay10 i a2 0#32 1#32 k) x y) (k0_pay35 v24 (gw i k)) (k0_pay36 v24 (gw i k) S) (k0_pay37 v24 (gw i k)) (k0_pay38 S)
      (FloatOps.ofBits FTy.f32 0xFF800000#32) m))
      (k0_pay46 (k0_pay43 v24 (gw i k) S (k0_pay34 (k0_pay10 i a2 0#32 1#32 k) x y) (k0_pay36 v24 (gw i k) S) (k0_pay37 v24 (gw i k)) (k0_pay38 S)
      (FloatOps.ofBits FTy.f32 0xFF800000#32) m) a) (k0_pay47 v0) v1 v2 v3 (ix3 0 r q)
    = sum4 (gsel i v24 k q 3 4 5 0#32) (gsel i v24 k q 3 4 5 1#32) (gsel i v24 k q 3 4 5 2#32) (gsel i v24 k q 3 4 5 3#32)
        (quarter S q 0 (by omega)) (quarter S q 256 (by omega)) (quarter S q 512 (by omega)) (quarter S q 768 (by omega))
        (bias x y (gw i k) a2) (m (ix3 0 0 q)) (a (ix3 0 r q)) (fun κ => v0 (ix5 0 0 0 r κ)) (fun κ => v1 (ix5 0 0 0 r κ)) (fun κ => v2 (ix5 0 0 0 r κ)) (fun κ => v3 (ix5 0 0 0 r κ)) := by
  rw [group_store1, group_alpha1, group_p1]
  simp only [quart0, quart1, quart2, quart3]

theorem group_score0 (K C : Vec Ideal S1024x128 .bf16) (Q : Vec Ideal S1x256x256 .bf16) (κ : Fin 1024) :
    k0_pay12 K C Q (ix2 κ q) = ∑ x, K (ix2 κ x) * Q (ix3 0 q ⟨x.val, by omega⟩) + ∑ x, C (ix2 κ x) * Q (ix3 0 q ⟨128 + x.val, by omega⟩) := by
  pointwise [k0_pay12, k0_pay11]

theorem group_score1 (K C : Vec Ideal S1024x128 .bf16) (Q : Vec Ideal S1x256x256 .bf16) (κ : Fin 1024) :
    k0_pay13 K C Q (ix2 κ q) = ∑ x, K (ix2 κ x) * Q (ix3 0 q ⟨x.val, by omega⟩) + ∑ x, C (ix2 κ x) * Q (ix3 0 q ⟨128 + x.val, by omega⟩) := by
  pointwise [k0_pay13, k0_pay11]

end group

end Cert.KernelIdeal.Value

end
-- ==== Proof.Inputs.lean ====
/- What the host code hands the kernel, read at an index: the scaled queries, the keys, the transposed values with their
   rows of ones, the columns of slopes and the columns of key positions. -/
module

public import proofs.«01_k».proof.Proof.Columns
public import proofs.«01_k».proof.Proof.Steps
public import Idealize.ShloMosaic.Lib.Pipeline.ValueKit

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

/-! ## The arrays, as the host code composes them -/

/-- `1 / log 2`. -/
def log2e : FVec Ideal S_ .f32 := Host.divf (constant S_ .f32 0x3F800000#32) (Host.log (constant S_ .f32 0x40000000#32))

/-- The queries, scaled by `HEAD_DIM ** -0.5 / log 2`. -/
def scaled (Q : FVec Ideal S32768x512 .f32) : FVec Ideal S32768x512 .bf16 :=
  truncf .bf16 (mulf Q (broadcastInDim S32768x512 ![] bcast_S_S32768x512 (mulf (constant S_ .f32 0x3E000000#32) log2e))) bitsLt_bf16_f32

/-- Which of a pair's 128 rows belong to its first head. -/
def first : IVec S128x1 1 :=
  broadcastInDim S128x1 ![0] bcast_S128_S128x1_0 (cmpi .slt (iotaInDim S128 32 0) (broadcastInDim S128 ![] bcast_S_S128 (constantI S_ 32 64#32)))

/-- The values, block by block and pair by pair, with the keys last. -/
def turned (W : FVec Ideal S32768x512 .f32) : FVec Ideal S128x4x128x256 .f32 :=
  transpose S128x4x128x256 [0, 2, 3, 1] (shapeCast S128x256x4x128 W shapeCasts_S32768x512_S128x256x4x128) transposes_S128x256x4x128_S128x4x128x256_0_2_3_1

/-- Ones in the shape of `turned`. -/
def ones : FVec Ideal S128x4x128x256 .f32 := broadcastInDim S128x4x128x256 ![] bcast_S_S128x4x128x256 (constant S_ .f32 0x3F800000#32)

/-- `first`, in the shape of `turned`. -/
def firstRows : IVec S128x4x128x256 1 := broadcastInDim S128x4x128x256 ![2, 3] bcast_S128x1_S128x4x128x256_2_3 first

/-- Each head's values, the other head's rows replaced by ones. -/
def padded (W : FVec Ideal S32768x512 .f32) : FVec Ideal S128x4x2x128x256 .bf16 :=
  truncf .bf16 (concatenate S128x4x2x128x256 2
    [⟨S128x4x1x128x256, broadcastInDim S128x4x1x128x256 ![0, 1, 3, 4] bcast_S128x4x128x256_S128x4x1x128x256_0_1_3_4 (select firstRows (turned W) ones)⟩,
     ⟨S128x4x1x128x256, broadcastInDim S128x4x1x128x256 ![0, 1, 3, 4] bcast_S128x4x128x256_S128x4x1x128x256_0_1_3_4 (select firstRows ones (turned W))⟩]
    concatenates_S128x4x1x128x256_S128x4x1x128x256_S128x4x2x128x256_d2) bitsLt_bf16_f32

/-- The slopes over `log 2`. -/
def slopes2 (A : FVec Ideal S8 .f32) : FVec Ideal S4x2x1 .f32 :=
  shapeCast S4x2x1 (mulf A (broadcastInDim S8 ![] bcast_S_S8 log2e)) shapeCasts_S8_S4x2x1

/-- Their leading parts. -/
def lead (A : FVec Ideal S8 .f32) : FVec Ideal S4x2x1 .f32 := extf .f32 (truncf .bf16 (slopes2 A) bitsLt_bf16_f32) bitsLt_bf16_f32

/-- What the leading parts leave. -/
def rest (A : FVec Ideal S8 .f32) : FVec Ideal S4x2x1 .f32 := subf (slopes2 A) (lead A)

/-- 256, at every head. -/
def tile : FVec Ideal S4x2x1 .f32 := broadcastInDim S4x2x1 ![] bcast_S_S4x2x1 (constant S_ .f32 0x43800000#32)

/-- One number per head, along the rows of a block. -/
def along (x : FVec Ideal S4x2x1 .f32) : FVec Ideal S4x2x256 .f32 := broadcastInDim S4x2x256 ![0, 1, 2] bcast_S4x2x1_S4x2x256_0_1_2 x

/-- The columns of slopes. -/
def slopeCols (A : FVec Ideal S8 .f32) : FVec Ideal S4x2x256x128 .bf16 :=
  truncf .bf16
    (setLast (setLast (setLast (setLast (broadcastInDim S4x2x256x128 ![] bcast_S_S4x2x256x128 (constant S_ .f32 0x00000000#32))
      0#32 (along (lead A))) 1#32 (along (rest A))) 2#32 (along (mulf (lead A) tile))) 3#32 (along (mulf (rest A) tile))) bitsLt_bf16_f32

/-- The number `w` at each of the 1024 rows. -/
def each (w : IVec S_ 32) : IVec S1024 32 := broadcastInDim S1024 ![] bcast_S_S1024 w

/-- The divisor of the remainder: 256, or 1 in the place of 0. -/
def modulus : IVec S_ 32 := select (cmpi .eq (constantI S_ 32 256#32) (constantI S_ 32 0#32)) (constantI S_ 32 1#32) (constantI S_ 32 256#32)

/-- A row's remainder by 256, rounded toward zero. -/
def leftover : IVec S1024 32 := Host.remsi (iotaInDim S1024 32 0) (each modulus)

/-- A row's place in its block. -/
def place : IVec S1024 32 :=
  select (andi (cmpi .ne (cmpi .slt leftover (each (constantI S_ 32 0#32))) (broadcastInDim S1024 ![] bcast_S_S1024 (cmpi .slt modulus (constantI S_ 32 0#32))))
      (cmpi .ne leftover (each (constantI S_ 32 0#32))))
    (addi leftover (each modulus)) leftover

/-- A row's block. -/
def block : IVec S1024 32 :=
  select (andi (cmpi .ne (signi (iotaInDim S1024 32 0)) (each (signi (constantI S_ 32 256#32))))
      (cmpi .ne (Host.remsi (iotaInDim S1024 32 0) (each (constantI S_ 32 256#32))) (each (constantI S_ 32 0#32))))
    (subi (Host.divsi (iotaInDim S1024 32 0) (each (constantI S_ 32 256#32))) (each (constantI S_ 32 1#32)))
    (Host.divsi (iotaInDim S1024 32 0) (each (constantI S_ 32 256#32)))

/-- The columns of key positions. -/
def placeCols : FVec Ideal S1024x128 .bf16 :=
  truncf .bf16
    (setCol (setCol (setCol (setCol (broadcastInDim S1024x128 ![] bcast_S_S1024x128 (constant S_ .f32 0x00000000#32))
      0#32 (sitofp .f32 place)) 1#32 (sitofp .f32 place)) 2#32 (sitofp .f32 block)) 3#32 (sitofp .f32 block)) bitsLt_bf16_f32

section

variable (m : (ℓ : Loc nD τ sig) → Buf (Elt Ideal) ℓ) (c : Dev nD)

theorem entry_q : V m c main_v5 = scaled (m ((c : Thread nD τ).loc main_arg0)) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem entry_k : V m c main_v6 = truncf (F := Ideal) .bf16 (m ((c : Thread nD τ).loc main_arg1) : FVec Ideal S32768x512 .f32) bitsLt_bf16_f32 := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results

theorem entry_v : V m c main_v18 = padded (m ((c : Thread nD τ).loc main_arg2)) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem entry_slopes : V m c main_v42 = slopeCols (m ((c : Thread nD τ).loc main_arg3)) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem entry_places : V m c main_v57 = placeCols := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

end

/-! ## Read at an index -/

theorem two_bits : Ideal.ofBits .f32 0x40000000#32 = ((2 : ℝ) : EReal) := by
  simp [Ideal.ofBits, Ideal.ieee, -EReal.coe_mul]; norm_num
theorem one_bits : Ideal.ofBits .f32 0x3F800000#32 = ((1 : ℝ) : EReal) := by
  simp [Ideal.ofBits, Ideal.ieee, -EReal.coe_mul]; norm_num
theorem eighth_bits : Ideal.ofBits .f32 0x3E000000#32 = ((1 / 8 : ℝ) : EReal) := by
  simp [Ideal.ofBits, Ideal.ieee, -EReal.coe_mul]; norm_num
theorem tile_bits : Ideal.ofBits .f32 0x43800000#32 = ((256 : ℝ) : EReal) := by
  simp [Ideal.ofBits, Ideal.ieee, -EReal.coe_mul]; norm_num

theorem narrow_at {s : Shape} (X : FVec Ideal s .f32) (i : s.Idx) : truncf (F := Ideal) .bf16 X bitsLt_bf16_f32 i = X i := rfl
theorem widen_at {s : Shape} (X : FVec Ideal s .bf16) (i : s.Idx) : extf (F := Ideal) .f32 X bitsLt_bf16_f32 i = X i := rfl

theorem log2e_at (i : S_.Idx) : log2e i = (((Real.log 2)⁻¹ : ℝ) : EReal) := by
  show Ideal.div (Ideal.ofBits .f32 0x3F800000#32) (Ideal.log (Ideal.ofBits .f32 0x40000000#32)) = _
  have h : Ideal.log ((2 : ℝ) : EReal) = ((Real.log 2 : ℝ) : EReal) := if_neg (by norm_num)
  rw [two_bits, one_bits, h, div_real _ (Real.log_pos (by norm_num)), EReal.coe_one, one_mul]

theorem scaled_at (Q : FVec Ideal S32768x512 .f32) (r : Fin 32768) (j : Fin 512) :
    scaled Q (ix2 r j) = Q (ix2 r j) * ((1 / 8 * (Real.log 2)⁻¹ : ℝ) : EReal) := by
  show Q (ix2 r j) * (Ideal.ofBits .f32 0x3E000000#32 * log2e _) = _
  rw [log2e_at, eighth_bits, EReal.coe_mul]

theorem turned_at (W : FVec Ideal S32768x512 .f32) (b : Fin 128) (p : Fin 4) (r : Fin 128) (κ : Fin 256) :
    turned W (ix4 b p r κ) = W (ix2 ⟨256 * b.val + κ.val, by omega⟩ ⟨128 * p.val + r.val, by omega⟩) := by
  pointwise [turned]
  refine congrArg W ?_
  congr 1 <;> apply Fin.ext <;> simp <;> omega

theorem firstRows_at (b : Fin 128) (p : Fin 4) (r : Fin 128) (κ : Fin 256) :
    firstRows (ix4 b p r κ) = if r.val < 64 then 1#1 else 0#1 := by
  have h : ∀ r : Fin 128, IntOp.cmpi .slt (BitVec.ofNat 32 r.val) 64#32 = if r.val < 64 then 1#1 else 0#1 := by decide +kernel
  pointwise [firstRows, first]
  exact h r

theorem ones_at (i : S128x4x128x256.Idx) : ones i = 1 := by
  show Ideal.ofBits .f32 0x3F800000#32 = 1
  rw [one_bits, EReal.coe_one]

theorem padded_at (W : FVec Ideal S32768x512 .f32) (b : Fin 128) (p : Fin 4) (h : Fin 2) (r : Fin 128) (κ : Fin 256) :
    padded W (ix5 b p h r κ) = if (h = 0 ↔ r.val < 64) then W (ix2 ⟨256 * b.val + κ.val, by omega⟩ ⟨128 * p.val + r.val, by omega⟩) else 1 := by
  have e1 : select firstRows (turned W) ones (ix4 b p r κ)
      = if r.val < 64 then W (ix2 ⟨256 * b.val + κ.val, by omega⟩ ⟨128 * p.val + r.val, by omega⟩) else 1 := by
    show Scalar.select (firstRows (ix4 b p r κ)) (turned W (ix4 b p r κ)) (ones (ix4 b p r κ)) = _
    rw [firstRows_at, turned_at, ones_at]
    by_cases hr : r.val < 64 <;> simp [Scalar.select, hr]
  have e2 : select firstRows ones (turned W) (ix4 b p r κ)
      = if r.val < 64 then 1 else W (ix2 ⟨256 * b.val + κ.val, by omega⟩ ⟨128 * p.val + r.val, by omega⟩) := by
    show Scalar.select (firstRows (ix4 b p r κ)) (ones (ix4 b p r κ)) (turned W (ix4 b p r κ)) = _
    rw [firstRows_at, turned_at, ones_at]
    by_cases hr : r.val < 64 <;> simp [Scalar.select, hr]
  unfold padded
  generalize select firstRows (turned W) ones = X at e1 ⊢
  generalize select firstRows ones (turned W) = Y at e2 ⊢
  fin_cases h
  · pointwise
    rw [e1]
    simp
  · pointwise
    rw [e2]
    by_cases hr : r.val < 64 <;> simp [hr]

theorem slopes2_at (A : FVec Ideal S8 .f32) (p : Fin 4) (h : Fin 2) :
    slopes2 A (ix3 p h 0) = A (ix1 ⟨2 * p.val + h.val, by omega⟩) * (((Real.log 2)⁻¹ : ℝ) : EReal) := by
  have e : ∀ i : S8.Idx, mulf A (broadcastInDim S8 ![] bcast_S_S8 log2e) i = A i * (((Real.log 2)⁻¹ : ℝ) : EReal) := fun i => by
    show A i * log2e _ = _
    rw [log2e_at]
  unfold slopes2
  generalize mulf A (broadcastInDim S8 ![] bcast_S_S8 log2e) = X at e ⊢
  pointwise
  rw [e]
  refine congrArg (fun t => A t * _) ?_
  congr 1; apply Fin.ext; simp; omega

/-- The slope columns of pair `p` at head `h`: the slope over `log 2`, nothing, 256 times the slope over `log 2`, nothing, and
    zero from there on. -/
theorem slopeCols_at (A : FVec Ideal S8 .f32) (p : Fin 4) (h : Fin 2) (x : Fin 256) (j : Fin 128) (σ : ℝ)
    (hσ : A (ix1 ⟨2 * p.val + h.val, by omega⟩) * (((Real.log 2)⁻¹ : ℝ) : EReal) = ((σ : ℝ) : EReal)) :
    slopeCols A (ix4 p h x j) = ((if j.val = 0 then σ else if j.val = 2 then σ * 256 else 0 : ℝ) : EReal) := by
  have e0 : slopes2 A (ix3 p h 0) = ((σ : ℝ) : EReal) := (slopes2_at A p h).trans hσ
  have e1 : lead A (ix3 p h 0) = ((σ : ℝ) : EReal) := by
    unfold lead
    rw [widen_at, narrow_at, e0]
  have e2 : rest A (ix3 p h 0) = ((0 : ℝ) : EReal) := by
    show slopes2 A (ix3 p h 0) - lead A (ix3 p h 0) = _
    rw [e0, e1, ← EReal.coe_sub, sub_self]
  have et : tile (ix3 p h 0) = ((256 : ℝ) : EReal) := tile_bits
  have ea : ∀ X : FVec Ideal S4x2x1 .f32, along X (ix3 p h x) = X (ix3 p h 0) := fun X => by
    pointwise [along]
  have e3 : mulf (lead A) tile (ix3 p h 0) = ((σ * 256 : ℝ) : EReal) := by
    show lead A (ix3 p h 0) * tile (ix3 p h 0) = _
    rw [e1, et, ← EReal.coe_mul]
  have e4 : mulf (rest A) tile (ix3 p h 0) = ((0 : ℝ) : EReal) := by
    show rest A (ix3 p h 0) * tile (ix3 p h 0) = _
    rw [e2, et, ← EReal.coe_mul, zero_mul]
  have z : broadcastInDim (α := Ideal .f32) S4x2x256x128 ![] bcast_S_S4x2x256x128 (constant S_ .f32 0x00000000#32) (ix4 p h x j) = ((0 : ℝ) : EReal) := by
    show Ideal.ofBits .f32 0x00000000#32 = _
    rw [Ideal.ofBits_zero_f32, EReal.coe_zero]
  unfold slopeCols
  rw [narrow_at, setLast_at, setLast_at, setLast_at, setLast_at, ea, ea, ea, ea, e1, e2, e3, e4, z]
  have w0 : (0#32 : BitVec 32).toInt = 0 := rfl
  have w1 : (1#32 : BitVec 32).toInt = 1 := rfl
  have w2 : (2#32 : BitVec 32).toInt = 2 := rfl
  have w3 : (3#32 : BitVec 32).toInt = 3 := rfl
  rw [w0, w1, w2, w3]
  by_cases j0 : j.val = 0
  · simp [j0]
  by_cases j1 : j.val = 1
  · simp [j1]
  by_cases j2 : j.val = 2
  · simp [j2]
  by_cases j3 : j.val = 3
  · simp [j3]
  have n0 : ¬ (0 : ℤ) = j.val := by omega
  have n1 : ¬ (1 : ℤ) = j.val := by omega
  have n2 : ¬ (2 : ℤ) = j.val := by omega
  have n3 : ¬ (3 : ℤ) = j.val := by omega
  rw [if_neg n0, if_neg n1, if_neg n2, if_neg n3, if_neg j0, if_neg j2]

theorem place_at (r : Fin 1024) : (place (ix1 r)).toInt = ((r.val % 256 : ℕ) : ℤ) := by
  have h : ∀ r : Fin 1024, (place (ix1 r)).toInt = ((r.val % 256 : ℕ) : ℤ) := by decide +kernel
  exact h r

theorem block_at (r : Fin 1024) : (block (ix1 r)).toInt = ((r.val / 256 : ℕ) : ℤ) := by
  have h : ∀ r : Fin 1024, (block (ix1 r)).toInt = ((r.val / 256 : ℕ) : ℤ) := by decide +kernel
  exact h r

/-- The columns of key positions at row `r`: its place in its block twice, its block twice, and zero from there on. -/
theorem placeCols_at (r : Fin 1024) (j : Fin 128) :
    placeCols (ix2 r j) = ((if j.val < 2 then (r.val % 256 : ℕ) else if j.val < 4 then (r.val / 256 : ℕ) else (0 : ℝ) : ℝ) : EReal) := by
  have e1 : (sitofp (F := Ideal) .f32 place) (ix1 r) = (((r.val % 256 : ℕ) : ℝ) : EReal) := by
    show (((place (ix1 r)).toInt : ℝ) : EReal) = _
    rw [place_at]; norm_cast
  have e2 : (sitofp (F := Ideal) .f32 block) (ix1 r) = (((r.val / 256 : ℕ) : ℝ) : EReal) := by
    show (((block (ix1 r)).toInt : ℝ) : EReal) = _
    rw [block_at]; norm_cast
  have z : broadcastInDim (α := Ideal .f32) S1024x128 ![] bcast_S_S1024x128 (constant S_ .f32 0x00000000#32) (ix2 r j) = ((0 : ℝ) : EReal) := by
    show Ideal.ofBits .f32 0x00000000#32 = _
    rw [Ideal.ofBits_zero_f32, EReal.coe_zero]
  unfold placeCols
  rw [narrow_at, setCol_at, setCol_at, setCol_at, setCol_at, e1, e2, z]
  have w0 : (0#32 : BitVec 32).toInt = 0 := rfl
  have w1 : (1#32 : BitVec 32).toInt = 1 := rfl
  have w2 : (2#32 : BitVec 32).toInt = 2 := rfl
  have w3 : (3#32 : BitVec 32).toInt = 3 := rfl
  rw [w0, w1, w2, w3]
  generalize r.val % 256 = u
  generalize r.val / 256 = v
  by_cases j0 : j.val = 0
  · simp [j0]
  by_cases j1 : j.val = 1
  · simp [j1]
  by_cases j2 : j.val = 2
  · simp [j2]
  by_cases j3 : j.val = 3
  · simp [j3]
  have n0 : ¬ (0 : ℤ) = j.val := by omega
  have n1 : ¬ (1 : ℤ) = j.val := by omega
  have n2 : ¬ (2 : ℤ) = j.val := by omega
  have n3 : ¬ (3 : ℤ) = j.val := by omega
  rw [if_neg n0, if_neg n1, if_neg n2, if_neg n3, if_neg (by omega), if_neg (by omega)]

end Cert.KernelIdeal.Value

end
-- ==== Proof.Words.lean ====
/- The words the kernel computes from the number of its query block: how many trips its loops make and where they read. -/
module

public import proofs.«01_k».proof.Proof.Steps

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

/-- The query block's number within its sequence. -/
abbrev qb (t : Fin grid0.N) : Nat := ((grid0.coords t) 2).val

theorem qb_lt (t : Fin grid0.N) : qb t < 64 := ((grid0.coords t) 2).isLt

theorem trips1 : ∀ t : Fin grid0.N, (k0_t1_loop (grid0.coords t)).trips = qb t / 4 := by decide +kernel
theorem trips2 : ∀ t : Fin grid0.N, (k0_t2_loop (grid0.coords t)).trips = 0 := by decide +kernel
theorem trips3 : ∀ t : Fin grid0.N, (k0_t3_loop (grid0.coords t)).trips = qb t % 4 := by decide +kernel
theorem trips4 : ∀ t : Fin grid0.N, (k0_t4_loop (grid0.coords t)).trips = 0 := by decide +kernel

theorem off4 : ∀ (t : Fin grid0.N) (k : Fin (k0_t1_loop (grid0.coords t)).trips), k0_off4 (grid0.coords t) k = ![1024 * k.val, 0] := by decide +kernel
theorem off5 : ∀ (t : Fin grid0.N) (k : Fin (k0_t1_loop (grid0.coords t)).trips) (u : Fin 4), k0_off5 (grid0.coords t) k (BitVec.ofNat 32 u.val) = ![4 * k.val + u.val, 0, 0, 0, 0] := by decide +kernel
theorem off6 : ∀ (t : Fin grid0.N) (k : Fin (k0_t1_loop (grid0.coords t)).trips) (u : Fin 4), k0_off6 (grid0.coords t) k (BitVec.ofNat 32 u.val) = ![4 * k.val + u.val, 0, 1, 0, 0] := by decide +kernel
theorem off10 : ∀ (t : Fin grid0.N) (k : Fin (k0_t3_loop (grid0.coords t)).trips), k0_off10 (grid0.coords t) k = ![256 * (4 * (qb t / 4) + k.val), 0] := by decide +kernel
theorem off11 : ∀ (t : Fin grid0.N) (k : Fin (k0_t3_loop (grid0.coords t)).trips), k0_off11 (grid0.coords t) k = ![4 * (qb t / 4) + k.val, 0, 0, 0, 0] := by decide +kernel
theorem off12 : ∀ (t : Fin grid0.N) (k : Fin (k0_t3_loop (grid0.coords t)).trips), k0_off12 (grid0.coords t) k = ![4 * (qb t / 4) + k.val, 0, 1, 0, 0] := by decide +kernel

theorem iv_at (a k : Nat) : Scf.iv (BitVec.ofNat 32 a) 1#32 k = BitVec.ofNat 32 (a + k) := by
  unfold Scf.iv
  simp [BitVec.ofNat_add]

theorem addi_at (a u : Nat) : Scalar.addi (BitVec.ofNat 32 a) (BitVec.ofNat 32 u) = BitVec.ofNat 32 (a + u) := by
  simp [Scalar.addi, IntOp.addi, BitVec.ofNat_add]

theorem gw_at (i : grid0.Coords) (k : Fin (k0_t1_loop i).trips) : gw i k = BitVec.ofNat 32 (4 * k.val) := by
  unfold gw
  rw [iv_at]
  simp [Scalar.muli, IntOp.muli, BitVec.ofNat_mul, BitVec.mul_comm]

/-- The distance of key block `j` from query block `n`, in keys, as the kernel's words compute it. -/
theorem dist_at (j n : Nat) (hj : j < 64) (hn : n < 64) :
    (Scalar.muli (Scalar.subi (BitVec.ofNat 32 j) (BitVec.ofNat 32 n)) 256#32).toInt = ((j : Int) - n) * 256 := by
  have : ∀ j n : Fin 64, (Scalar.muli (Scalar.subi (BitVec.ofNat 32 j.val) (BitVec.ofNat 32 n.val)) 256#32).toInt = ((j.val : Int) - n.val) * 256 := by decide +kernel
  exact this ⟨j, hj⟩ ⟨n, hn⟩

end Cert.KernelIdeal.Value
-- ==== Proof.TripOne.lean ====
/- What a trip of the kernel's loops leaves in its two running buffers, a maximum and a sum for every head and query, from what it found there. -/
module

public import proofs.«01_k».proof.Proof.Words
public import Idealize.ShloMosaic.Lib.WritesUnit

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

/-- A key's score: its row times the query's, and its two position columns times the query's slope columns. -/
def blk (K : Vec Ideal S16384x128 .bf16) (C : Vec Ideal S1024x128 .bf16) (Q : Vec Ideal S2x256x256 .bf16) (h : Fin 2) (b : Fin 64) (u : Fin 4) (κ q : Fin 256) : EReal :=
  ∑ x : Fin 128, K (ix2 ⟨256 * b.val + κ.val, by omega⟩ x) * Q (ix3 h q ⟨x.val, by omega⟩)
    + ∑ x : Fin 128, C (ix2 ⟨256 * u.val + κ.val, by omega⟩ x) * Q (ix3 h q ⟨128 + x.val, by omega⟩)

/-- A head's slope, from the two columns that hold its two parts. -/
def slope (X : Vec Ideal S1x2x256x128 .bf16) (h : Fin 2) : EReal := X (ix4 0 h 0 0) + X (ix4 0 h 0 1)

/-- The number of keys from a query block's first row to block `b`'s, negative for the past. -/
def dist (b n : Nat) : EReal := (((((b : Int) - n) * 256 : Int) : ℝ) : EReal)

/-- Head `h`'s query `q` chose block `b`. -/
def sel (v24 : IVec S8x256 32) (h : Fin 2) (q : Fin 256) (b : Nat) : Prop :=
  Sel (v24 (ix2 ⟨3 * h.val, by omega⟩ q)) (v24 (ix2 ⟨3 * h.val + 1, by omega⟩ q)) (v24 (ix2 ⟨3 * h.val + 2, by omega⟩ q)) (BitVec.ofNat 32 b)

section loads
variable {sp : Space} {e : EltTy}

theorem rd2 {n0 n1 m0 m1 : Nat} (v : View sig .tc sp ⟨2, ![n0, n1]⟩ e) (f : v.ty.Contents (Elt Ideal)) {off : Fin 2 → Nat} (inb) {a b : Nat} (hoff : off = ![a, b])
    (x0 : Fin m0) (x1 : Fin m1) (i0 : Fin n0) (i1 : Fin n1) (h0 : i0.val = a + x0.val) (h1 : i1.val = b + x1.val) :
    View.readAt (Elt Ideal) v (Rect.unit (s := ⟨2, ![n0, n1]⟩) off ![m0, m1] inb).toLoadRect f (ix2 x0 x1) = v.read (Elt Ideal) f (ix2 i0 i1) := by
  subst hoff
  refine View.ld_unit_apply_of (S := ⟨2, ![n0, n1]⟩) (v.read (Elt Ideal) f) _ _ _ _ _ fun a => ?_
  fin_cases a
  · exact h0
  · exact h1

theorem rd3 {n0 n1 n2 m0 m1 m2 : Nat} (v : View sig .tc sp ⟨3, ![n0, n1, n2]⟩ e) (f : v.ty.Contents (Elt Ideal)) {off : Fin 3 → Nat} (inb) {a b c : Nat} (hoff : off = ![a, b, c])
    (x0 : Fin m0) (x1 : Fin m1) (x2 : Fin m2) (i0 : Fin n0) (i1 : Fin n1) (i2 : Fin n2) (h0 : i0.val = a + x0.val) (h1 : i1.val = b + x1.val) (h2 : i2.val = c + x2.val) :
    View.readAt (Elt Ideal) v (Rect.unit (s := ⟨3, ![n0, n1, n2]⟩) off ![m0, m1, m2] inb).toLoadRect f (ix3 x0 x1 x2) = v.read (Elt Ideal) f (ix3 i0 i1 i2) := by
  subst hoff
  refine View.ld_unit_apply_of (S := ⟨3, ![n0, n1, n2]⟩) (v.read (Elt Ideal) f) _ _ _ _ _ fun a => ?_
  fin_cases a
  · exact h0
  · exact h1
  · exact h2

theorem rd4 {n0 n1 n2 n3 m0 m1 m2 m3 : Nat} (v : View sig .tc sp ⟨4, ![n0, n1, n2, n3]⟩ e) (f : v.ty.Contents (Elt Ideal)) {off : Fin 4 → Nat} (inb) {a b c d : Nat} (hoff : off = ![a, b, c, d])
    (x0 : Fin m0) (x1 : Fin m1) (x2 : Fin m2) (x3 : Fin m3) (i0 : Fin n0) (i1 : Fin n1) (i2 : Fin n2) (i3 : Fin n3)
    (h0 : i0.val = a + x0.val) (h1 : i1.val = b + x1.val) (h2 : i2.val = c + x2.val) (h3 : i3.val = d + x3.val) :
    View.readAt (Elt Ideal) v (Rect.unit (s := ⟨4, ![n0, n1, n2, n3]⟩) off ![m0, m1, m2, m3] inb).toLoadRect f (ix4 x0 x1 x2 x3) = v.read (Elt Ideal) f (ix4 i0 i1 i2 i3) := by
  subst hoff
  refine View.ld_unit_apply_of (S := ⟨4, ![n0, n1, n2, n3]⟩) (v.read (Elt Ideal) f) _ _ _ _ _ fun a => ?_
  fin_cases a
  · exact h0
  · exact h1
  · exact h2
  · exact h3

theorem rd5 {n0 n1 n2 n3 n4 m0 m1 m2 m3 m4 : Nat} (v : View sig .tc sp ⟨5, ![n0, n1, n2, n3, n4]⟩ e) (f : v.ty.Contents (Elt Ideal)) {off : Fin 5 → Nat} (inb) {a b c d g : Nat}
    (hoff : off = ![a, b, c, d, g]) (x0 : Fin m0) (x1 : Fin m1) (x2 : Fin m2) (x3 : Fin m3) (x4 : Fin m4) (i0 : Fin n0) (i1 : Fin n1) (i2 : Fin n2) (i3 : Fin n3) (i4 : Fin n4)
    (h0 : i0.val = a + x0.val) (h1 : i1.val = b + x1.val) (h2 : i2.val = c + x2.val) (h3 : i3.val = d + x3.val) (h4 : i4.val = g + x4.val) :
    View.readAt (Elt Ideal) v (Rect.unit (s := ⟨5, ![n0, n1, n2, n3, n4]⟩) off ![m0, m1, m2, m3, m4] inb).toLoadRect f (ix5 x0 x1 x2 x3 x4) = v.read (Elt Ideal) f (ix5 i0 i1 i2 i3 i4) := by
  subst hoff
  refine View.ld_unit_apply_of (S := ⟨5, ![n0, n1, n2, n3, n4]⟩) (v.read (Elt Ideal) f) _ _ _ _ _ fun a => ?_
  fin_cases a
  · exact h0
  · exact h1
  · exact h2
  · exact h3
  · exact h4

end loads

theorem max1_congr {P P' : Prop} {S S' : Fin 256 → EReal} {c c' m m' : EReal} (hP : P = P') (hS : S = S') (hc : c = c') (hm : m = m') : max1 P S c m = max1 P' S' c' m' := by
  subst hP hS hc hm; rfl

theorem sum1_congr {P P' : Prop} {S S' : Fin 256 → EReal} {c c' m m' a a' : EReal} {v v' : Fin 256 → EReal} (hP : P = P') (hS : S = S') (hc : c = c') (hm : m = m') (ha : a = a') (hv : v = v') :
    sum1 P S c m a v = sum1 P' S' c' m' a' v' := by
  subst hP hS hc hm ha hv; rfl

theorem read_m1 {Val : EltTy → Type} (v : View sig .tc .vmem S2x1x256 .f32) (f : v.ty.Contents Val) (inb1 inb0) (w1 w0) (q : Fin 256) :
    v.read Val (v.writes Val f [⟨Rect.unit (s := S2x1x256) ![1, 0, 0] ![1, 1, 256] inb1, w1⟩, ⟨Rect.unit (s := S2x1x256) ![0, 0, 0] ![1, 1, 256] inb0, w0⟩]) (ix3 1 0 q) = w1 (ix3 0 0 q) :=
  View.read_writes_cons_unit_of_mem (s := S2x1x256) v f inb1 w1 _ (ix3 1 0 q) (ix3 0 0 q) rfl fun a => by fin_cases a <;> simp [ix3]

theorem read_m0 {Val : EltTy → Type} (v : View sig .tc .vmem S2x1x256 .f32) (f : v.ty.Contents Val) (inb1 inb0) (w1 w0) (q : Fin 256) :
    v.read Val (v.writes Val f [⟨Rect.unit (s := S2x1x256) ![1, 0, 0] ![1, 1, 256] inb1, w1⟩, ⟨Rect.unit (s := S2x1x256) ![0, 0, 0] ![1, 1, 256] inb0, w0⟩]) (ix3 0 0 q) = w0 (ix3 0 0 q) :=
  (View.read_writes_cons_unit_of_not_mem (s := S2x1x256) v f inb1 w1 _ (ix3 0 0 q) rfl 0 (by left; simp [ix3])).trans
    (View.read_writes_cons_unit_of_mem (s := S2x1x256) v f inb0 w0 _ (ix3 0 0 q) (ix3 0 0 q) rfl fun a => by fin_cases a <;> simp [ix3])

theorem read_a1 {Val : EltTy → Type} (v : View sig .tc .vmem S2x128x256 .f32) (f : v.ty.Contents Val) (inb1 inb0) (w1 w0) (r : Fin 128) (q : Fin 256) :
    v.read Val (v.writes Val f [⟨Rect.unit (s := S2x128x256) ![1, 0, 0] ![1, 128, 256] inb1, w1⟩, ⟨Rect.unit (s := S2x128x256) ![0, 0, 0] ![1, 128, 256] inb0, w0⟩]) (ix3 1 r q) = w1 (ix3 0 r q) :=
  View.read_writes_cons_unit_of_mem (s := S2x128x256) v f inb1 w1 _ (ix3 1 r q) (ix3 0 r q) rfl fun a => by fin_cases a <;> simp [ix3]

theorem read_a0 {Val : EltTy → Type} (v : View sig .tc .vmem S2x128x256 .f32) (f : v.ty.Contents Val) (inb1 inb0) (w1 w0) (r : Fin 128) (q : Fin 256) :
    v.read Val (v.writes Val f [⟨Rect.unit (s := S2x128x256) ![1, 0, 0] ![1, 128, 256] inb1, w1⟩, ⟨Rect.unit (s := S2x128x256) ![0, 0, 0] ![1, 128, 256] inb0, w0⟩]) (ix3 0 r q) = w0 (ix3 0 r q) :=
  (View.read_writes_cons_unit_of_not_mem (s := S2x128x256) v f inb1 w1 _ (ix3 0 r q) rfl 0 (by left; simp [ix3])).trans
    (View.read_writes_cons_unit_of_mem (s := S2x128x256) v f inb0 w0 _ (ix3 0 r q) (ix3 0 r q) rfl fun a => by fin_cases a <;> simp [ix3])

section one
variable (𝒱 : Variants) (c : Dev nD) (bd : Option 𝒱.V) (t : Fin grid0.N) (arg3 : Memref sig .tc .vmem S1x8x256 .i32) (harg3 : arg3.IsWhole) (arg4 : Memref sig .tc .vmem S256x128 .bf16) (harg4 : arg4.IsWhole) (arg5 : Memref sig .tc .vmem S16384x128 .bf16) (harg5 : arg5.IsWhole) (arg6 : Memref sig .tc .vmem S64x1x2x128x256 .bf16) (harg6 : arg6.IsWhole) (arg7 : Memref sig .tc .vmem S1x2x256x128 .bf16) (harg7 : arg7.IsWhole) (arg8 : Memref sig .tc .vmem S1024x128 .bf16) (harg8 : arg8.IsWhole) (arg9 : Memref sig .tc .vmem S256x128 .bf16) (harg9 : arg9.IsWhole) (arg10 : Memref sig .tc .vmem S2x256x256 .bf16) (harg10 : arg10.IsWhole) (arg11 : Memref sig .tc .vmem S2x1x256 .f32) (harg11 : arg11.IsWhole) (arg12 : Memref sig .tc .vmem S2x128x256 .f32) (harg12 : arg12.IsWhole) (v24 : IVec S8x256 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg10 : BufTy.Contents (Elt Ideal) arg10.view.ty) (f_arg11 : BufTy.Contents (Elt Ideal) arg11.view.ty) (f_arg12 : BufTy.Contents (Elt Ideal) arg12.view.ty) (v106 : BitVec 32) (hv : v106 = BitVec.ofNat 32 (4 * (qb t / 4))) (k : Fin (k0_t3_loop (grid0.coords t)).trips) (b : Fin 64) (hb : b.val = 4 * (qb t / 4) + k.val) (r : Fin 128) (q : Fin 256)
include hv hb

theorem one_max0 : arg11.view.read (Elt Ideal) (arg11.view.writes (Elt Ideal) f_arg11 (tripL_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 k f_arg11 f_arg12).1) (ix3 0 0 q)
    = max1 (sel v24 0 q b.val) (fun κ => blk (arg5.view.read (Elt Ideal) X_arg5) (arg8.view.read (Elt Ideal) X_arg8) (arg10.view.read (Elt Ideal) X_arg10) 0 b 0 κ q) (slope (arg7.view.read (Elt Ideal) X_arg7) 0 * dist b.val (qb t)) (arg11.view.read (Elt Ideal) f_arg11 (ix3 0 0 q)) := by
  have hw : Scalar.addi (Scf.iv v106 1#32 k) 0#32 = BitVec.ofNat 32 b.val := by rw [hv, iv_at, addi_at, hb, Nat.add_zero]
  have hj : Scf.iv v106 1#32 k = BitVec.ofNat 32 b.val := by rw [hv, iv_at, hb]
  unfold tripL_k0_t3 trip_k0_t3
  refine (read_m0 arg11.view f_arg11 _ _ _ _ q).trans ((tail_max0 (grid0.coords t) v24 (BitVec.ofNat 32 (qb t)) v106 1#32 k _ _ _ _ q).trans ?_)
  refine max1_congr ?_ ?_ ?_ ?_
  · exact (by unfold sel; rw [hw]; rfl)
  · exact (funext fun κ => (tail_score0 q _ _ _ κ).trans (congrArg₂ (· + ·) (Finset.sum_congr rfl fun x _ => congrArg₂ (· * ·) (rd2 arg5.view X_arg5 _ (off10 t k) κ x _ x (by show 256 * b.val + κ.val = _; omega) (by omega)) (rd3 arg10.view X_arg10 _ rfl 0 q _ 0 q _ rfl (by omega) (by omega)))
      (Finset.sum_congr rfl fun x _ => congrArg₂ (· * ·) (rd2 arg8.view X_arg8 _ rfl κ x _ x (by simp) (by omega)) (rd3 arg10.view X_arg10 _ rfl 0 q _ 0 q _ rfl (by omega) (by omega)))))
  · exact (by unfold bias; rw [hj, dist_at _ _ b.isLt (qb_lt t)]; exact congrArg₂ (· * ·) (congrArg₂ (· + ·) (rd4 arg7.view X_arg7 _ rfl 0 0 0 0 0 0 0 0 rfl rfl rfl rfl) (rd4 arg7.view X_arg7 _ rfl 0 0 0 0 0 0 0 1 rfl rfl rfl rfl)) rfl)
  · exact (rd3 arg11.view f_arg11 _ rfl 0 0 q 0 0 q rfl rfl (by omega))

theorem one_sum0 : arg12.view.read (Elt Ideal) (arg12.view.writes (Elt Ideal) f_arg12 (tripL_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 k f_arg11 f_arg12).2) (ix3 0 r q)
    = sum1 (sel v24 0 q b.val) (fun κ => blk (arg5.view.read (Elt Ideal) X_arg5) (arg8.view.read (Elt Ideal) X_arg8) (arg10.view.read (Elt Ideal) X_arg10) 0 b 0 κ q) (slope (arg7.view.read (Elt Ideal) X_arg7) 0 * dist b.val (qb t)) (arg11.view.read (Elt Ideal) f_arg11 (ix3 0 0 q)) (arg12.view.read (Elt Ideal) f_arg12 (ix3 0 r q)) (fun κ => (arg6.view.read (Elt Ideal) X_arg6) (ix5 b 0 0 r κ)) := by
  have hw : Scalar.addi (Scf.iv v106 1#32 k) 0#32 = BitVec.ofNat 32 b.val := by rw [hv, iv_at, addi_at, hb, Nat.add_zero]
  have hj : Scf.iv v106 1#32 k = BitVec.ofNat 32 b.val := by rw [hv, iv_at, hb]
  unfold tripL_k0_t3 trip_k0_t3
  refine (read_a0 arg12.view f_arg12 _ _ _ _ r q).trans ((tail_sum0 (grid0.coords t) v24 (BitVec.ofNat 32 (qb t)) v106 1#32 k _ _ _ _ _ _ r q).trans ?_)
  refine sum1_congr ?_ ?_ ?_ ?_ ?_ ?_
  · exact (by unfold sel; rw [hw]; rfl)
  · exact (funext fun κ => (tail_score0 q _ _ _ κ).trans (congrArg₂ (· + ·) (Finset.sum_congr rfl fun x _ => congrArg₂ (· * ·) (rd2 arg5.view X_arg5 _ (off10 t k) κ x _ x (by show 256 * b.val + κ.val = _; omega) (by omega)) (rd3 arg10.view X_arg10 _ rfl 0 q _ 0 q _ rfl (by omega) (by omega)))
      (Finset.sum_congr rfl fun x _ => congrArg₂ (· * ·) (rd2 arg8.view X_arg8 _ rfl κ x _ x (by simp) (by omega)) (rd3 arg10.view X_arg10 _ rfl 0 q _ 0 q _ rfl (by omega) (by omega)))))
  · exact (by unfold bias; rw [hj, dist_at _ _ b.isLt (qb_lt t)]; exact congrArg₂ (· * ·) (congrArg₂ (· + ·) (rd4 arg7.view X_arg7 _ rfl 0 0 0 0 0 0 0 0 rfl rfl rfl rfl) (rd4 arg7.view X_arg7 _ rfl 0 0 0 0 0 0 0 1 rfl rfl rfl rfl)) rfl)
  · exact (rd3 arg11.view f_arg11 _ rfl 0 0 q 0 0 q rfl rfl (by omega))
  · exact (rd3 arg12.view f_arg12 _ rfl 0 r q 0 r q rfl (by omega) (by omega))
  · exact (funext fun κ => rd5 arg6.view X_arg6 _ (off11 t k) 0 0 0 r κ b 0 0 r κ (by simpa using hb) rfl rfl (by omega) (by omega))

theorem one_max1 : arg11.view.read (Elt Ideal) (arg11.view.writes (Elt Ideal) f_arg11 (tripL_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 k f_arg11 f_arg12).1) (ix3 1 0 q)
    = max1 (sel v24 1 q b.val) (fun κ => blk (arg5.view.read (Elt Ideal) X_arg5) (arg8.view.read (Elt Ideal) X_arg8) (arg10.view.read (Elt Ideal) X_arg10) 1 b 0 κ q) (slope (arg7.view.read (Elt Ideal) X_arg7) 1 * dist b.val (qb t)) (arg11.view.read (Elt Ideal) f_arg11 (ix3 1 0 q)) := by
  have hw : Scalar.addi (Scf.iv v106 1#32 k) 0#32 = BitVec.ofNat 32 b.val := by rw [hv, iv_at, addi_at, hb, Nat.add_zero]
  have hj : Scf.iv v106 1#32 k = BitVec.ofNat 32 b.val := by rw [hv, iv_at, hb]
  unfold tripL_k0_t3 trip_k0_t3
  refine (read_m1 arg11.view f_arg11 _ _ _ _ q).trans ((tail_max1 (grid0.coords t) v24 (BitVec.ofNat 32 (qb t)) v106 1#32 k _ _ _ _ q).trans ?_)
  refine max1_congr ?_ ?_ ?_ ?_
  · exact (by unfold sel; rw [hw]; rfl)
  · exact (funext fun κ => (tail_score1 q _ _ _ κ).trans (congrArg₂ (· + ·) (Finset.sum_congr rfl fun x _ => congrArg₂ (· * ·) (rd2 arg5.view X_arg5 _ (off10 t k) κ x _ x (by show 256 * b.val + κ.val = _; omega) (by omega)) (rd3 arg10.view X_arg10 _ rfl 0 q _ 1 q _ rfl (by omega) (by omega)))
      (Finset.sum_congr rfl fun x _ => congrArg₂ (· * ·) (rd2 arg8.view X_arg8 _ rfl κ x _ x (by simp) (by omega)) (rd3 arg10.view X_arg10 _ rfl 0 q _ 1 q _ rfl (by omega) (by omega)))))
  · exact (by unfold bias; rw [hj, dist_at _ _ b.isLt (qb_lt t)]; exact congrArg₂ (· * ·) (congrArg₂ (· + ·) (rd4 arg7.view X_arg7 _ rfl 0 0 0 0 0 1 0 0 rfl rfl rfl rfl) (rd4 arg7.view X_arg7 _ rfl 0 0 0 0 0 1 0 1 rfl rfl rfl rfl)) rfl)
  · exact (rd3 arg11.view f_arg11 _ rfl 0 0 q 1 0 q rfl rfl (by omega))

theorem one_sum1 : arg12.view.read (Elt Ideal) (arg12.view.writes (Elt Ideal) f_arg12 (tripL_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 k f_arg11 f_arg12).2) (ix3 1 r q)
    = sum1 (sel v24 1 q b.val) (fun κ => blk (arg5.view.read (Elt Ideal) X_arg5) (arg8.view.read (Elt Ideal) X_arg8) (arg10.view.read (Elt Ideal) X_arg10) 1 b 0 κ q) (slope (arg7.view.read (Elt Ideal) X_arg7) 1 * dist b.val (qb t)) (arg11.view.read (Elt Ideal) f_arg11 (ix3 1 0 q)) (arg12.view.read (Elt Ideal) f_arg12 (ix3 1 r q)) (fun κ => (arg6.view.read (Elt Ideal) X_arg6) (ix5 b 0 1 r κ)) := by
  have hw : Scalar.addi (Scf.iv v106 1#32 k) 0#32 = BitVec.ofNat 32 b.val := by rw [hv, iv_at, addi_at, hb, Nat.add_zero]
  have hj : Scf.iv v106 1#32 k = BitVec.ofNat 32 b.val := by rw [hv, iv_at, hb]
  unfold tripL_k0_t3 trip_k0_t3
  refine (read_a1 arg12.view f_arg12 _ _ _ _ r q).trans ((tail_sum1 (grid0.coords t) v24 (BitVec.ofNat 32 (qb t)) v106 1#32 k _ _ _ _ _ _ r q).trans ?_)
  refine sum1_congr ?_ ?_ ?_ ?_ ?_ ?_
  · exact (by unfold sel; rw [hw]; rfl)
  · exact (funext fun κ => (tail_score1 q _ _ _ κ).trans (congrArg₂ (· + ·) (Finset.sum_congr rfl fun x _ => congrArg₂ (· * ·) (rd2 arg5.view X_arg5 _ (off10 t k) κ x _ x (by show 256 * b.val + κ.val = _; omega) (by omega)) (rd3 arg10.view X_arg10 _ rfl 0 q _ 1 q _ rfl (by omega) (by omega)))
      (Finset.sum_congr rfl fun x _ => congrArg₂ (· * ·) (rd2 arg8.view X_arg8 _ rfl κ x _ x (by simp) (by omega)) (rd3 arg10.view X_arg10 _ rfl 0 q _ 1 q _ rfl (by omega) (by omega)))))
  · exact (by unfold bias; rw [hj, dist_at _ _ b.isLt (qb_lt t)]; exact congrArg₂ (· * ·) (congrArg₂ (· + ·) (rd4 arg7.view X_arg7 _ rfl 0 0 0 0 0 1 0 0 rfl rfl rfl rfl) (rd4 arg7.view X_arg7 _ rfl 0 0 0 0 0 1 0 1 rfl rfl rfl rfl)) rfl)
  · exact (rd3 arg11.view f_arg11 _ rfl 0 0 q 1 0 q rfl rfl (by omega))
  · exact (rd3 arg12.view f_arg12 _ rfl 0 r q 1 r q rfl (by omega) (by omega))
  · exact (funext fun κ => rd5 arg6.view X_arg6 _ (off12 t k) 0 0 0 r κ b 0 1 r κ (by simpa using hb) rfl rfl (by omega) (by omega))

end one

end Cert.KernelIdeal.Value
-- ==== Proof.TripFour.lean ====
/- What a trip over four blocks leaves in the two running buffers, from what it found there. -/
module

public import proofs.«01_k».proof.Proof.TripOne
public import Idealize.ShloMosaic.Lib.WritesUnit

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

section four
variable (𝒱 : Variants) (c : Dev nD) (bd : Option 𝒱.V) (t : Fin grid0.N) (arg3 : Memref sig .tc .vmem S1x8x256 .i32) (harg3 : arg3.IsWhole) (arg4 : Memref sig .tc .vmem S256x128 .bf16) (harg4 : arg4.IsWhole) (arg5 : Memref sig .tc .vmem S16384x128 .bf16) (harg5 : arg5.IsWhole) (arg6 : Memref sig .tc .vmem S64x1x2x128x256 .bf16) (harg6 : arg6.IsWhole) (arg7 : Memref sig .tc .vmem S1x2x256x128 .bf16) (harg7 : arg7.IsWhole) (arg8 : Memref sig .tc .vmem S1024x128 .bf16) (harg8 : arg8.IsWhole) (arg9 : Memref sig .tc .vmem S256x128 .bf16) (harg9 : arg9.IsWhole) (arg10 : Memref sig .tc .vmem S2x256x256 .bf16) (harg10 : arg10.IsWhole) (arg11 : Memref sig .tc .vmem S2x1x256 .f32) (harg11 : arg11.IsWhole) (arg12 : Memref sig .tc .vmem S2x128x256 .f32) (harg12 : arg12.IsWhole) (v24 : IVec S8x256 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg10 : BufTy.Contents (Elt Ideal) arg10.view.ty) (f_arg11 : BufTy.Contents (Elt Ideal) arg11.view.ty) (f_arg12 : BufTy.Contents (Elt Ideal) arg12.view.ty) (k : Fin (k0_t1_loop (grid0.coords t)).trips) (b : Fin 4 → Fin 64) (hb : ∀ u, (b u).val = 4 * k.val + u.val) (r : Fin 128) (q : Fin 256)

omit b hb in
theorem max4_congr {P0 P1 P2 P3 P0' P1' P2' P3' : Prop} {S0 S1 S2 S3 S0' S1' S2' S3' : Fin 256 → EReal} {c c' m m' : EReal} (h0 : P0 = P0') (h1 : P1 = P1') (h2 : P2 = P2') (h3 : P3 = P3')
    (s0 : S0 = S0') (s1 : S1 = S1') (s2 : S2 = S2') (s3 : S3 = S3') (hc : c = c') (hm : m = m') : max4 P0 P1 P2 P3 S0 S1 S2 S3 c m = max4 P0' P1' P2' P3' S0' S1' S2' S3' c' m' := by
  subst h0 h1 h2 h3 s0 s1 s2 s3 hc hm; rfl

omit b hb in
theorem sum4_congr {P0 P1 P2 P3 P0' P1' P2' P3' : Prop} {S0 S1 S2 S3 S0' S1' S2' S3' : Fin 256 → EReal} {c c' m m' a a' : EReal} {v0 v1 v2 v3 v0' v1' v2' v3' : Fin 256 → EReal}
    (h0 : P0 = P0') (h1 : P1 = P1') (h2 : P2 = P2') (h3 : P3 = P3') (s0 : S0 = S0') (s1 : S1 = S1') (s2 : S2 = S2') (s3 : S3 = S3') (hc : c = c') (hm : m = m') (ha : a = a')
    (g0 : v0 = v0') (g1 : v1 = v1') (g2 : v2 = v2') (g3 : v3 = v3') :
    sum4 P0 P1 P2 P3 S0 S1 S2 S3 c m a v0 v1 v2 v3 = sum4 P0' P1' P2' P3' S0' S1' S2' S3' c' m' a' v0' v1' v2' v3' := by
  subst h0 h1 h2 h3 s0 s1 s2 s3 hc hm ha g0 g1 g2 g3; rfl

include hb

theorem four_max0 : arg11.view.read (Elt Ideal) (arg11.view.writes (Elt Ideal) f_arg11 (tripL_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 k f_arg11 f_arg12).1) (ix3 0 0 q)
    = max4 (sel v24 0 q (b 0).val) (sel v24 0 q (b 1).val) (sel v24 0 q (b 2).val) (sel v24 0 q (b 3).val) (fun κ => blk (arg5.view.read (Elt Ideal) X_arg5) (arg8.view.read (Elt Ideal) X_arg8) (arg10.view.read (Elt Ideal) X_arg10) 0 (b 0) 0 κ q) (fun κ => blk (arg5.view.read (Elt Ideal) X_arg5) (arg8.view.read (Elt Ideal) X_arg8) (arg10.view.read (Elt Ideal) X_arg10) 0 (b 1) 1 κ q) (fun κ => blk (arg5.view.read (Elt Ideal) X_arg5) (arg8.view.read (Elt Ideal) X_arg8) (arg10.view.read (Elt Ideal) X_arg10) 0 (b 2) 2 κ q) (fun κ => blk (arg5.view.read (Elt Ideal) X_arg5) (arg8.view.read (Elt Ideal) X_arg8) (arg10.view.read (Elt Ideal) X_arg10) 0 (b 3) 3 κ q) (slope (arg7.view.read (Elt Ideal) X_arg7) 0 * dist (4 * k.val) (qb t)) (arg11.view.read (Elt Ideal) f_arg11 (ix3 0 0 q)) := by
  have hw : ∀ u : Fin 4, BitVec.ofNat 32 (b u).val = Scalar.addi (gw (grid0.coords t) k) (BitVec.ofNat 32 u.val) := fun u => by rw [gw_at, addi_at, hb]
  have hrow : ∀ (u : Fin 4) (κ : Fin 256), 256 * (b u).val + κ.val = 1024 * k.val + (256 * u.val + κ.val) := fun u κ => by rw [hb]; omega
  have hcol : ∀ (u : Fin 4) (κ : Fin 256), 256 * u.val + κ.val = 0 + (256 * u.val + κ.val) := fun u κ => by omega
  have hk : 4 * k.val < 64 := by have := hb 0; have := (b 0).isLt; omega
  unfold tripL_k0_t1 trip_k0_t1
  refine (read_m0 arg11.view f_arg11 _ _ _ _ q).trans ((group_max0 (grid0.coords t) v24 (BitVec.ofNat 32 (qb t)) k _ _ _ _ q).trans ?_)
  refine max4_congr ?_ ?_ ?_ ?_ ?_ ?_ ?_ ?_ ?_ ?_
  · unfold sel; rw [hw 0]; rfl
  · unfold sel; rw [hw 1]; rfl
  · unfold sel; rw [hw 2]; rfl
  · unfold sel; rw [hw 3]; rfl
  · exact funext fun κ => (group_score0 q _ _ _ _).trans (congrArg₂ (· + ·) (Finset.sum_congr rfl fun x _ => congrArg₂ (· * ·) (rd2 arg5.view X_arg5 _ (off4 t k) _ x _ x (hrow 0 κ) (by omega)) (rd3 arg10.view X_arg10 _ rfl 0 q _ 0 q _ rfl (by omega) (by omega)))
      (Finset.sum_congr rfl fun x _ => congrArg₂ (· * ·) (rd2 arg8.view X_arg8 _ rfl _ x _ x (hcol 0 κ) (by omega)) (rd3 arg10.view X_arg10 _ rfl 0 q _ 0 q _ rfl (by omega) (by omega))))
  · exact funext fun κ => (group_score0 q _ _ _ _).trans (congrArg₂ (· + ·) (Finset.sum_congr rfl fun x _ => congrArg₂ (· * ·) (rd2 arg5.view X_arg5 _ (off4 t k) _ x _ x (hrow 1 κ) (by omega)) (rd3 arg10.view X_arg10 _ rfl 0 q _ 0 q _ rfl (by omega) (by omega)))
      (Finset.sum_congr rfl fun x _ => congrArg₂ (· * ·) (rd2 arg8.view X_arg8 _ rfl _ x _ x (hcol 1 κ) (by omega)) (rd3 arg10.view X_arg10 _ rfl 0 q _ 0 q _ rfl (by omega) (by omega))))
  · exact funext fun κ => (group_score0 q _ _ _ _).trans (congrArg₂ (· + ·) (Finset.sum_congr rfl fun x _ => congrArg₂ (· * ·) (rd2 arg5.view X_arg5 _ (off4 t k) _ x _ x (hrow 2 κ) (by omega)) (rd3 arg10.view X_arg10 _ rfl 0 q _ 0 q _ rfl (by omega) (by omega)))
      (Finset.sum_congr rfl fun x _ => congrArg₂ (· * ·) (rd2 arg8.view X_arg8 _ rfl _ x _ x (hcol 2 κ) (by omega)) (rd3 arg10.view X_arg10 _ rfl 0 q _ 0 q _ rfl (by omega) (by omega))))
  · exact funext fun κ => (group_score0 q _ _ _ _).trans (congrArg₂ (· + ·) (Finset.sum_congr rfl fun x _ => congrArg₂ (· * ·) (rd2 arg5.view X_arg5 _ (off4 t k) _ x _ x (hrow 3 κ) (by omega)) (rd3 arg10.view X_arg10 _ rfl 0 q _ 0 q _ rfl (by omega) (by omega)))
      (Finset.sum_congr rfl fun x _ => congrArg₂ (· * ·) (rd2 arg8.view X_arg8 _ rfl _ x _ x (hcol 3 κ) (by omega)) (rd3 arg10.view X_arg10 _ rfl 0 q _ 0 q _ rfl (by omega) (by omega))))
  · unfold bias; rw [gw_at, dist_at _ _ hk (qb_lt t)]; exact congrArg₂ (· * ·) (congrArg₂ (· + ·) (rd4 arg7.view X_arg7 _ rfl 0 0 0 0 0 0 0 0 rfl rfl rfl rfl) (rd4 arg7.view X_arg7 _ rfl 0 0 0 0 0 0 0 1 rfl rfl rfl rfl)) rfl
  · exact rd3 arg11.view f_arg11 _ rfl 0 0 q 0 0 q rfl rfl (by omega)

theorem four_sum0 : arg12.view.read (Elt Ideal) (arg12.view.writes (Elt Ideal) f_arg12 (tripL_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 k f_arg11 f_arg12).2) (ix3 0 r q)
    = sum4 (sel v24 0 q (b 0).val) (sel v24 0 q (b 1).val) (sel v24 0 q (b 2).val) (sel v24 0 q (b 3).val) (fun κ => blk (arg5.view.read (Elt Ideal) X_arg5) (arg8.view.read (Elt Ideal) X_arg8) (arg10.view.read (Elt Ideal) X_arg10) 0 (b 0) 0 κ q) (fun κ => blk (arg5.view.read (Elt Ideal) X_arg5) (arg8.view.read (Elt Ideal) X_arg8) (arg10.view.read (Elt Ideal) X_arg10) 0 (b 1) 1 κ q) (fun κ => blk (arg5.view.read (Elt Ideal) X_arg5) (arg8.view.read (Elt Ideal) X_arg8) (arg10.view.read (Elt Ideal) X_arg10) 0 (b 2) 2 κ q) (fun κ => blk (arg5.view.read (Elt Ideal) X_arg5) (arg8.view.read (Elt Ideal) X_arg8) (arg10.view.read (Elt Ideal) X_arg10) 0 (b 3) 3 κ q) (slope (arg7.view.read (Elt Ideal) X_arg7) 0 * dist (4 * k.val) (qb t)) (arg11.view.read (Elt Ideal) f_arg11 (ix3 0 0 q)) (arg12.view.read (Elt Ideal) f_arg12 (ix3 0 r q)) (fun κ => (arg6.view.read (Elt Ideal) X_arg6) (ix5 (b 0) 0 0 r κ)) (fun κ => (arg6.view.read (Elt Ideal) X_arg6) (ix5 (b 1) 0 0 r κ)) (fun κ => (arg6.view.read (Elt Ideal) X_arg6) (ix5 (b 2) 0 0 r κ)) (fun κ => (arg6.view.read (Elt Ideal) X_arg6) (ix5 (b 3) 0 0 r κ)) := by
  have hw : ∀ u : Fin 4, BitVec.ofNat 32 (b u).val = Scalar.addi (gw (grid0.coords t) k) (BitVec.ofNat 32 u.val) := fun u => by rw [gw_at, addi_at, hb]
  have hrow : ∀ (u : Fin 4) (κ : Fin 256), 256 * (b u).val + κ.val = 1024 * k.val + (256 * u.val + κ.val) := fun u κ => by rw [hb]; omega
  have hcol : ∀ (u : Fin 4) (κ : Fin 256), 256 * u.val + κ.val = 0 + (256 * u.val + κ.val) := fun u κ => by omega
  have hk : 4 * k.val < 64 := by have := hb 0; have := (b 0).isLt; omega
  unfold tripL_k0_t1 trip_k0_t1
  refine (read_a0 arg12.view f_arg12 _ _ _ _ r q).trans ((group_sum0 (grid0.coords t) v24 (BitVec.ofNat 32 (qb t)) k _ _ _ _ _ _ _ _ _ r q).trans ?_)
  refine sum4_congr ?_ ?_ ?_ ?_ ?_ ?_ ?_ ?_ ?_ ?_ ?_ ?_ ?_ ?_ ?_
  · unfold sel; rw [hw 0]; rfl
  · unfold sel; rw [hw 1]; rfl
  · unfold sel; rw [hw 2]; rfl
  · unfold sel; rw [hw 3]; rfl
  · exact funext fun κ => (group_score0 q _ _ _ _).trans (congrArg₂ (· + ·) (Finset.sum_congr rfl fun x _ => congrArg₂ (· * ·) (rd2 arg5.view X_arg5 _ (off4 t k) _ x _ x (hrow 0 κ) (by omega)) (rd3 arg10.view X_arg10 _ rfl 0 q _ 0 q _ rfl (by omega) (by omega)))
      (Finset.sum_congr rfl fun x _ => congrArg₂ (· * ·) (rd2 arg8.view X_arg8 _ rfl _ x _ x (hcol 0 κ) (by omega)) (rd3 arg10.view X_arg10 _ rfl 0 q _ 0 q _ rfl (by omega) (by omega))))
  · exact funext fun κ => (group_score0 q _ _ _ _).trans (congrArg₂ (· + ·) (Finset.sum_congr rfl fun x _ => congrArg₂ (· * ·) (rd2 arg5.view X_arg5 _ (off4 t k) _ x _ x (hrow 1 κ) (by omega)) (rd3 arg10.view X_arg10 _ rfl 0 q _ 0 q _ rfl (by omega) (by omega)))
      (Finset.sum_congr rfl fun x _ => congrArg₂ (· * ·) (rd2 arg8.view X_arg8 _ rfl _ x _ x (hcol 1 κ) (by omega)) (rd3 arg10.view X_arg10 _ rfl 0 q _ 0 q _ rfl (by omega) (by omega))))
  · exact funext fun κ => (group_score0 q _ _ _ _).trans (congrArg₂ (· + ·) (Finset.sum_congr rfl fun x _ => congrArg₂ (· * ·) (rd2 arg5.view X_arg5 _ (off4 t k) _ x _ x (hrow 2 κ) (by omega)) (rd3 arg10.view X_arg10 _ rfl 0 q _ 0 q _ rfl (by omega) (by omega)))
      (Finset.sum_congr rfl fun x _ => congrArg₂ (· * ·) (rd2 arg8.view X_arg8 _ rfl _ x _ x (hcol 2 κ) (by omega)) (rd3 arg10.view X_arg10 _ rfl 0 q _ 0 q _ rfl (by omega) (by omega))))
  · exact funext fun κ => (group_score0 q _ _ _ _).trans (congrArg₂ (· + ·) (Finset.sum_congr rfl fun x _ => congrArg₂ (· * ·) (rd2 arg5.view X_arg5 _ (off4 t k) _ x _ x (hrow 3 κ) (by omega)) (rd3 arg10.view X_arg10 _ rfl 0 q _ 0 q _ rfl (by omega) (by omega)))
      (Finset.sum_congr rfl fun x _ => congrArg₂ (· * ·) (rd2 arg8.view X_arg8 _ rfl _ x _ x (hcol 3 κ) (by omega)) (rd3 arg10.view X_arg10 _ rfl 0 q _ 0 q _ rfl (by omega) (by omega))))
  · unfold bias; rw [gw_at, dist_at _ _ hk (qb_lt t)]; exact congrArg₂ (· * ·) (congrArg₂ (· + ·) (rd4 arg7.view X_arg7 _ rfl 0 0 0 0 0 0 0 0 rfl rfl rfl rfl) (rd4 arg7.view X_arg7 _ rfl 0 0 0 0 0 0 0 1 rfl rfl rfl rfl)) rfl
  · exact rd3 arg11.view f_arg11 _ rfl 0 0 q 0 0 q rfl rfl (by omega)
  · exact rd3 arg12.view f_arg12 _ rfl 0 r q 0 r q rfl (by omega) (by omega)
  · exact funext fun κ => rd5 arg6.view X_arg6 _ (off5 t k 0) 0 0 0 r κ (b 0) 0 0 r κ (hb 0) rfl rfl (by omega) (by omega)
  · exact funext fun κ => rd5 arg6.view X_arg6 _ (off5 t k 1) 0 0 0 r κ (b 1) 0 0 r κ (hb 1) rfl rfl (by omega) (by omega)
  · exact funext fun κ => rd5 arg6.view X_arg6 _ (off5 t k 2) 0 0 0 r κ (b 2) 0 0 r κ (hb 2) rfl rfl (by omega) (by omega)
  · exact funext fun κ => rd5 arg6.view X_arg6 _ (off5 t k 3) 0 0 0 r κ (b 3) 0 0 r κ (hb 3) rfl rfl (by omega) (by omega)

theorem four_max1 : arg11.view.read (Elt Ideal) (arg11.view.writes (Elt Ideal) f_arg11 (tripL_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 k f_arg11 f_arg12).1) (ix3 1 0 q)
    = max4 (sel v24 1 q (b 0).val) (sel v24 1 q (b 1).val) (sel v24 1 q (b 2).val) (sel v24 1 q (b 3).val) (fun κ => blk (arg5.view.read (Elt Ideal) X_arg5) (arg8.view.read (Elt Ideal) X_arg8) (arg10.view.read (Elt Ideal) X_arg10) 1 (b 0) 0 κ q) (fun κ => blk (arg5.view.read (Elt Ideal) X_arg5) (arg8.view.read (Elt Ideal) X_arg8) (arg10.view.read (Elt Ideal) X_arg10) 1 (b 1) 1 κ q) (fun κ => blk (arg5.view.read (Elt Ideal) X_arg5) (arg8.view.read (Elt Ideal) X_arg8) (arg10.view.read (Elt Ideal) X_arg10) 1 (b 2) 2 κ q) (fun κ => blk (arg5.view.read (Elt Ideal) X_arg5) (arg8.view.read (Elt Ideal) X_arg8) (arg10.view.read (Elt Ideal) X_arg10) 1 (b 3) 3 κ q) (slope (arg7.view.read (Elt Ideal) X_arg7) 1 * dist (4 * k.val) (qb t)) (arg11.view.read (Elt Ideal) f_arg11 (ix3 1 0 q)) := by
  have hw : ∀ u : Fin 4, BitVec.ofNat 32 (b u).val = Scalar.addi (gw (grid0.coords t) k) (BitVec.ofNat 32 u.val) := fun u => by rw [gw_at, addi_at, hb]
  have hrow : ∀ (u : Fin 4) (κ : Fin 256), 256 * (b u).val + κ.val = 1024 * k.val + (256 * u.val + κ.val) := fun u κ => by rw [hb]; omega
  have hcol : ∀ (u : Fin 4) (κ : Fin 256), 256 * u.val + κ.val = 0 + (256 * u.val + κ.val) := fun u κ => by omega
  have hk : 4 * k.val < 64 := by have := hb 0; have := (b 0).isLt; omega
  unfold tripL_k0_t1 trip_k0_t1
  refine (read_m1 arg11.view f_arg11 _ _ _ _ q).trans ((group_max1 (grid0.coords t) v24 (BitVec.ofNat 32 (qb t)) k _ _ _ _ q).trans ?_)
  refine max4_congr ?_ ?_ ?_ ?_ ?_ ?_ ?_ ?_ ?_ ?_
  · unfold sel; rw [hw 0]; rfl
  · unfold sel; rw [hw 1]; rfl
  · unfold sel; rw [hw 2]; rfl
  · unfold sel; rw [hw 3]; rfl
  · exact funext fun κ => (group_score1 q _ _ _ _).trans (congrArg₂ (· + ·) (Finset.sum_congr rfl fun x _ => congrArg₂ (· * ·) (rd2 arg5.view X_arg5 _ (off4 t k) _ x _ x (hrow 0 κ) (by omega)) (rd3 arg10.view X_arg10 _ rfl 0 q _ 1 q _ rfl (by omega) (by omega)))
      (Finset.sum_congr rfl fun x _ => congrArg₂ (· * ·) (rd2 arg8.view X_arg8 _ rfl _ x _ x (hcol 0 κ) (by omega)) (rd3 arg10.view X_arg10 _ rfl 0 q _ 1 q _ rfl (by omega) (by omega))))
  · exact funext fun κ => (group_score1 q _ _ _ _).trans (congrArg₂ (· + ·) (Finset.sum_congr rfl fun x _ => congrArg₂ (· * ·) (rd2 arg5.view X_arg5 _ (off4 t k) _ x _ x (hrow 1 κ) (by omega)) (rd3 arg10.view X_arg10 _ rfl 0 q _ 1 q _ rfl (by omega) (by omega)))
      (Finset.sum_congr rfl fun x _ => congrArg₂ (· * ·) (rd2 arg8.view X_arg8 _ rfl _ x _ x (hcol 1 κ) (by omega)) (rd3 arg10.view X_arg10 _ rfl 0 q _ 1 q _ rfl (by omega) (by omega))))
  · exact funext fun κ => (group_score1 q _ _ _ _).trans (congrArg₂ (· + ·) (Finset.sum_congr rfl fun x _ => congrArg₂ (· * ·) (rd2 arg5.view X_arg5 _ (off4 t k) _ x _ x (hrow 2 κ) (by omega)) (rd3 arg10.view X_arg10 _ rfl 0 q _ 1 q _ rfl (by omega) (by omega)))
      (Finset.sum_congr rfl fun x _ => congrArg₂ (· * ·) (rd2 arg8.view X_arg8 _ rfl _ x _ x (hcol 2 κ) (by omega)) (rd3 arg10.view X_arg10 _ rfl 0 q _ 1 q _ rfl (by omega) (by omega))))
  · exact funext fun κ => (group_score1 q _ _ _ _).trans (congrArg₂ (· + ·) (Finset.sum_congr rfl fun x _ => congrArg₂ (· * ·) (rd2 arg5.view X_arg5 _ (off4 t k) _ x _ x (hrow 3 κ) (by omega)) (rd3 arg10.view X_arg10 _ rfl 0 q _ 1 q _ rfl (by omega) (by omega)))
      (Finset.sum_congr rfl fun x _ => congrArg₂ (· * ·) (rd2 arg8.view X_arg8 _ rfl _ x _ x (hcol 3 κ) (by omega)) (rd3 arg10.view X_arg10 _ rfl 0 q _ 1 q _ rfl (by omega) (by omega))))
  · unfold bias; rw [gw_at, dist_at _ _ hk (qb_lt t)]; exact congrArg₂ (· * ·) (congrArg₂ (· + ·) (rd4 arg7.view X_arg7 _ rfl 0 0 0 0 0 1 0 0 rfl rfl rfl rfl) (rd4 arg7.view X_arg7 _ rfl 0 0 0 0 0 1 0 1 rfl rfl rfl rfl)) rfl
  · exact rd3 arg11.view f_arg11 _ rfl 0 0 q 1 0 q rfl rfl (by omega)

theorem four_sum1 : arg12.view.read (Elt Ideal) (arg12.view.writes (Elt Ideal) f_arg12 (tripL_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 k f_arg11 f_arg12).2) (ix3 1 r q)
    = sum4 (sel v24 1 q (b 0).val) (sel v24 1 q (b 1).val) (sel v24 1 q (b 2).val) (sel v24 1 q (b 3).val) (fun κ => blk (arg5.view.read (Elt Ideal) X_arg5) (arg8.view.read (Elt Ideal) X_arg8) (arg10.view.read (Elt Ideal) X_arg10) 1 (b 0) 0 κ q) (fun κ => blk (arg5.view.read (Elt Ideal) X_arg5) (arg8.view.read (Elt Ideal) X_arg8) (arg10.view.read (Elt Ideal) X_arg10) 1 (b 1) 1 κ q) (fun κ => blk (arg5.view.read (Elt Ideal) X_arg5) (arg8.view.read (Elt Ideal) X_arg8) (arg10.view.read (Elt Ideal) X_arg10) 1 (b 2) 2 κ q) (fun κ => blk (arg5.view.read (Elt Ideal) X_arg5) (arg8.view.read (Elt Ideal) X_arg8) (arg10.view.read (Elt Ideal) X_arg10) 1 (b 3) 3 κ q) (slope (arg7.view.read (Elt Ideal) X_arg7) 1 * dist (4 * k.val) (qb t)) (arg11.view.read (Elt Ideal) f_arg11 (ix3 1 0 q)) (arg12.view.read (Elt Ideal) f_arg12 (ix3 1 r q)) (fun κ => (arg6.view.read (Elt Ideal) X_arg6) (ix5 (b 0) 0 1 r κ)) (fun κ => (arg6.view.read (Elt Ideal) X_arg6) (ix5 (b 1) 0 1 r κ)) (fun κ => (arg6.view.read (Elt Ideal) X_arg6) (ix5 (b 2) 0 1 r κ)) (fun κ => (arg6.view.read (Elt Ideal) X_arg6) (ix5 (b 3) 0 1 r κ)) := by
  have hw : ∀ u : Fin 4, BitVec.ofNat 32 (b u).val = Scalar.addi (gw (grid0.coords t) k) (BitVec.ofNat 32 u.val) := fun u => by rw [gw_at, addi_at, hb]
  have hrow : ∀ (u : Fin 4) (κ : Fin 256), 256 * (b u).val + κ.val = 1024 * k.val + (256 * u.val + κ.val) := fun u κ => by rw [hb]; omega
  have hcol : ∀ (u : Fin 4) (κ : Fin 256), 256 * u.val + κ.val = 0 + (256 * u.val + κ.val) := fun u κ => by omega
  have hk : 4 * k.val < 64 := by have := hb 0; have := (b 0).isLt; omega
  unfold tripL_k0_t1 trip_k0_t1
  refine (read_a1 arg12.view f_arg12 _ _ _ _ r q).trans ((group_sum1 (grid0.coords t) v24 (BitVec.ofNat 32 (qb t)) k _ _ _ _ _ _ _ _ _ r q).trans ?_)
  refine sum4_congr ?_ ?_ ?_ ?_ ?_ ?_ ?_ ?_ ?_ ?_ ?_ ?_ ?_ ?_ ?_
  · unfold sel; rw [hw 0]; rfl
  · unfold sel; rw [hw 1]; rfl
  · unfold sel; rw [hw 2]; rfl
  · unfold sel; rw [hw 3]; rfl
  · exact funext fun κ => (group_score1 q _ _ _ _).trans (congrArg₂ (· + ·) (Finset.sum_congr rfl fun x _ => congrArg₂ (· * ·) (rd2 arg5.view X_arg5 _ (off4 t k) _ x _ x (hrow 0 κ) (by omega)) (rd3 arg10.view X_arg10 _ rfl 0 q _ 1 q _ rfl (by omega) (by omega)))
      (Finset.sum_congr rfl fun x _ => congrArg₂ (· * ·) (rd2 arg8.view X_arg8 _ rfl _ x _ x (hcol 0 κ) (by omega)) (rd3 arg10.view X_arg10 _ rfl 0 q _ 1 q _ rfl (by omega) (by omega))))
  · exact funext fun κ => (group_score1 q _ _ _ _).trans (congrArg₂ (· + ·) (Finset.sum_congr rfl fun x _ => congrArg₂ (· * ·) (rd2 arg5.view X_arg5 _ (off4 t k) _ x _ x (hrow 1 κ) (by omega)) (rd3 arg10.view X_arg10 _ rfl 0 q _ 1 q _ rfl (by omega) (by omega)))
      (Finset.sum_congr rfl fun x _ => congrArg₂ (· * ·) (rd2 arg8.view X_arg8 _ rfl _ x _ x (hcol 1 κ) (by omega)) (rd3 arg10.view X_arg10 _ rfl 0 q _ 1 q _ rfl (by omega) (by omega))))
  · exact funext fun κ => (group_score1 q _ _ _ _).trans (congrArg₂ (· + ·) (Finset.sum_congr rfl fun x _ => congrArg₂ (· * ·) (rd2 arg5.view X_arg5 _ (off4 t k) _ x _ x (hrow 2 κ) (by omega)) (rd3 arg10.view X_arg10 _ rfl 0 q _ 1 q _ rfl (by omega) (by omega)))
      (Finset.sum_congr rfl fun x _ => congrArg₂ (· * ·) (rd2 arg8.view X_arg8 _ rfl _ x _ x (hcol 2 κ) (by omega)) (rd3 arg10.view X_arg10 _ rfl 0 q _ 1 q _ rfl (by omega) (by omega))))
  · exact funext fun κ => (group_score1 q _ _ _ _).trans (congrArg₂ (· + ·) (Finset.sum_congr rfl fun x _ => congrArg₂ (· * ·) (rd2 arg5.view X_arg5 _ (off4 t k) _ x _ x (hrow 3 κ) (by omega)) (rd3 arg10.view X_arg10 _ rfl 0 q _ 1 q _ rfl (by omega) (by omega)))
      (Finset.sum_congr rfl fun x _ => congrArg₂ (· * ·) (rd2 arg8.view X_arg8 _ rfl _ x _ x (hcol 3 κ) (by omega)) (rd3 arg10.view X_arg10 _ rfl 0 q _ 1 q _ rfl (by omega) (by omega))))
  · unfold bias; rw [gw_at, dist_at _ _ hk (qb_lt t)]; exact congrArg₂ (· * ·) (congrArg₂ (· + ·) (rd4 arg7.view X_arg7 _ rfl 0 0 0 0 0 1 0 0 rfl rfl rfl rfl) (rd4 arg7.view X_arg7 _ rfl 0 0 0 0 0 1 0 1 rfl rfl rfl rfl)) rfl
  · exact rd3 arg11.view f_arg11 _ rfl 0 0 q 1 0 q rfl rfl (by omega)
  · exact rd3 arg12.view f_arg12 _ rfl 0 r q 1 r q rfl (by omega) (by omega)
  · exact funext fun κ => rd5 arg6.view X_arg6 _ (off6 t k 0) 0 0 0 r κ (b 0) 0 1 r κ (hb 0) rfl rfl (by omega) (by omega)
  · exact funext fun κ => rd5 arg6.view X_arg6 _ (off6 t k 1) 0 0 0 r κ (b 1) 0 1 r κ (hb 1) rfl rfl (by omega) (by omega)
  · exact funext fun κ => rd5 arg6.view X_arg6 _ (off6 t k 2) 0 0 0 r κ (b 2) 0 1 r κ (hb 2) rfl rfl (by omega) (by omega)
  · exact funext fun κ => rd5 arg6.view X_arg6 _ (off6 t k 3) 0 0 0 r κ (b 3) 0 1 r κ (hb 3) rfl rfl (by omega) (by omega)

end four

end Cert.KernelIdeal.Value
-- ==== Proof.Walk.lean ====
/- The kernel's two loops, walked: after the own block and the first blocks of the past the running buffers hold a real shift and the sums weighted under it. -/
module

public import proofs.«01_k».proof.Proof.TripFour
public import Idealize.ShloMosaic.Lib.Writes

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

section pure
variable (P : ℕ → Prop) (z : ℕ → Fin 256 → ℝ)

theorem step_one (J : ℕ) (μ c : ℝ) (S : Fin 256 → EReal) (s : Fin 256 → ℝ) (hS : ∀ κ, S κ = s κ) (hz : ∀ κ, s κ + c = z J κ) :
    ∃ μ' : ℝ, max1 (P J) S c μ = μ' ∧ ∀ (Po : Fin 256 → Prop) (zo : Fin 256 → ℝ) (Vo : Fin 256 → EReal) (V : ℕ → Fin 256 → EReal),
      sum1 (P J) S c μ (acc Po zo Vo P z V J μ) (V J) = acc Po zo Vo P z V (J + 1) μ' := by
  obtain ⟨μ', h⟩ := max_real μ c (best (P J) S) (best_ne_top _ S s hS)
  refine ⟨μ', h, fun Po zo Vo V => ?_⟩
  unfold sum1 max1
  rw [h, acc_scale, sum_pw _ S s hS, acc_succ]
  refine congrArg _ (congrArg (fun y => part _ y _ _) (funext hz))

theorem step_four (J : ℕ) (μ c : ℝ) (S0 S1 S2 S3 : Fin 256 → EReal) (s0 s1 s2 s3 : Fin 256 → ℝ) (h0 : ∀ κ, S0 κ = s0 κ) (h1 : ∀ κ, S1 κ = s1 κ) (h2 : ∀ κ, S2 κ = s2 κ)
    (h3 : ∀ κ, S3 κ = s3 κ) (z0 : ∀ κ, s0 κ + c = z J κ) (z1 : ∀ κ, s1 κ + c = z (J + 1) κ) (z2 : ∀ κ, s2 κ + c = z (J + 2) κ) (z3 : ∀ κ, s3 κ + c = z (J + 3) κ) :
    ∃ μ' : ℝ, max4 (P J) (P (J + 1)) (P (J + 2)) (P (J + 3)) S0 S1 S2 S3 c μ = μ' ∧ ∀ (Po : Fin 256 → Prop) (zo : Fin 256 → ℝ) (Vo : Fin 256 → EReal) (V : ℕ → Fin 256 → EReal),
      sum4 (P J) (P (J + 1)) (P (J + 2)) (P (J + 3)) S0 S1 S2 S3 c μ (acc Po zo Vo P z V J μ) (V J) (V (J + 1)) (V (J + 2)) (V (J + 3)) = acc Po zo Vo P z V (J + 4) μ' := by
  have hne : max (max (max (best (P J) S0) (best (P (J + 1)) S1)) (best (P (J + 2)) S2)) (best (P (J + 3)) S3) ≠ ⊤ := by
    refine ne_of_lt (max_lt (max_lt (max_lt ?_ ?_) ?_) ?_) <;> refine lt_top_iff_ne_top.2 ?_
    exacts [best_ne_top _ S0 s0 h0, best_ne_top _ S1 s1 h1, best_ne_top _ S2 s2 h2, best_ne_top _ S3 s3 h3]
  obtain ⟨μ', h⟩ := max_real μ c _ hne
  refine ⟨μ', h, fun Po zo Vo V => ?_⟩
  unfold sum4 max4
  rw [h, acc_scale, sum_pw _ S0 s0 h0, sum_pw _ S1 s1 h1, sum_pw _ S2 s2 h2, sum_pw _ S3 s3 h3]
  rw [show J + 4 = J + 3 + 1 from rfl, acc_succ, show J + 3 = J + 2 + 1 from rfl, acc_succ, show J + 2 = J + 1 + 1 from rfl, acc_succ, acc_succ]
  rw [funext z0, funext z1, funext z2, funext z3]
  simp only [add_assoc]
  rfl

/-- The own block: the largest score is a real, and the weighted sum of the values is the first part of the running sum. -/
theorem own_init (q : Fin 256) (S : Fin 256 → EReal) (zo : Fin 256 → ℝ) (hS : ∀ κ, S κ = if κ.val ≤ q.val then ((zo κ : ℝ) : EReal) else ⊥) :
    ∃ μ : ℝ, top S = μ ∧ ∀ Vo : Fin 256 → EReal, ∑ κ, Vo κ * Ideal.exp2 (S κ - top S) = part (fun κ => κ.val ≤ q.val) zo Vo μ := by
  have ht : top S ≠ ⊤ := by
    refine ne_of_lt ?_
    unfold top
    rw [Finset.fold_max_lt]
    refine ⟨bot_lt_top, fun x _ => ?_⟩
    rw [hS]; split_ifs
    · exact EReal.coe_lt_top _
    · exact bot_lt_top
  have hb : top S ≠ ⊥ := by
    refine ne_of_gt (lt_of_lt_of_le (b := S q) ?_ ?_)
    · rw [hS, if_pos le_rfl]; exact EReal.bot_lt_coe _
    · unfold top
      exact Finset.le_fold_max (c := S q) |>.2 (Or.inr ⟨q, Finset.mem_univ _, le_rfl⟩)
  refine ⟨(top S).toReal, (EReal.coe_toReal ht hb).symm, fun Vo => Finset.sum_congr rfl fun κ _ => congrArg (Vo κ * ·) ?_⟩
  rw [hS, ← EReal.coe_toReal ht hb, EReal.toReal_coe]
  unfold wt
  split_ifs
  · rw [← EReal.coe_sub, Ideal.exp2_coe]
  · rw [sub_eq_add_neg, EReal.bot_add, Ideal.exp2_bot]

end pure

/-- A key's score for head `h` and query `q`, in powers of two: the product `s`, and the slope times the key's distance from the query block's first row. -/
def zz (n : ℕ) (s : Fin 2 → Fin 256 → ℕ → Fin 256 → ℝ) (σ : Fin 2 → ℝ) (h : Fin 2) (q : Fin 256) (b : ℕ) (κ : Fin 256) : ℝ :=
  s h q b κ + σ h * (256 * ((b : ℝ) - n) + κ.val)

/-- Row `r` of block `b`'s values for head `h`. -/
def vv (T : Vec Ideal S64x1x2x128x256 .bf16) (h : Fin 2) (r : Fin 128) (b : ℕ) (κ : Fin 256) : EReal :=
  if hb : b < 64 then T (ix5 ⟨b, hb⟩ 0 h r κ) else 0

/-- The running buffers after the own block and the first `J` blocks: for a head and a query, a real shift `μ` and the sums weighted under it. -/
def Inv (n : ℕ) (s : Fin 2 → Fin 256 → ℕ → Fin 256 → ℝ) (σ : Fin 2 → ℝ) (v24 : IVec S8x256 32) (T : Vec Ideal S64x1x2x128x256 .bf16) (J : ℕ)
    (M : Vec Ideal S2x1x256 .f32) (A : Vec Ideal S2x128x256 .f32) : Prop :=
  ∀ (h : Fin 2) (q : Fin 256), ∃ μ : ℝ, M (ix3 h 0 q) = (μ : EReal) ∧ ∀ r : Fin 128,
    A (ix3 h r q) = acc (fun κ => κ.val ≤ q.val) (zz n s σ h q n) (vv T h r n) (sel v24 h q) (zz n s σ h q) (vv T h r) J μ

section walk
variable (𝒱 : Variants) (c : Dev nD) (bd : Option 𝒱.V) (t : Fin grid0.N) (arg3 : Memref sig .tc .vmem S1x8x256 .i32) (harg3 : arg3.IsWhole) (arg4 : Memref sig .tc .vmem S256x128 .bf16) (harg4 : arg4.IsWhole) (arg5 : Memref sig .tc .vmem S16384x128 .bf16) (harg5 : arg5.IsWhole) (arg6 : Memref sig .tc .vmem S64x1x2x128x256 .bf16) (harg6 : arg6.IsWhole) (arg7 : Memref sig .tc .vmem S1x2x256x128 .bf16) (harg7 : arg7.IsWhole) (arg8 : Memref sig .tc .vmem S1024x128 .bf16) (harg8 : arg8.IsWhole) (arg9 : Memref sig .tc .vmem S256x128 .bf16) (harg9 : arg9.IsWhole) (arg10 : Memref sig .tc .vmem S2x256x256 .bf16) (harg10 : arg10.IsWhole) (arg11 : Memref sig .tc .vmem S2x1x256 .f32) (harg11 : arg11.IsWhole) (arg12 : Memref sig .tc .vmem S2x128x256 .f32) (harg12 : arg12.IsWhole) (v24 : IVec S8x256 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg10 : BufTy.Contents (Elt Ideal) arg10.view.ty) (s : Fin 2 → Fin 256 → ℕ → Fin 256 → ℝ) (σ : Fin 2 → ℝ)
  (hs : ∀ (h : Fin 2) (q : Fin 256) (b : Fin 64) (u : Fin 4) (κ : Fin 256), blk (arg5.view.read (Elt Ideal) X_arg5) (arg8.view.read (Elt Ideal) X_arg8) (arg10.view.read (Elt Ideal) X_arg10) h b u κ q = ((s h q b.val κ + σ h * (256 * u.val + κ.val) : ℝ) : EReal))
  (hσ : ∀ h : Fin 2, slope (arg7.view.read (Elt Ideal) X_arg7) h = ((σ h : ℝ) : EReal))
include hs hσ

/-- One trip over four blocks. -/
theorem inv_four (f_arg11 : BufTy.Contents (Elt Ideal) arg11.view.ty) (f_arg12 : BufTy.Contents (Elt Ideal) arg12.view.ty) (k : Fin (k0_t1_loop (grid0.coords t)).trips) (hI : Inv (qb t) s σ v24 (arg6.view.read (Elt Ideal) X_arg6) (4 * k.val) (arg11.view.read (Elt Ideal) f_arg11) (arg12.view.read (Elt Ideal) f_arg12)) :
    Inv (qb t) s σ v24 (arg6.view.read (Elt Ideal) X_arg6) (4 * (k.val + 1)) (arg11.view.read (Elt Ideal) (arg11.view.writes (Elt Ideal) f_arg11 (tripL_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 k f_arg11 f_arg12).1)) (arg12.view.read (Elt Ideal) (arg12.view.writes (Elt Ideal) f_arg12 (tripL_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 k f_arg11 f_arg12).2)) := by
  have hk : k.val < qb t / 4 := lt_of_lt_of_eq k.isLt (trips1 t)
  have hn := qb_lt t
  have hb : ∀ u : Fin 4, 4 * k.val + u.val < 64 := fun u => by omega
  have hc : ∀ h : Fin 2, slope (arg7.view.read (Elt Ideal) X_arg7) h * dist (4 * k.val) (qb t) = ((σ h * ((((4 * k.val : ℕ) : Int) - (qb t : Int)) * 256 : Int) : ℝ) : EReal) := fun h => by
    rw [hσ h]; unfold dist; exact (EReal.coe_mul _ _).symm
  have hz : ∀ (h : Fin 2) (q : Fin 256) (u : Fin 4) (κ : Fin 256), (s h q (4 * k.val + u.val) κ + σ h * (256 * u.val + κ.val)) + σ h * ((((4 * k.val : ℕ) : Int) - (qb t : Int)) * 256 : Int)
      = zz (qb t) s σ h q (4 * k.val + u.val) κ := fun h q u κ => by unfold zz; push_cast; ring
  have hv : ∀ (h : Fin 2) (r : Fin 128) (u : Fin 4), (fun κ => (arg6.view.read (Elt Ideal) X_arg6) (ix5 (⟨4 * k.val + u.val, hb u⟩ : Fin 64) 0 h r κ)) = vv (arg6.view.read (Elt Ideal) X_arg6) h r (4 * k.val + u.val) := fun h r u => by
    funext κ; unfold vv; rw [dif_pos (hb u)]
  intro h q
  obtain ⟨μ, hM, hA⟩ := hI h q
  obtain ⟨μ', e, f⟩ := step_four (sel v24 h q) (zz (qb t) s σ h q) (4 * k.val) μ _ _ _ _ _ _ _ _ _ (fun κ => hs h q ⟨_, hb 0⟩ 0 κ) (fun κ => hs h q ⟨_, hb 1⟩ 1 κ) (fun κ => hs h q ⟨_, hb 2⟩ 2 κ)
    (fun κ => hs h q ⟨_, hb 3⟩ 3 κ) (hz h q 0) (hz h q 1) (hz h q 2) (hz h q 3)
  refine ⟨μ', ?_, fun r => ?_⟩
  · rw [← hc, ← hM] at e
    refine Eq.trans ?_ e
    match h with
    | 0 => exact four_max0 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 k (fun u => ⟨4 * k.val + u.val, hb u⟩) (fun _ => rfl) q
    | 1 => exact four_max1 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 k (fun u => ⟨4 * k.val + u.val, hb u⟩) (fun _ => rfl) q
  · have f' := f (fun κ => κ.val ≤ q.val) (zz (qb t) s σ h q (qb t)) (vv (arg6.view.read (Elt Ideal) X_arg6) h r (qb t)) (vv (arg6.view.read (Elt Ideal) X_arg6) h r)
    rw [← hc, ← hM, ← hA r] at f'
    refine Eq.trans ?_ f'
    have g0 := hv h r 0
    have g1 := hv h r 1
    have g2 := hv h r 2
    have g3 := hv h r 3
    match h with
    | 0 => exact (four_sum0 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 k (fun u => ⟨4 * k.val + u.val, hb u⟩) (fun _ => rfl) r q).trans (sum4_congr rfl rfl rfl rfl rfl rfl rfl rfl rfl rfl rfl g0 g1 g2 g3)
    | 1 => exact (four_sum1 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 k (fun u => ⟨4 * k.val + u.val, hb u⟩) (fun _ => rfl) r q).trans (sum4_congr rfl rfl rfl rfl rfl rfl rfl rfl rfl rfl rfl g0 g1 g2 g3)

/-- One trip over one block. -/
theorem inv_one (v106 : BitVec 32) (hv106 : v106 = BitVec.ofNat 32 (4 * (qb t / 4))) (f_arg11 : BufTy.Contents (Elt Ideal) arg11.view.ty) (f_arg12 : BufTy.Contents (Elt Ideal) arg12.view.ty) (k : Fin (k0_t3_loop (grid0.coords t)).trips) (hI : Inv (qb t) s σ v24 (arg6.view.read (Elt Ideal) X_arg6) (4 * (qb t / 4) + k.val) (arg11.view.read (Elt Ideal) f_arg11) (arg12.view.read (Elt Ideal) f_arg12)) :
    Inv (qb t) s σ v24 (arg6.view.read (Elt Ideal) X_arg6) (4 * (qb t / 4) + k.val + 1) (arg11.view.read (Elt Ideal) (arg11.view.writes (Elt Ideal) f_arg11 (tripL_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 k f_arg11 f_arg12).1)) (arg12.view.read (Elt Ideal) (arg12.view.writes (Elt Ideal) f_arg12 (tripL_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 k f_arg11 f_arg12).2)) := by
  have hk : k.val < qb t % 4 := lt_of_lt_of_eq k.isLt (trips3 t)
  have hn := qb_lt t
  have hb : 4 * (qb t / 4) + k.val < 64 := by omega
  have hc : ∀ h : Fin 2, slope (arg7.view.read (Elt Ideal) X_arg7) h * dist (4 * (qb t / 4) + k.val) (qb t) = ((σ h * ((((4 * (qb t / 4) + k.val : ℕ) : Int) - (qb t : Int)) * 256 : Int) : ℝ) : EReal) := fun h => by
    rw [hσ h]; unfold dist; exact (EReal.coe_mul _ _).symm
  have hz : ∀ (h : Fin 2) (q : Fin 256) (κ : Fin 256), (s h q (4 * (qb t / 4) + k.val) κ + σ h * (256 * (0 : Fin 4).val + κ.val)) + σ h * ((((4 * (qb t / 4) + k.val : ℕ) : Int) - (qb t : Int)) * 256 : Int)
      = zz (qb t) s σ h q (4 * (qb t / 4) + k.val) κ := fun h q κ => by unfold zz; rw [Int.cast_mul, Int.cast_sub, Int.cast_natCast, Int.cast_natCast]; simp only [Fin.val_zero, Nat.cast_zero]; push_cast; ring
  have hv : ∀ (h : Fin 2) (r : Fin 128), (fun κ => (arg6.view.read (Elt Ideal) X_arg6) (ix5 (⟨4 * (qb t / 4) + k.val, hb⟩ : Fin 64) 0 h r κ)) = vv (arg6.view.read (Elt Ideal) X_arg6) h r (4 * (qb t / 4) + k.val) := fun h r => by
    funext κ; unfold vv; rw [dif_pos hb]
  intro h q
  obtain ⟨μ, hM, hA⟩ := hI h q
  obtain ⟨μ', e, f⟩ := step_one (sel v24 h q) (zz (qb t) s σ h q) (4 * (qb t / 4) + k.val) μ _ _ _ (fun κ => hs h q ⟨_, hb⟩ 0 κ) (hz h q)
  refine ⟨μ', ?_, fun r => ?_⟩
  · rw [← hc, ← hM] at e
    refine Eq.trans ?_ e
    match h with
    | 0 => exact one_max0 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 v106 hv106 k ⟨_, hb⟩ rfl q
    | 1 => exact one_max1 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 v106 hv106 k ⟨_, hb⟩ rfl q
  · have f' := f (fun κ => κ.val ≤ q.val) (zz (qb t) s σ h q (qb t)) (vv (arg6.view.read (Elt Ideal) X_arg6) h r (qb t)) (vv (arg6.view.read (Elt Ideal) X_arg6) h r)
    rw [← hc, ← hM, ← hA r] at f'
    refine Eq.trans ?_ f'
    have g := hv h r
    match h with
    | 0 => exact (one_sum0 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 v106 hv106 k ⟨_, hb⟩ rfl r q).trans (sum1_congr rfl rfl rfl rfl rfl g)
    | 1 => exact (one_sum1 𝒱 c bd t arg3 harg3 arg4 harg4 arg5 harg5 arg6 harg6 arg7 harg7 arg8 harg8 arg9 harg9 arg10 harg10 arg11 harg11 arg12 harg12 v24 X_arg5 X_arg6 X_arg7 X_arg8 X_arg10 f_arg11 f_arg12 v106 hv106 k ⟨_, hb⟩ rfl r q).trans (sum1_congr rfl rfl rfl rfl rfl g)

theorem walk_four  (f_arg11 : BufTy.Contents (Elt Ideal) arg11.view.ty) (f_arg12 : BufTy.Contents (Elt Ideal) arg12.view.ty) (hI : Inv (qb t) s σ v24 (arg6.view.read (Elt Ideal) X_arg6) 0 (arg11.view.read (Elt Ideal) f_arg11) (arg12.view.read (Elt Ideal) f_arg12)) : ∀ n : ℕ, n ≤ (k0_t1_loop (grid0.coords t)).trips →
    Inv (qb t) s σ v24 (arg6.view.read (Elt Ideal) X_arg6) (4 * n) (arg11.view.read (Elt Ideal) (arg11.view.writes (Elt Ideal) f_arg11 (pb_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 f_arg11 f_arg12 n).1)) (arg12.view.read (Elt Ideal) (arg12.view.writes (Elt Ideal) f_arg12 (pb_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 f_arg11 f_arg12 n).2)) := by
  intro n
  induction n with
  | zero => intro _; exact hI
  | succ n ih =>
    intro hn
    have I := ih (by omega)
    have e := pb_k0_t1_succ (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 f_arg11 f_arg12 ⟨n, hn⟩
    dsimp only at e
    rw [e, View.writes_append, View.writes_append]
    exact inv_four 𝒱 c bd t arg3 harg3 arg4 harg4 arg5 harg5 arg6 harg6 arg7 harg7 arg8 harg8 arg9 harg9 arg10 harg10 arg11 harg11 arg12 harg12 v24 X_arg5 X_arg6 X_arg7 X_arg8 X_arg10 s σ hs hσ  _ _ ⟨n, hn⟩ I

theorem walk_one (v106 : BitVec 32) (hv106 : v106 = BitVec.ofNat 32 (4 * (qb t / 4))) (f_arg11 : BufTy.Contents (Elt Ideal) arg11.view.ty) (f_arg12 : BufTy.Contents (Elt Ideal) arg12.view.ty) (hI : Inv (qb t) s σ v24 (arg6.view.read (Elt Ideal) X_arg6) (4 * (qb t / 4)) (arg11.view.read (Elt Ideal) f_arg11) (arg12.view.read (Elt Ideal) f_arg12)) : ∀ n : ℕ, n ≤ (k0_t3_loop (grid0.coords t)).trips →
    Inv (qb t) s σ v24 (arg6.view.read (Elt Ideal) X_arg6) (4 * (qb t / 4) + n) (arg11.view.read (Elt Ideal) (arg11.view.writes (Elt Ideal) f_arg11 (pb_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 f_arg11 f_arg12 n).1)) (arg12.view.read (Elt Ideal) (arg12.view.writes (Elt Ideal) f_arg12 (pb_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 f_arg11 f_arg12 n).2)) := by
  intro n
  induction n with
  | zero => intro _; exact hI
  | succ n ih =>
    intro hn
    have I := ih (by omega)
    have e := pb_k0_t3_succ (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 f_arg11 f_arg12 ⟨n, hn⟩
    dsimp only at e
    rw [e, View.writes_append, View.writes_append]
    exact inv_one 𝒱 c bd t arg3 harg3 arg4 harg4 arg5 harg5 arg6 harg6 arg7 harg7 arg8 harg8 arg9 harg9 arg10 harg10 arg11 harg11 arg12 harg12 v24 X_arg5 X_arg6 X_arg7 X_arg8 X_arg10 s σ hs hσ v106 hv106 _ _ ⟨n, hn⟩ I

end walk

end Cert.KernelIdeal.Value
-- ==== Proof.Prologue.lean ====
/- What one grid point stores before its loops, which is the queries' own block, and what it stores at the end, element by element. -/
module

public import proofs.«01_k».proof.Proof.Steps

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

theorem select_le (a b : Nat) (ha : a < 256) (hb : b < 256) (x y : EReal) :
    Scalar.select (IntOp.cmpi CmpIPredicate.sle (BitVec.ofNat 32 a) (BitVec.ofNat 32 b)) x y = if a ≤ b then x else y := by
  have h : (IntOp.cmpi CmpIPredicate.sle (BitVec.ofNat 32 a) (BitVec.ofNat 32 b) = 1) ↔ a ≤ b := by
    have e : ∀ n : Fin 256, (BitVec.ofNat 32 n.val).toInt = n.val := by decide +kernel
    have h1 : ∀ t : Bool, (BitVec.ofBool t = 1) ↔ t = true := by decide
    show (BitVec.ofBool ((BitVec.ofNat 32 a).sle (BitVec.ofNat 32 b)) = 1) ↔ a ≤ b
    rw [h1, BitVec.sle, decide_eq_true_iff, e ⟨a, ha⟩, e ⟨b, hb⟩]
    exact Int.ofNat_le
  exact if_congr h rfl rfl

theorem select_lt (a : Nat) (ha : a < 128) (x y : EReal) :
    Scalar.select (IntOp.cmpi CmpIPredicate.slt (BitVec.ofNat 32 a) 64#32) x y = if a < 64 then x else y := by
  have h : (IntOp.cmpi CmpIPredicate.slt (BitVec.ofNat 32 a) 64#32 = 1) ↔ a < 64 := by
    have : ∀ a : Fin 128, (IntOp.cmpi CmpIPredicate.slt (BitVec.ofNat 32 a.val) 64#32 = 1) ↔ a.val < 64 := by decide +kernel
    exact this ⟨a, ha⟩
  exact if_congr h rfl rfl

section own
variable (K C : Vec Ideal S256x128 .bf16) (Q : Vec Ideal S1x256x256 .bf16) (V : Vec Ideal S1x1x1x128x256 .bf16) (r : Fin 128) (κ q : Fin 256)

/-- A key's augmented row times a query's. -/
def score : EReal := ∑ x : Fin 128, K (ix2 κ x) * Q (ix3 0 q ⟨x.val, by omega⟩) + ∑ x : Fin 128, C (ix2 κ x) * Q (ix3 0 q ⟨128 + x.val, by omega⟩)

/-- The own block's score, which only keys up to the query take part in. -/
def ownS : EReal := if κ.val ≤ q.val then score K C Q κ q else ⊥

theorem own_max0 : k0_pay136 (iota .tc S256x256 32 [0] iota_S256x256_d0_w32) (iota .tc S256x256 32 [1] iota_S256x256_d1_w32) K C Q (ix3 0 0 q) = top fun κ => ownS K C Q κ q := by
  pointwise [k0_pay136, k0_pay135, k0_pay134, k0_pay132]
  simp only [select_le _ _ (Fin.isLt _) (Fin.isLt _), ofBits_bot]
  rfl

theorem own_sum0 : k0_pay137 (iota .tc S256x256 32 [0] iota_S256x256_d0_w32) (iota .tc S256x256 32 [1] iota_S256x256_d1_w32) K C Q V (ix3 0 r q)
    = ∑ κ, V (ix5 0 0 0 r κ) * Ideal.exp2 (ownS K C Q κ q - top fun κ => ownS K C Q κ q) := by
  pointwise [k0_pay137, k0_pay135, k0_pay134, k0_pay132]
  simp only [select_le _ _ (Fin.isLt _) (Fin.isLt _), ofBits_bot]
  rfl

theorem own_max1 : k0_pay141 (k0_pay133 K C Q) (k0_pay138 (iota .tc S256x256 32 [0] iota_S256x256_d0_w32) (iota .tc S256x256 32 [1] iota_S256x256_d1_w32)) (ix3 0 0 q) = top fun κ => ownS K C Q κ q := by
  pointwise [k0_pay141, k0_pay140, k0_pay139, k0_pay138, k0_pay133, k0_pay132]
  simp only [select_le _ _ (Fin.isLt _) (Fin.isLt _), ofBits_bot]
  rfl

theorem own_sum1 : k0_pay142 (k0_pay133 K C Q) (k0_pay138 (iota .tc S256x256 32 [0] iota_S256x256_d0_w32) (iota .tc S256x256 32 [1] iota_S256x256_d1_w32)) V (ix3 0 r q)
    = ∑ κ, V (ix5 0 0 0 r κ) * Ideal.exp2 (ownS K C Q κ q - top fun κ => ownS K C Q κ q) := by
  pointwise [k0_pay142, k0_pay140, k0_pay139, k0_pay138, k0_pay133, k0_pay132]
  simp only [select_le _ _ (Fin.isLt _) (Fin.isLt _), ofBits_bot]
  rfl

theorem qa0 (X : Vec Ideal S256x128 .bf16) (x : Fin 128) : k0_pay127 X (ix3 0 q x) = if x.val < 64 then X (ix2 q x) else 0 := by
  pointwise [k0_pay127, k0_pay124, k0_pay125, k0_pay126]
  rw [select_lt _ x.isLt]

theorem qa1 (X : Vec Ideal S256x128 .bf16) (x : Fin 128) : k0_pay128 X (ix3 0 q x) = if x.val < 64 then 0 else X (ix2 q x) := by
  pointwise [k0_pay128, k0_pay124, k0_pay125, k0_pay126]
  rw [select_lt _ x.isLt]

theorem qa2 (X : Vec Ideal S1x2x256x128 .bf16) (h : Fin 2) (x : Fin 128) : k0_pay129 X (ix3 h q x) = X (ix4 0 h q x) := by
  pointwise [k0_pay129]

theorem ids_at (X : Vec Ideal S1x8x256 .i32) (j : Fin 8) : k0_pay130 (F := Ideal) X (ix2 j q) = X (ix3 0 j q) := by
  pointwise [k0_pay130]

theorem last_at (A B : Vec Ideal S1x128x256 .f32) : k0_pay9 k0_pay131 A B (ix2 q r)
    = if r.val < 64 then Ideal.div (A (ix3 0 r q)) (A (ix3 0 64 q)) else Ideal.div (B (ix3 0 r q)) (B (ix3 0 0 q)) := by
  pointwise [k0_pay9, k0_pay131]
  rw [select_lt _ r.isLt]

end own

end Cert.KernelIdeal.Value
-- ==== Proof.Point.lean ====
/- One grid point of the kernel: the own block, the loops over the past, and the division at the end. -/
module

public import proofs.«01_k».proof.Proof.Walk
public import proofs.«01_k».proof.Proof.Prologue
public import proofs.«01_k».proof.Proof.Gen.KernelIdeal.Frame
public import Idealize.ShloMosaic.Lib.Writes
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

/-- The queries of one head of the pair: the other head's lanes are zero. -/
def lane (h : Fin 2) (x : Fin 128) (a : EReal) : EReal := if (h = 0 ↔ x.val < 64) then a else 0

section queries
variable (v : View sig .tc .vmem S2x256x256 .bf16) (f : v.ty.Contents (Elt Ideal)) (inb2 inb1 inb0) (X1 : Vec Ideal S256x128 .bf16) (X4 : Vec Ideal S1x2x256x128 .bf16) (h : Fin 2) (q : Fin 256) (x : Fin 128)

theorem qa_hi : v.read (Elt Ideal) (v.writes (Elt Ideal) f [⟨Rect.unit (s := S2x256x256) ![0, 0, 128] ![2, 256, 128] inb2, k0_pay129 (F := Ideal) X4⟩, ⟨Rect.unit (s := S2x256x256) ![1, 0, 0] ![1, 256, 128] inb1, k0_pay128 (F := Ideal) X1⟩, ⟨Rect.unit (s := S2x256x256) ![0, 0, 0] ![1, 256, 128] inb0, k0_pay127 (F := Ideal) X1⟩])
    (ix3 h q ⟨128 + x.val, by omega⟩) = X4 (ix4 0 h q x) :=
  (View.read_writes_cons_unit_of_mem (s := S2x256x256) v f inb2 _ _ (ix3 h q ⟨128 + x.val, by omega⟩) (ix3 h q x) rfl fun a => by fin_cases a <;> simp [ix3]).trans (qa2 q X4 h x)

theorem qa_lo : v.read (Elt Ideal) (v.writes (Elt Ideal) f [⟨Rect.unit (s := S2x256x256) ![0, 0, 128] ![2, 256, 128] inb2, k0_pay129 (F := Ideal) X4⟩, ⟨Rect.unit (s := S2x256x256) ![1, 0, 0] ![1, 256, 128] inb1, k0_pay128 (F := Ideal) X1⟩, ⟨Rect.unit (s := S2x256x256) ![0, 0, 0] ![1, 256, 128] inb0, k0_pay127 (F := Ideal) X1⟩])
    (ix3 h q ⟨x.val, by omega⟩) = lane h x (X1 (ix2 q x)) := by
  refine (View.read_writes_cons_unit_of_not_mem (s := S2x256x256) v f inb2 _ _ (ix3 h q ⟨x.val, by omega⟩) rfl 2 (by left; show x.val < 128; exact x.isLt)).trans ?_
  match h with
  | 0 =>
    refine ((View.read_writes_cons_unit_of_not_mem (s := S2x256x256) v f inb1 _ _ (ix3 0 q ⟨x.val, by omega⟩) rfl 0 (by left; simp [ix3])).trans
      ((View.read_writes_cons_unit_of_mem (s := S2x256x256) v f inb0 _ _ (ix3 0 q ⟨x.val, by omega⟩) (ix3 0 q x) rfl fun a => by fin_cases a <;> simp [ix3]).trans (qa0 q X1 x))).trans ?_
    unfold lane; simp
  | 1 =>
    refine ((View.read_writes_cons_unit_of_mem (s := S2x256x256) v f inb1 _ _ (ix3 1 q ⟨x.val, by omega⟩) (ix3 0 q x) rfl fun a => by fin_cases a <;> simp [ix3]).trans (qa1 q X1 x)).trans ?_
    unfold lane; simp only [show ((1 : Fin 2) = 0) = False from by simp, false_iff, ite_not]

end queries

/-- Before the loops, the running buffers hold the own block. -/
theorem inv_start (n : ℕ) (s : Fin 2 → Fin 256 → ℕ → Fin 256 → ℝ) (σ : Fin 2 → ℝ) (v24 : IVec S8x256 32) (T : Vec Ideal S64x1x2x128x256 .bf16) (v11 : View sig .tc .vmem S2x1x256 .f32) (v12 : View sig .tc .vmem S2x128x256 .f32)
    (f11 : v11.ty.Contents (Elt Ideal)) (f12 : v12.ty.Contents (Elt Ideal)) (i1 i0 j1 j0) (K C : Vec Ideal S256x128 .bf16) (Q0 Q1 : Vec Ideal S1x256x256 .bf16) (V0 V1 : Vec Ideal S1x1x1x128x256 .bf16)
    (h0 : ∀ κ q, score K C Q0 κ q = (zz n s σ 0 q n κ : ℝ)) (h1 : ∀ κ q, score K C Q1 κ q = (zz n s σ 1 q n κ : ℝ)) (e0 : ∀ r κ, V0 (ix5 0 0 0 r κ) = vv T 0 r n κ) (e1 : ∀ r κ, V1 (ix5 0 0 0 r κ) = vv T 1 r n κ) :
    Inv n s σ v24 T 0
      (v11.read (Elt Ideal) (v11.writes (Elt Ideal) f11 [⟨Rect.unit (s := S2x1x256) ![1, 0, 0] ![1, 1, 256] i1, k0_pay141 (F := Ideal) (k0_pay133 K C Q1) (k0_pay138 (iota .tc S256x256 32 [0] iota_S256x256_d0_w32) (iota .tc S256x256 32 [1] iota_S256x256_d1_w32))⟩, ⟨Rect.unit (s := S2x1x256) ![0, 0, 0] ![1, 1, 256] i0, k0_pay136 (F := Ideal) (iota .tc S256x256 32 [0] iota_S256x256_d0_w32) (iota .tc S256x256 32 [1] iota_S256x256_d1_w32) K C Q0⟩]))
      (v12.read (Elt Ideal) (v12.writes (Elt Ideal) f12 [⟨Rect.unit (s := S2x128x256) ![1, 0, 0] ![1, 128, 256] j1, k0_pay142 (F := Ideal) (k0_pay133 K C Q1) (k0_pay138 (iota .tc S256x256 32 [0] iota_S256x256_d0_w32) (iota .tc S256x256 32 [1] iota_S256x256_d1_w32)) V1⟩, ⟨Rect.unit (s := S2x128x256) ![0, 0, 0] ![1, 128, 256] j0, k0_pay137 (F := Ideal) (iota .tc S256x256 32 [0] iota_S256x256_d0_w32) (iota .tc S256x256 32 [1] iota_S256x256_d1_w32) K C Q0 V0⟩])) := by
  intro h q
  match h with
  | 0 =>
    obtain ⟨μ, e, f⟩ := own_init q (fun κ => ownS K C Q0 κ q) (zz n s σ 0 q n) (fun κ => by unfold ownS; rw [h0])
    refine ⟨μ, (read_m0 v11 f11 _ _ _ _ q).trans ((own_max0 K C Q0 q).trans e), fun r => ((read_a0 v12 f12 _ _ _ _ r q).trans (own_sum0 K C Q0 V0 r q)).trans ?_⟩
    rw [acc_zero, ← f]
    exact Finset.sum_congr rfl fun κ _ => congrArg (· * _) (e0 r κ)
  | 1 =>
    obtain ⟨μ, e, f⟩ := own_init q (fun κ => ownS K C Q1 κ q) (zz n s σ 1 q n) (fun κ => by unfold ownS; rw [h1])
    refine ⟨μ, (read_m1 v11 f11 _ _ _ _ q).trans ((own_max1 K C Q1 q).trans e), fun r => ((read_a1 v12 f12 _ _ _ _ r q).trans (own_sum1 K C Q1 V1 r q)).trans ?_⟩
    rw [acc_zero, ← f]
    exact Finset.sum_congr rfl fun κ _ => congrArg (· * _) (e1 r κ)

/-- The running sum for row `r` of head `h` and query `q` after all the blocks of the past. -/
def total (n : ℕ) (s : Fin 2 → Fin 256 → ℕ → Fin 256 → ℝ) (σ : Fin 2 → ℝ) (v24 : IVec S8x256 32) (T : Vec Ideal S64x1x2x128x256 .bf16) (h : Fin 2) (q : Fin 256) (r : Fin 128) (μ : ℝ) : EReal :=
  acc (fun κ => κ.val ≤ q.val) (zz n s σ h q n) (vv T h r n) (sel v24 h q) (zz n s σ h q) (vv T h r) n μ

/-- What the kernel stores from its running sums. -/
theorem stored (n : ℕ) (s : Fin 2 → Fin 256 → ℕ → Fin 256 → ℝ) (σ : Fin 2 → ℝ) (v24 : IVec S8x256 32) (T : Vec Ideal S64x1x2x128x256 .bf16) (v12 : View sig .tc .vmem S2x128x256 .f32)
    (L : List (View.Piece (Elt Ideal) S2x128x256 .f32)) (inb j1 j0) (hI : ∃ M : Vec Ideal S2x1x256 .f32, Inv n s σ v24 T n M (v12.read (Elt Ideal) (v12.writes (Elt Ideal) v12.junk L))) (q : Fin 256) :
    ∃ μ : Fin 2 → ℝ, ∀ r : Fin 128, VO0_6.read (Elt Ideal) (VO0_6.writes (Elt Ideal) VO0_6.junk [⟨Rect.unit (s := S256x128) ![0, 0] ![256, 128] inb,
        k0_pay9 (F := Ideal) k0_pay131 (v12.readCov L (Rect.unit (s := S2x128x256) ![0, 0, 0] ![1, 128, 256] j0).toLoadRect) (v12.readCov L (Rect.unit (s := S2x128x256) ![1, 0, 0] ![1, 128, 256] j1).toLoadRect)⟩]) (ix2 q r)
      = if r.val < 64 then Ideal.div (total n s σ v24 T 0 q r (μ 0)) (total n s σ v24 T 0 q 64 (μ 0)) else Ideal.div (total n s σ v24 T 1 q r (μ 1)) (total n s σ v24 T 1 q 0 (μ 1)) := by
  obtain ⟨M, hI⟩ := hI
  obtain ⟨μ0, -, f0⟩ := hI 0 q
  obtain ⟨μ1, -, f1⟩ := hI 1 q
  refine ⟨![μ0, μ1], fun r => ?_⟩
  refine ((View.read_writes_cons_unit_of_mem (s := S256x128) VO0_6 _ inb _ [] (ix2 q r) (ix2 q r) rfl fun a => by fin_cases a <;> simp [ix2]).trans (last_at r q _ _)).trans ?_
  have g0 : ∀ r : Fin 128, v12.readCov L (Rect.unit (s := S2x128x256) ![0, 0, 0] ![1, 128, 256] j0).toLoadRect (ix3 0 r q) = total n s σ v24 T 0 q r μ0 := fun r =>
    (rd3 v12 (v12.writes (Elt Ideal) v12.junk L) j0 rfl 0 r q 0 r q rfl (by omega) (by omega)).trans (f0 r)
  have g1 : ∀ r : Fin 128, v12.readCov L (Rect.unit (s := S2x128x256) ![1, 0, 0] ![1, 128, 256] j1).toLoadRect (ix3 0 r q) = total n s σ v24 T 1 q r μ1 := fun r =>
    (rd3 v12 (v12.writes (Elt Ideal) v12.junk L) j1 rfl 0 r q 1 r q rfl (by omega) (by omega)).trans (f1 r)
  exact if_congr Iff.rfl (congrArg₂ Ideal.div (g0 r) (g0 64)) (congrArg₂ Ideal.div (g1 r) (g1 0))

section advance
variable (𝒱 : Variants) (c : Dev nD) (bd : Option 𝒱.V) (t : Fin grid0.N) (arg3 : Memref sig .tc .vmem S1x8x256 .i32) (harg3 : arg3.IsWhole) (arg4 : Memref sig .tc .vmem S256x128 .bf16) (harg4 : arg4.IsWhole) (arg5 : Memref sig .tc .vmem S16384x128 .bf16) (harg5 : arg5.IsWhole) (arg6 : Memref sig .tc .vmem S64x1x2x128x256 .bf16) (harg6 : arg6.IsWhole) (arg7 : Memref sig .tc .vmem S1x2x256x128 .bf16) (harg7 : arg7.IsWhole) (arg8 : Memref sig .tc .vmem S1024x128 .bf16) (harg8 : arg8.IsWhole) (arg9 : Memref sig .tc .vmem S256x128 .bf16) (harg9 : arg9.IsWhole) (arg10 : Memref sig .tc .vmem S2x256x256 .bf16) (harg10 : arg10.IsWhole) (arg11 : Memref sig .tc .vmem S2x1x256 .f32) (harg11 : arg11.IsWhole) (arg12 : Memref sig .tc .vmem S2x128x256 .f32) (harg12 : arg12.IsWhole) (v24 : IVec S8x256 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg10 : BufTy.Contents (Elt Ideal) arg10.view.ty) (s : Fin 2 → Fin 256 → ℕ → Fin 256 → ℝ) (σ : Fin 2 → ℝ)

theorem advance_none2 (w : BitVec 32) (J : ℕ) (L11 : List (View.Piece (Elt Ideal) S2x1x256 .f32)) (L12 : List (View.Piece (Elt Ideal) S2x128x256 .f32)) (hI : Inv (qb t) s σ v24 (arg6.view.read (Elt Ideal) X_arg6) J (arg11.view.read (Elt Ideal) (arg11.view.writes (Elt Ideal) arg11.view.junk L11)) (arg12.view.read (Elt Ideal) (arg12.view.writes (Elt Ideal) arg12.view.junk L12))) :
    Inv (qb t) s σ v24 (arg6.view.read (Elt Ideal) X_arg6) J (arg11.view.read (Elt Ideal) (arg11.view.writes (Elt Ideal) arg11.view.junk ((pb_k0_t2 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 w X_arg5 X_arg6 X_arg7 X_arg8 X_arg10 (arg11.view.writes (Elt Ideal) arg11.view.junk L11) (arg12.view.writes (Elt Ideal) arg12.view.junk L12) (k0_t2_loop (grid0.coords t)).trips).1 ++ L11))) (arg12.view.read (Elt Ideal) (arg12.view.writes (Elt Ideal) arg12.view.junk ((pb_k0_t2 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 w X_arg5 X_arg6 X_arg7 X_arg8 X_arg10 (arg11.view.writes (Elt Ideal) arg11.view.junk L11) (arg12.view.writes (Elt Ideal) arg12.view.junk L12) (k0_t2_loop (grid0.coords t)).trips).2 ++ L12))) := by
  rw [View.writes_append, View.writes_append]
  rw [trips2 t]; exact hI

theorem advance_none4 (w : BitVec 32) (J : ℕ) (L11 : List (View.Piece (Elt Ideal) S2x1x256 .f32)) (L12 : List (View.Piece (Elt Ideal) S2x128x256 .f32)) (hI : Inv (qb t) s σ v24 (arg6.view.read (Elt Ideal) X_arg6) J (arg11.view.read (Elt Ideal) (arg11.view.writes (Elt Ideal) arg11.view.junk L11)) (arg12.view.read (Elt Ideal) (arg12.view.writes (Elt Ideal) arg12.view.junk L12))) :
    Inv (qb t) s σ v24 (arg6.view.read (Elt Ideal) X_arg6) J (arg11.view.read (Elt Ideal) (arg11.view.writes (Elt Ideal) arg11.view.junk ((pb_k0_t4 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 w X_arg5 X_arg6 X_arg7 X_arg8 X_arg10 (arg11.view.writes (Elt Ideal) arg11.view.junk L11) (arg12.view.writes (Elt Ideal) arg12.view.junk L12) (k0_t4_loop (grid0.coords t)).trips).1 ++ L11))) (arg12.view.read (Elt Ideal) (arg12.view.writes (Elt Ideal) arg12.view.junk ((pb_k0_t4 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 w X_arg5 X_arg6 X_arg7 X_arg8 X_arg10 (arg11.view.writes (Elt Ideal) arg11.view.junk L11) (arg12.view.writes (Elt Ideal) arg12.view.junk L12) (k0_t4_loop (grid0.coords t)).trips).2 ++ L12))) := by
  rw [View.writes_append, View.writes_append]
  rw [trips4 t]; exact hI

variable
  (hs : ∀ (h : Fin 2) (q : Fin 256) (b : Fin 64) (u : Fin 4) (κ : Fin 256), blk (arg5.view.read (Elt Ideal) X_arg5) (arg8.view.read (Elt Ideal) X_arg8) (arg10.view.read (Elt Ideal) X_arg10) h b u κ q = ((s h q b.val κ + σ h * (256 * u.val + κ.val) : ℝ) : EReal))
  (hσ : ∀ h : Fin 2, slope (arg7.view.read (Elt Ideal) X_arg7) h = ((σ h : ℝ) : EReal))
include hs hσ

theorem advance_four (L11 : List (View.Piece (Elt Ideal) S2x1x256 .f32)) (L12 : List (View.Piece (Elt Ideal) S2x128x256 .f32)) (hI : Inv (qb t) s σ v24 (arg6.view.read (Elt Ideal) X_arg6) 0 (arg11.view.read (Elt Ideal) (arg11.view.writes (Elt Ideal) arg11.view.junk L11)) (arg12.view.read (Elt Ideal) (arg12.view.writes (Elt Ideal) arg12.view.junk L12))) :
    Inv (qb t) s σ v24 (arg6.view.read (Elt Ideal) X_arg6) (4 * (qb t / 4)) (arg11.view.read (Elt Ideal) (arg11.view.writes (Elt Ideal) arg11.view.junk ((pb_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 (arg11.view.writes (Elt Ideal) arg11.view.junk L11) (arg12.view.writes (Elt Ideal) arg12.view.junk L12) (k0_t1_loop (grid0.coords t)).trips).1 ++ L11))) (arg12.view.read (Elt Ideal) (arg12.view.writes (Elt Ideal) arg12.view.junk ((pb_k0_t1 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 X_arg5 X_arg6 X_arg7 X_arg8 X_arg10 (arg11.view.writes (Elt Ideal) arg11.view.junk L11) (arg12.view.writes (Elt Ideal) arg12.view.junk L12) (k0_t1_loop (grid0.coords t)).trips).2 ++ L12))) := by
  rw [View.writes_append, View.writes_append]
  have := walk_four 𝒱 c bd t arg3 harg3 arg4 harg4 arg5 harg5 arg6 harg6 arg7 harg7 arg8 harg8 arg9 harg9 arg10 harg10 arg11 harg11 arg12 harg12 v24 X_arg5 X_arg6 X_arg7 X_arg8 X_arg10 s σ hs hσ (arg11.view.writes (Elt Ideal) arg11.view.junk L11) (arg12.view.writes (Elt Ideal) arg12.view.junk L12) hI _ le_rfl
  rw [trips1 t] at this ⊢
  exact this

theorem advance_one (v106 : BitVec 32) (hv106 : v106 = BitVec.ofNat 32 (4 * (qb t / 4))) (L11 : List (View.Piece (Elt Ideal) S2x1x256 .f32)) (L12 : List (View.Piece (Elt Ideal) S2x128x256 .f32)) (hI : Inv (qb t) s σ v24 (arg6.view.read (Elt Ideal) X_arg6) (4 * (qb t / 4)) (arg11.view.read (Elt Ideal) (arg11.view.writes (Elt Ideal) arg11.view.junk L11)) (arg12.view.read (Elt Ideal) (arg12.view.writes (Elt Ideal) arg12.view.junk L12))) :
    Inv (qb t) s σ v24 (arg6.view.read (Elt Ideal) X_arg6) (qb t) (arg11.view.read (Elt Ideal) (arg11.view.writes (Elt Ideal) arg11.view.junk ((pb_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 (arg11.view.writes (Elt Ideal) arg11.view.junk L11) (arg12.view.writes (Elt Ideal) arg12.view.junk L12) (k0_t3_loop (grid0.coords t)).trips).1 ++ L11))) (arg12.view.read (Elt Ideal) (arg12.view.writes (Elt Ideal) arg12.view.junk ((pb_k0_t3 (F := Ideal) 𝒱 c bd (grid0.coords t) arg3 harg3 arg4 harg4 arg5 harg5 arg6 harg6 arg7 harg7 arg8 harg8 arg9 harg9 arg10 harg10 arg11 harg11 arg12 harg12 (BitVec.ofNat 32 (qb t)) v24 v106 X_arg5 X_arg6 X_arg7 X_arg8 X_arg10 (arg11.view.writes (Elt Ideal) arg11.view.junk L11) (arg12.view.writes (Elt Ideal) arg12.view.junk L12) (k0_t3_loop (grid0.coords t)).trips).2 ++ L12))) := by
  rw [View.writes_append, View.writes_append]
  have := walk_one 𝒱 c bd t arg3 harg3 arg4 harg4 arg5 harg5 arg6 harg6 arg7 harg7 arg8 harg8 arg9 harg9 arg10 harg10 arg11 harg11 arg12 harg12 v24 X_arg5 X_arg6 X_arg7 X_arg8 X_arg10 s σ hs hσ v106 hv106 (arg11.view.writes (Elt Ideal) arg11.view.junk L11) (arg12.view.writes (Elt Ideal) arg12.view.junk L12) hI _ le_rfl
  rw [trips3 t] at this ⊢
  rw [Nat.div_add_mod] at this
  exact this

end advance

/-- The word the kernel computes for the first block its second loop takes. -/
theorem quad_word : ∀ t : Fin grid0.N, Scalar.muli (Scalar.select (Scalar.andi (Scalar.cmpi CmpIPredicate.ne (Scalar.subi (Scalar.extui (Scalar.cmpi CmpIPredicate.sgt (BitVec.ofNat 32 (qb t)) 0#32)) (Scalar.extui (Scalar.cmpi CmpIPredicate.slt (BitVec.ofNat 32 (qb t)) 0#32))) 1#32)
    (Scalar.cmpi CmpIPredicate.ne (Scalar.remsi (BitVec.ofNat 32 (qb t)) 4#32) 0#32)) (Scalar.subi (Scalar.divsi (BitVec.ofNat 32 (qb t)) 4#32) 1#32) (Scalar.divsi (BitVec.ofNat 32 (qb t)) 4#32)) 4#32 = BitVec.ofNat 32 (4 * (qb t / 4)) := by
  decide +kernel

/-- One grid point's stored block: each head's weighted values over its row of ones. -/
theorem point (c : Dev nD) (t : Fin grid0.N) (arg3 : Memref sig .tc .vmem S1x8x256 .i32) (harg3 : arg3.IsWhole) (arg4 : Memref sig .tc .vmem S256x128 .bf16) (harg4 : arg4.IsWhole) (arg5 : Memref sig .tc .vmem S16384x128 .bf16) (harg5 : arg5.IsWhole) (arg6 : Memref sig .tc .vmem S64x1x2x128x256 .bf16) (harg6 : arg6.IsWhole) (arg7 : Memref sig .tc .vmem S1x2x256x128 .bf16) (harg7 : arg7.IsWhole) (arg8 : Memref sig .tc .vmem S1024x128 .bf16) (harg8 : arg8.IsWhole) (arg9 : Memref sig .tc .vmem S256x128 .bf16) (harg9 : arg9.IsWhole) (arg10 : Memref sig .tc .vmem S2x256x256 .bf16) (harg10 : arg10.IsWhole) (arg11 : Memref sig .tc .vmem S2x1x256 .f32) (harg11 : arg11.IsWhole) (arg12 : Memref sig .tc .vmem S2x128x256 .f32) (harg12 : arg12.IsWhole)
    (x0 : Vec Ideal S1x8x256 .i32) (x1 : Vec Ideal S256x128 .bf16) (x2 : Vec Ideal S16384x128 .bf16) (x3 : Vec Ideal S64x1x2x128x256 .bf16) (x4 : Vec Ideal S1x2x256x128 .bf16) (x5 : Vec Ideal S1024x128 .bf16) (s : Fin 2 → Fin 256 → ℕ → Fin 256 → ℝ) (σ : Fin 2 → ℝ)
    (hs : ∀ (h : Fin 2) (q : Fin 256) (b : Fin 64) (u : Fin 4) (κ : Fin 256), ∑ x : Fin 128, x2 (ix2 ⟨256 * b.val + κ.val, by omega⟩ x) * lane h x (x1 (ix2 q x))
      + ∑ x : Fin 128, x5 (ix2 ⟨256 * u.val + κ.val, by omega⟩ x) * x4 (ix4 0 h q x) = ((s h q b.val κ + σ h * (256 * u.val + κ.val) : ℝ) : EReal))
    (hσ : ∀ h : Fin 2, slope x4 h = ((σ h : ℝ) : EReal)) (q : Fin 256) :
    ∃ μ : Fin 2 → ℝ, ∀ r : Fin 128, out0_A_6 (F := Ideal) c (grid0.coords t) arg3 harg3 arg4 harg4 arg5 harg5 arg6 harg6 arg7 harg7 arg8 harg8 arg9 harg9 arg10 harg10 arg11 harg11 arg12 harg12 x0 x1 x2 x3 x4 x5 (ix2 q r)
      = if r.val < 64 then Ideal.div (total (qb t) s σ (k0_pay130 (F := Ideal) x0) x3 0 q r (μ 0)) (total (qb t) s σ (k0_pay130 (F := Ideal) x0) x3 0 q 64 (μ 0))
        else Ideal.div (total (qb t) s σ (k0_pay130 (F := Ideal) x0) x3 1 q r (μ 1)) (total (qb t) s σ (k0_pay130 (F := Ideal) x0) x3 1 q 0 (μ 1)) := by
  have hn := qb_lt t
  have w0 : View.readAt (Elt Ideal) arg3.view (Rect.unit (s := S1x8x256) ![0, 0, 0] ![1, 8, 256] inb_S1x8x256_S1x8x256_0_0_0).toLoadRect (harg3.unread x0) = x0 := by
    rw [View.readAt_eq_ld, View.ld_unit_zero (by decide)]; exact harg3.read_unread x0
  have w1 : View.readAt (Elt Ideal) arg4.view (Rect.unit (s := S256x128) ![0, 0] ![256, 128] inb_S256x128_S256x128_0_0).toLoadRect (harg4.unread x1) = x1 := by
    rw [View.readAt_eq_ld, View.ld_unit_zero (by decide)]; exact harg4.read_unread x1
  have w4 : View.readAt (Elt Ideal) arg7.view (Rect.unit (s := S1x2x256x128) ![0, 0, 0, 0] ![1, 2, 256, 128] inb_S1x2x256x128_S1x2x256x128_0_0_0_0).toLoadRect (harg7.unread x4) = x4 := by
    rw [View.readAt_eq_ld, View.ld_unit_zero (by decide)]; exact harg7.read_unread x4
  unfold out0_A_6 kernelRun0_A
  dsimp only
  sl_unfold_words
  rw [w0, w1, w4]
  refine stored (qb t) s σ (k0_pay130 (F := Ideal) x0) x3 _ _ _ _ _ ?_ q
  have e5 := harg5.read_unread (Val := Elt Ideal) x2
  have e6 := harg6.read_unread (Val := Elt Ideal) x3
  have e7 := harg7.read_unread (Val := Elt Ideal) x4
  have e8 := harg8.read_unread (Val := Elt Ideal) x5
  have hσ' : ∀ h : Fin 2, slope (arg7.view.read (Elt Ideal) (harg7.unread x4)) h = ((σ h : ℝ) : EReal) := by rw [e7]; exact hσ
  have a4 := advance_none4 Variants.none c none t arg3 harg3 arg4 harg4 arg5 harg5 arg6 harg6 arg7 harg7 arg8 harg8 arg9 harg9 arg10 harg10 arg11 harg11 arg12 harg12 (k0_pay130 (F := Ideal) x0) (harg5.unread x2) (harg6.unread x3) (harg7.unread x4) (harg8.unread x5)
  have a3 := advance_one Variants.none c none t arg3 harg3 arg4 harg4 arg5 harg5 arg6 harg6 arg7 harg7 arg8 harg8 arg9 harg9 arg10 harg10 arg11 harg11 arg12 harg12 (k0_pay130 (F := Ideal) x0) (harg5.unread x2) (harg6.unread x3) (harg7.unread x4) (harg8.unread x5)
  have a2 := advance_none2 Variants.none c none t arg3 harg3 arg4 harg4 arg5 harg5 arg6 harg6 arg7 harg7 arg8 harg8 arg9 harg9 arg10 harg10 arg11 harg11 arg12 harg12 (k0_pay130 (F := Ideal) x0) (harg5.unread x2) (harg6.unread x3) (harg7.unread x4) (harg8.unread x5)
  have a1 := advance_four Variants.none c none t arg3 harg3 arg4 harg4 arg5 harg5 arg6 harg6 arg7 harg7 arg8 harg8 arg9 harg9 arg10 harg10 arg11 harg11 arg12 harg12 (k0_pay130 (F := Ideal) x0) (harg5.unread x2) (harg6.unread x3) (harg7.unread x4) (harg8.unread x5)
  rw [e6] at a4 a3 a2 a1
  refine ⟨_, a4 _ s σ _ _ _ _ (a3 _ s σ ?_ hσ' _ (quad_word t) _ _ (a2 _ s σ _ _ _ _ (a1 _ s σ ?_ hσ' _ _ ?_)))⟩
  · intro h q b u κ
    unfold blk
    rw [e5, e8]
    exact Eq.trans (congrArg₂ (· + ·) (Finset.sum_congr rfl fun x _ => congrArg (_ * ·) (qa_lo arg10.view _ _ _ _ x1 x4 h q x)) (Finset.sum_congr rfl fun x _ => congrArg (_ * ·) (qa_hi arg10.view _ _ _ _ x1 x4 h q x))) (hs h q b u κ)
  · intro h q b u κ
    unfold blk
    rw [e5, e8]
    exact Eq.trans (congrArg₂ (· + ·) (Finset.sum_congr rfl fun x _ => congrArg (_ * ·) (qa_lo arg10.view _ _ _ _ x1 x4 h q x)) (Finset.sum_congr rfl fun x _ => congrArg (_ * ·) (qa_hi arg10.view _ _ _ _ x1 x4 h q x))) (hs h q b u κ)
  · refine inv_start (qb t) s σ _ x3 arg11.view arg12.view _ _ _ _ _ _ _ _ _ _ _ _ ?_ ?_ ?_ ?_
    · intro κ q
      unfold score
      refine Eq.trans (congrArg₂ (· + ·) (Finset.sum_congr rfl fun x _ => congrArg₂ (· * ·) ((rd2 arg5.view (harg5.unread x2) _ (k0_off1_eq (grid0.coords t)) κ x ⟨256 * qb t + κ.val, by omega⟩ x rfl (by omega)).trans (congrFun e5 _))
          ((rd3 arg10.view _ _ rfl 0 q _ 0 q ⟨x.val, by omega⟩ rfl (by omega) (by omega)).trans (qa_lo arg10.view _ _ _ _ x1 x4 0 q x)))
        (Finset.sum_congr rfl fun x _ => congrArg₂ (· * ·) ((rd2 arg8.view (harg8.unread x5) _ rfl κ x ⟨256 * (0 : Fin 4).val + κ.val, by omega⟩ x (by simp) (by omega)).trans (congrFun e8 _))
          ((rd3 arg10.view _ _ rfl 0 q _ 0 q ⟨128 + x.val, by omega⟩ rfl (by omega) (by show 128 + x.val = 0 + (128 + x.val); omega)).trans (qa_hi arg10.view _ _ _ _ x1 x4 0 q x)))) ((hs 0 q ⟨qb t, hn⟩ 0 κ).trans (congrArg _ ?_))
      unfold zz; simp
    · intro κ q
      unfold score
      refine Eq.trans (congrArg₂ (· + ·) (Finset.sum_congr rfl fun x _ => congrArg₂ (· * ·) ((rd2 arg5.view (harg5.unread x2) _ (k0_off1_eq (grid0.coords t)) κ x ⟨256 * qb t + κ.val, by omega⟩ x rfl (by omega)).trans (congrFun e5 _))
          ((rd3 arg10.view _ _ rfl 0 q _ 1 q ⟨x.val, by omega⟩ rfl (by omega) (by omega)).trans (qa_lo arg10.view _ _ _ _ x1 x4 1 q x)))
        (Finset.sum_congr rfl fun x _ => congrArg₂ (· * ·) ((rd2 arg8.view (harg8.unread x5) _ rfl κ x ⟨256 * (0 : Fin 4).val + κ.val, by omega⟩ x (by simp) (by omega)).trans (congrFun e8 _))
          ((rd3 arg10.view _ _ rfl 0 q _ 1 q ⟨128 + x.val, by omega⟩ rfl (by omega) (by show 128 + x.val = 0 + (128 + x.val); omega)).trans (qa_hi arg10.view _ _ _ _ x1 x4 1 q x)))) ((hs 1 q ⟨qb t, hn⟩ 0 κ).trans (congrArg _ ?_))
      unfold zz; simp
    · intro r κ
      unfold vv; rw [dif_pos hn]
      exact (rd5 arg6.view (harg6.unread x3) _ (k0_off2_eq (grid0.coords t)) 0 0 0 r κ ⟨qb t, hn⟩ 0 0 r κ rfl rfl rfl (by omega) (by omega)).trans (congrFun e6 _)
    · intro r κ
      unfold vv; rw [dif_pos hn]
      exact (rd5 arg6.view (harg6.unread x3) _ (k0_off3_eq (grid0.coords t)) 0 0 0 r κ ⟨qb t, hn⟩ 0 1 r κ rfl rfl rfl (by omega) (by omega)).trans (congrFun e6 _)

end Cert.KernelIdeal.Value
-- ==== Proof.Blocks.lean ====
/- One grid point's result from the arguments: the blocks that the pipeline stages, the scores they give, and the attention
   of the 256 queries of the point's block for its two heads. -/
module

public import proofs.«01_k».proof.Proof.Spec
public import proofs.«01_k».proof.Proof.Inputs
public import proofs.«01_k».proof.Proof.Point

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

/-- A point's batch and its pair of heads. -/
abbrev bat (t : Fin grid0.N) : Nat := ((grid0.coords t) 0).val
abbrev pr (t : Fin grid0.N) : Nat := ((grid0.coords t) 1).val

theorem bat_lt (t : Fin grid0.N) : bat t < 2 := ((grid0.coords t) 0).isLt
theorem pr_lt (t : Fin grid0.N) : pr t < 4 := ((grid0.coords t) 1).isLt

theorem idx : ∀ t : Fin cfg0.N, win0_0.index t = ![4 * bat t + pr t, 0, qb t] ∧ win0_1.index t = ![64 * bat t + qb t, pr t]
    ∧ win0_2.index t = ![bat t, pr t] ∧ win0_3.index t = ![bat t, pr t, 0, 0, 0] ∧ win0_4.index t = ![pr t, 0, 0, 0]
    ∧ win0_5.index t = ![0, 0] ∧ win0_6.index t = ![64 * bat t + qb t, pr t] :=
  (by decide +kernel : ∀ t : Fin grid0.N, _)

/-! ## The staged blocks -/

section

variable (m : (ℓ : Loc nD τ sig) → Buf (Elt Ideal) ℓ) (c : Dev nD) (t : Fin cfg0.N)

/-- The six staged blocks. -/
abbrev s0 : IVec S1x8x256 32 := iblk m c 0 t
abbrev s1 : FVec Ideal S256x128 .bf16 := iblk m c 1 t
abbrev s2 : FVec Ideal S16384x128 .bf16 := iblk m c 2 t
abbrev s3 : FVec Ideal S64x1x2x128x256 .bf16 := iblk m c 3 t
abbrev s4 : FVec Ideal S1x2x256x128 .bf16 := iblk m c 4 t
abbrev s5 : FVec Ideal S1024x128 .bf16 := iblk m c 5 t

theorem block0 (j : Fin 8) (q : Fin 256) : s0 m c t (ix3 0 j q)
    = (m ((c : Thread nD τ).loc main_arg4) : IVec S8x8x16384 32) (ix3 ⟨4 * bat t + pr t, by have := bat_lt t; have := pr_lt t; omega⟩ j ⟨256 * qb t + q.val, by have := qb_lt t; omega⟩) := by
  blk_ext [s0, iblk, V_main_arg4, idx t]

theorem block1 (q : Fin 256) (x : Fin 128) : s1 m c t (ix2 q x)
    = (V m c main_v5 : FVec Ideal S32768x512 .bf16) (ix2 ⟨16384 * bat t + 256 * qb t + q.val, by have := bat_lt t; have := qb_lt t; omega⟩ ⟨128 * pr t + x.val, by have := pr_lt t; omega⟩) := by
  blk_ext [s1, iblk, idx t]

theorem block2 (r : Fin 16384) (x : Fin 128) : s2 m c t (ix2 r x)
    = (V m c main_v6 : FVec Ideal S32768x512 .bf16) (ix2 ⟨16384 * bat t + r.val, by have := bat_lt t; omega⟩ ⟨128 * pr t + x.val, by have := pr_lt t; omega⟩) := by
  blk_ext [s2, iblk, idx t]

theorem block3 (b : Fin 64) (h : Fin 2) (r : Fin 128) (κ : Fin 256) : s3 m c t (ix5 b 0 h r κ)
    = (V m c main_v18 : FVec Ideal S128x4x2x128x256 .bf16) (ix5 ⟨64 * bat t + b.val, by have := bat_lt t; omega⟩ ⟨pr t, pr_lt t⟩ h r κ) := by
  blk_ext [s3, iblk, idx t]

theorem block4 (h : Fin 2) (q : Fin 256) (x : Fin 128) : s4 m c t (ix4 0 h q x)
    = (V m c main_v42 : FVec Ideal S4x2x256x128 .bf16) (ix4 ⟨pr t, pr_lt t⟩ h q x) := by
  blk_ext [s4, iblk, idx t]

theorem block5 (r : Fin 1024) (x : Fin 128) : s5 m c t (ix2 r x) = (V m c main_v57 : FVec Ideal S1024x128 .bf16) (ix2 r x) := by
  blk_ext [s5, iblk, idx t]

end

/-! ## The scores -/

/-- Keeping a head's half of the lanes, a product over a pair's lanes is the head's. -/
theorem half_sum (f : ℕ → ℝ) (h : Fin 2) : ∑ x : Fin 128, (if (h = 0 ↔ x.val < 64) then f x.val else 0) = ∑ d : Fin 64, f (64 * h.val + d.val) := by
  refine (Fin.sum_univ_add (a := 64) (b := 64) (fun x : Fin (64 + 64) => if (h = 0 ↔ x.val < 64) then f x.val else 0)).trans ?_
  fin_cases h
  · simp
  · simp [add_comm]

theorem pos_sum (σ : ℝ) (u κ : ℕ) : ∑ x : Fin 128, (if x.val < 2 then (κ : ℝ) else if x.val < 4 then (u : ℝ) else 0) * (if x.val = 0 then σ else if x.val = 2 then σ * 256 else 0)
    = σ * (256 * u + κ) := by
  have e : ∀ x : Fin 128, (if x.val < 2 then (κ : ℝ) else if x.val < 4 then (u : ℝ) else 0) * (if x.val = 0 then σ else if x.val = 2 then σ * 256 else 0)
      = (if x = 0 then κ * σ else 0) + (if x = 2 then u * (σ * 256) else 0) := fun x => by
    have i0 : (x = 0) ↔ x.val = 0 := Fin.ext_iff
    have i2 : (x = 2) ↔ x.val = 2 := Fin.ext_iff
    rw [if_congr i0 rfl rfl, if_congr i2 rfl rfl]
    by_cases h0 : x.val = 0
    · simp [h0]
    · by_cases h2 : x.val = 2
      · simp [h2]
      · simp [h0, h2]
  rw [Finset.sum_congr rfl fun x _ => e x, Finset.sum_add_distrib, Finset.sum_ite_eq' Finset.univ (0 : Fin 128), Finset.sum_ite_eq' Finset.univ (2 : Fin 128),
    if_pos (Finset.mem_univ _), if_pos (Finset.mem_univ _)]
  ring

theorem coe_sum {ι : Type} (s : Finset ι) (f : ι → ℝ) : ∑ i ∈ s, ((f i : ℝ) : EReal) = ((∑ i ∈ s, f i : ℝ) : EReal) := by
  induction s using Finset.induction_on with
  | empty => simp
  | insert a s ha ih => rw [Finset.sum_insert ha, Finset.sum_insert ha, ih, EReal.coe_add]

/-- The arguments as functions of row and lane. -/
structure Numbers (m : (ℓ : Loc nD τ sig) → Buf (Elt Ideal) ℓ) (c : Dev nD) (Q K : ℕ → ℕ → ℝ) (W : ℕ → ℕ → EReal) (A : ℕ → ℝ)
    (I : ℕ → ℕ → ℕ → BitVec 32) : Prop where
  q : ∀ (r : Fin 32768) (j : Fin 512), (m ((c : Thread nD τ).loc main_arg0) : FVec Ideal S32768x512 .f32) (ix2 r j) = ((Q r.val j.val : ℝ) : EReal)
  k : ∀ (r : Fin 32768) (j : Fin 512), (m ((c : Thread nD τ).loc main_arg1) : FVec Ideal S32768x512 .f32) (ix2 r j) = ((K r.val j.val : ℝ) : EReal)
  v : ∀ (r : Fin 32768) (j : Fin 512), (m ((c : Thread nD τ).loc main_arg2) : FVec Ideal S32768x512 .f32) (ix2 r j) = W r.val j.val
  a : ∀ H : Fin 8, (m ((c : Thread nD τ).loc main_arg3) : FVec Ideal S8 .f32) (ix1 H) = ((A H.val : ℝ) : EReal)
  i : ∀ (r : Fin 8) (j : Fin 8) (s : Fin 16384), (m ((c : Thread nD τ).loc main_arg4) : IVec S8x8x16384 32) (ix3 r j s) = I r.val j.val s.val

section

variable {m : (ℓ : Loc nD τ sig) → Buf (Elt Ideal) ℓ} {c : Dev nD} {Q K : ℕ → ℕ → ℝ} {W : ℕ → ℕ → EReal} {A : ℕ → ℝ} {I : ℕ → ℕ → ℕ → BitVec 32}
  (N : Numbers m c Q K W A I) (t : Fin cfg0.N)
include N

/-- The scaled scores of a point's queries for its two heads. -/
def pointScore (Q K : ℕ → ℕ → ℝ) (t : Fin cfg0.N) (h : Fin 2) (q : Fin 256) (b : ℕ) (κ : Fin 256) : ℝ :=
  product Q K (2 * pr t + h.val) (16384 * bat t + 256 * qb t + q.val) (16384 * bat t + 256 * b + κ.val) * (1 / 8 * (Real.log 2)⁻¹)

/-- The slopes of a point's two heads, over `log 2`. -/
def pointSlope (A : ℕ → ℝ) (t : Fin cfg0.N) (h : Fin 2) : ℝ := A (2 * pr t + h.val) * (Real.log 2)⁻¹

theorem cols_at (h : Fin 2) (q : Fin 256) (x : Fin 128) : s4 m c t (ix4 0 h q x)
    = ((if x.val = 0 then pointSlope A t h else if x.val = 2 then pointSlope A t h * 256 else 0 : ℝ) : EReal) := by
  rw [block4, entry_slopes]
  refine slopeCols_at _ _ _ _ _ _ ?_
  rw [N.a, ← EReal.coe_mul]
  rfl

theorem slope_at (h : Fin 2) : slope (s4 m c t) h = ((pointSlope A t h : ℝ) : EReal) := by
  unfold slope
  rw [cols_at N, cols_at N, ← EReal.coe_add]
  simp

theorem query_at (q : Fin 256) (x : Fin 128) : s1 m c t (ix2 q x)
    = ((Q (16384 * bat t + 256 * qb t + q.val) (128 * pr t + x.val) * (1 / 8 * (Real.log 2)⁻¹) : ℝ) : EReal) := by
  rw [block1, entry_q, scaled_at, N.q, ← EReal.coe_mul]

theorem key_at (b : Fin 64) (κ : Fin 256) (x : Fin 128) : s2 m c t (ix2 ⟨256 * b.val + κ.val, by omega⟩ x)
    = ((K (16384 * bat t + 256 * b.val + κ.val) (128 * pr t + x.val) : ℝ) : EReal) := by
  rw [block2, entry_k, narrow_at, N.k]
  simp only [add_assoc]

theorem scores_at (h : Fin 2) (q : Fin 256) (b : Fin 64) (u : Fin 4) (κ : Fin 256) :
    ∑ x : Fin 128, s2 m c t (ix2 ⟨256 * b.val + κ.val, by omega⟩ x) * lane h x (s1 m c t (ix2 q x))
      + ∑ x : Fin 128, s5 m c t (ix2 ⟨256 * u.val + κ.val, by omega⟩ x) * s4 m c t (ix4 0 h q x)
      = ((pointScore Q K t h q b.val κ + pointSlope A t h * (256 * u.val + κ.val) : ℝ) : EReal) := by
  have e1 : ∀ x : Fin 128, s2 m c t (ix2 ⟨256 * b.val + κ.val, by omega⟩ x) * lane h x (s1 m c t (ix2 q x))
      = ((if (h = 0 ↔ x.val < 64) then K (16384 * bat t + 256 * b.val + κ.val) (128 * pr t + x.val) * (Q (16384 * bat t + 256 * qb t + q.val) (128 * pr t + x.val) * (1 / 8 * (Real.log 2)⁻¹)) else 0 : ℝ) : EReal) := fun x => by
    rw [key_at N, query_at N]
    unfold lane
    split_ifs
    · rw [← EReal.coe_mul]
    · rw [mul_zero, EReal.coe_zero]
  have e2 : ∀ x : Fin 128, s5 m c t (ix2 ⟨256 * u.val + κ.val, by omega⟩ x) * s4 m c t (ix4 0 h q x)
      = (((if x.val < 2 then (κ.val : ℝ) else if x.val < 4 then (u.val : ℝ) else 0) * (if x.val = 0 then pointSlope A t h else if x.val = 2 then pointSlope A t h * 256 else 0) : ℝ) : EReal) := fun x => by
    rw [block5, entry_places, placeCols_at, cols_at N, ← EReal.coe_mul]
    rw [show (256 * u.val + κ.val) % 256 = κ.val by omega, show (256 * u.val + κ.val) / 256 = u.val by omega]
  rw [Finset.sum_congr rfl fun x _ => e1 x, Finset.sum_congr rfl fun x _ => e2 x, coe_sum, coe_sum, pos_sum, ← EReal.coe_add]
  refine congrArg (fun z : ℝ => ((z + _ : ℝ) : EReal)) ?_
  rw [half_sum (fun x => K (16384 * bat t + 256 * b.val + κ.val) (128 * pr t + x) * (Q (16384 * bat t + 256 * qb t + q.val) (128 * pr t + x) * (1 / 8 * (Real.log 2)⁻¹)))]
  unfold pointScore product
  rw [Finset.sum_mul]
  refine Finset.sum_congr rfl fun d _ => ?_
  rw [show 128 * pr t + (64 * h.val + d.val) = 64 * (2 * pr t + h.val) + d.val by ring]
  ring

theorem value_at (b : Fin 64) (h : Fin 2) (r : Fin 128) (κ : Fin 256) : s3 m c t (ix5 b 0 h r κ)
    = if (h = 0 ↔ r.val < 64) then W (16384 * bat t + 256 * b.val + κ.val) (128 * pr t + r.val) else 1 := by
  rw [block3, entry_v, padded_at]
  refine if_congr Iff.rfl ?_ rfl
  rw [N.v]
  refine congrArg (fun z => W z _) ?_
  show 256 * (64 * bat t + b.val) + κ.val = _
  ring

theorem listed_at (h : Fin 2) (q : Fin 256) : sel (k0_pay130 (F := Ideal) (s0 m c t)) h q = chosen I (bat t) (2 * pr t + h.val) (256 * qb t + q.val) := by
  funext b
  unfold sel chosen Sel
  have e : ∀ j : Fin 8, k0_pay130 (F := Ideal) (s0 m c t) (ix2 j q) = I (4 * bat t + pr t) j.val (256 * qb t + q.val) := fun j => by
    rw [ids_at, block0, N.i]
  rw [e, e, e, show (2 * pr t + h.val) / 2 = pr t by omega, show (2 * pr t + h.val) % 2 = h.val by omega]

/-- One head of one query at one point. -/
theorem head_at (h : Fin 2) (q : Fin 256) (r o : Fin 128) (hr : h = 0 ↔ r.val < 64) (ho : ¬ (h = 0 ↔ o.val < 64)) (μ ν : ℝ) :
    Ideal.div (total (qb t) (pointScore Q K t) (pointSlope A t) (k0_pay130 (F := Ideal) (s0 m c t)) (s3 m c t) h q r μ)
        (total (qb t) (pointScore Q K t) (pointSlope A t) (k0_pay130 (F := Ideal) (s0 m c t)) (s3 m c t) h q o μ)
      = attention Q K W A I (bat t) (qb t) q.val (2 * pr t + h.val) (r.val % 64) ν := by
  unfold total
  rw [average (qb t) (qb_lt t) (fun κ => κ.val ≤ q.val) _ _ _ _ (fun b κ => ?_) q le_rfl μ ν]
  · rw [listed_at N]
    unfold attention
    refine Finset.sum_congr rfl fun k _ => ?_
    refine congrArg₂ (fun y z => y * z) rfl ?_
    unfold vv
    rw [dif_pos k.1.isLt, value_at N, if_pos hr]
    refine congrArg (W _) ?_
    have := h.isLt
    have hh : h = 0 ↔ h.val = 0 := Fin.ext_iff
    have := hh.symm.trans hr
    omega
  · unfold vv
    rw [dif_pos b.isLt, value_at N, if_neg ho]

theorem stored_at (q : Fin 256) (r : Fin 128) (ν : ℝ) : outsAt0 m c t (ix2 q r)
    = attention Q K W A I (bat t) (qb t) q.val (2 * pr t + r.val / 64) (r.val % 64) ν := by
  unfold outsAt0
  obtain ⟨μ, h⟩ := point c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
    (pointScore Q K t) (pointSlope A t) (scores_at N t) (slope_at N t) q
  refine (h r).trans ?_
  by_cases hr : r.val < 64
  · exact (if_pos hr).trans ((head_at N t 0 q r 64 (by simp [hr]) (by decide) (μ 0) ν).trans
      (congrArg (fun e => attention Q K W A I (bat t) (qb t) q.val (2 * pr t + e) (r.val % 64) ν) (show 0 = r.val / 64 by omega)))
  · exact (if_neg hr).trans ((head_at N t 1 q r 0 (by simp [hr]) (by decide) (μ 1) ν).trans
      (congrArg (fun e => attention Q K W A I (bat t) (qb t) q.val (2 * pr t + e) (r.val % 64) ν) (show 1 = r.val / 64 by omega)))

end

end Cert.KernelIdeal.Value

end
-- ==== Proof.Masked.lean ====
/- The reference's result in named stages, and its mask: the keys of the blocks that a query's lists name, and those up to the
   query in its own block. -/
module

public import proofs.«01_k».proof.Proof.Spec
public import proofs.«01_k».proof.Proof.Gen.ReferenceIdeal.Run
public import Idealize.ShloMosaic.Lib.Routing.Words
public import Idealize.ShloMosaic.Lib.Pipeline.ValueKit

@[expose] public section

set_option maxRecDepth 16384

noncomputable section

open Idealize.ShloMosaic Idealize.ShloMosaic.TcCoe Idealize.SL.Sem
open scoped Classical

namespace Cert.ReferenceIdeal.Value

open Cert.ReferenceIdeal Cert.ReferenceIdeal.Gen Attn

/-! ## The stages -/

section

variable (X0 X1 X2 : FVec Ideal S32768x512 .f32) (X3 : FVec Ideal S8 .f32) (X4 : IVec S8x8x16384 32)

/-- Positions along the keys and along the queries. -/
def keyPos : IVec S1x16384 32 := broadcastInDim S1x16384 ![1] bcast_S16384_S1x16384_1 (iotaInDim S16384 32 0)
def queryPos : IVec S16384x1 32 := broadcastInDim S16384x1 ![0] bcast_S16384_S16384x1_0 (iotaInDim S16384 32 0)

/-- A position's block, by rounding division. -/
def keyBlock : IVec S1x16384 32 :=
  select (andi (cmpi .ne (signi keyPos) (broadcastInDim S1x16384 ![] bcast_S_S1x16384 (signi (id (constantI S_ 32 256#32)))))
      (cmpi .ne (Host.remsi keyPos (broadcastInDim S1x16384 ![] bcast_S_S1x16384 (id (constantI S_ 32 256#32)))) (broadcastInDim S1x16384 ![] bcast_S_S1x16384 (constantI S_ 32 0#32))))
    (subi (Host.divsi keyPos (broadcastInDim S1x16384 ![] bcast_S_S1x16384 (id (constantI S_ 32 256#32)))) (broadcastInDim S1x16384 ![] bcast_S_S1x16384 (constantI S_ 32 1#32)))
    (Host.divsi keyPos (broadcastInDim S1x16384 ![] bcast_S_S1x16384 (id (constantI S_ 32 256#32))))
def queryBlock : IVec S16384x1 32 :=
  select (andi (cmpi .ne (signi queryPos) (broadcastInDim S16384x1 ![] bcast_S_S16384x1 (signi (id (constantI S_ 32 256#32)))))
      (cmpi .ne (Host.remsi queryPos (broadcastInDim S16384x1 ![] bcast_S_S16384x1 (id (constantI S_ 32 256#32)))) (broadcastInDim S16384x1 ![] bcast_S_S16384x1 (constantI S_ 32 0#32))))
    (subi (Host.divsi queryPos (broadcastInDim S16384x1 ![] bcast_S_S16384x1 (id (constantI S_ 32 256#32)))) (broadcastInDim S16384x1 ![] bcast_S_S16384x1 (constantI S_ 32 1#32)))
    (Host.divsi queryPos (broadcastInDim S16384x1 ![] bcast_S_S16384x1 (id (constantI S_ 32 256#32))))

/-- Each head's three lists. -/
def lists : IVec S2x8x3x16384 32 :=
  shapeCast _ (extractStridedSlice S2x4x6x16384 ![0, 0, 0, 0] (shapeCast _ X4 shapeCasts_S8x8x16384_S2x4x8x16384) slices_S2x4x8x16384_S2x4x6x16384_0_0_0_0) shapeCasts_S2x4x6x16384_S2x8x3x16384

/-- Whether one list of a query names a key's block. -/
def named (Y : IVec S2x8x1x16384 32) : IVec S2x8x16384x16384 1 :=
  cmpi .eq (broadcastInDim S2x8x16384x16384 ![0, 1, 2, 3] bcast_S2x8x16384x1_S2x8x16384x16384_0_1_2_3 (broadcastInDim S2x8x16384x1 ![0, 1, 2] bcast_S2x8x16384_S2x8x16384x1_0_1_2 (shapeCast _ Y shapeCasts_S2x8x1x16384_S2x8x16384)))
    (broadcastInDim S2x8x16384x16384 ![0, 1, 2, 3] bcast_S1x1x1x16384_S2x8x16384x16384_0_1_2_3 (broadcastInDim S1x1x1x16384 ![2, 3] bcast_S1x16384_S1x1x1x16384_2_3 keyBlock))

/-- How far a key lies before a query. -/
def dist : IVec S16384x16384 32 := subi (broadcastInDim S16384x16384 ![0, 1] bcast_S16384x1_S16384x16384_0_1 queryPos) (broadcastInDim S16384x16384 ![0, 1] bcast_S1x16384_S16384x16384_0_1 keyPos)

/-- Whether a key lies in the query's block, up to the query. -/
def ownBlock : IVec S16384x16384 1 :=
  andi (cmpi .eq (broadcastInDim S16384x16384 ![0, 1] bcast_S1x16384_S16384x16384_0_1 keyBlock) (broadcastInDim S16384x16384 ![0, 1] bcast_S16384x1_S16384x16384_0_1 queryBlock))
    (cmpi .sge dist (broadcastInDim S16384x16384 ![] bcast_S_S16384x16384 (constantI S_ 32 0#32)))

def mask : IVec S2x8x16384x16384 1 :=
  ori (ori (ori (named (extractStridedSlice S2x8x1x16384 ![0, 0, 0, 0] (lists X4) slices_S2x8x3x16384_S2x8x1x16384_0_0_0_0))
      (named (extractStridedSlice S2x8x1x16384 ![0, 0, 1, 0] (lists X4) slices_S2x8x3x16384_S2x8x1x16384_0_0_1_0)))
      (named (extractStridedSlice S2x8x1x16384 ![0, 0, 2, 0] (lists X4) slices_S2x8x3x16384_S2x8x1x16384_0_0_2_0)))
    (broadcastInDim S2x8x16384x16384 ![0, 1, 2, 3] bcast_S1x1x16384x16384_S2x8x16384x16384_0_1_2_3 (broadcastInDim S1x1x16384x16384 ![2, 3] bcast_S16384x16384_S1x1x16384x16384_2_3 ownBlock))

/-- An argument's heads. -/
def heads (X : FVec Ideal S32768x512 .f32) : FVec Ideal S2x8x16384x64 .f32 :=
  transpose S2x8x16384x64 [0, 2, 1, 3] (shapeCast _ X shapeCasts_S32768x512_S2x16384x8x64) transposes_S2x16384x8x64_S2x8x16384x64_0_2_1_3

def scores : FVec Ideal S2x8x16384x16384 .f32 :=
  subf (mulf (Host.dotGeneral dot_S2x8x16384x64_S2x8x16384x64_S2x8x16384x16384_3_3_2_2_01_01 none (heads X0) (heads X1))
      (broadcastInDim S2x8x16384x16384 ![] bcast_S_S2x8x16384x16384 (constant S_ .f32 0x3E000000#32)))
    (broadcastInDim S2x8x16384x16384 ![0, 1, 2, 3] bcast_S1x8x16384x16384_S2x8x16384x16384_0_1_2_3
      (mulf (broadcastInDim S1x8x16384x16384 ![0, 1, 2, 3] bcast_S1x8x1x1_S1x8x16384x16384_0_1_2_3 (broadcastInDim S1x8x1x1 ![1] bcast_S8_S1x8x1x1_1 X3))
        (broadcastInDim S1x8x16384x16384 ![0, 1, 2, 3] bcast_S1x1x16384x16384_S1x8x16384x16384_0_1_2_3 (broadcastInDim S1x1x16384x16384 ![2, 3] bcast_S16384x16384_S1x1x16384x16384_2_3 (sitofp .f32 dist)))))

def masked : FVec Ideal S2x8x16384x16384 .f32 :=
  select (mask X4) (scores X0 X1 X3) (broadcastInDim S2x8x16384x16384 ![] bcast_S_S2x8x16384x16384 (id (constant S_ .f32 0xFF800000#32)))

/-- A query's greatest score. -/
def peak : FVec Ideal S2x8x16384 .f32 :=
  maximumf (broadcastInDim S2x8x16384 ![] bcast_S_S2x8x16384 (constant S_ .f32 0xFF800000#32))
    (Host.reduce FloatOps.maximumf (masked X0 X1 X3 X4) (constant S_ .f32 0xFF800000#32) reducesTo_S2x8x16384x16384_S2x8x16384_d3 h_S_)

/-- A query's number, at each of its keys. -/
def perKey (Y : FVec Ideal S2x8x16384 .f32) : FVec Ideal S2x8x16384x16384 .f32 :=
  broadcastInDim S2x8x16384x16384 ![0, 1, 2, 3] bcast_S2x8x16384x1_S2x8x16384x16384_0_1_2_3 (broadcastInDim S2x8x16384x1 ![0, 1, 2] bcast_S2x8x16384_S2x8x16384x1_0_1_2 Y)

def powers : FVec Ideal S2x8x16384x16384 .f32 := Host.exp (subf (masked X0 X1 X3 X4) (perKey (peak X0 X1 X3 X4)))

def norm : FVec Ideal S2x8x16384 .f32 :=
  Host.reduceAdd (powers X0 X1 X3 X4) (constant S_ .f32 0x00000000#32) reducesTo_S2x8x16384x16384_S2x8x16384_d3 h_S_

def averaged : FVec Ideal S2x8x16384x64 .f32 :=
  Host.dotGeneral dot_S2x8x16384x16384_S2x8x16384x64_S2x8x16384x64_3_2_2_3_01_01 none (Host.divf (powers X0 X1 X3 X4) (perKey (norm X0 X1 X3 X4))) (heads X2)

def result : FVec Ideal S32768x512 .bf16 :=
  truncf .bf16 (shapeCast _ (transpose S2x16384x8x64 [0, 2, 1, 3] (averaged X0 X1 X2 X3 X4) transposes_S2x8x16384x64_S2x16384x8x64_0_2_1_3) shapeCasts_S2x16384x8x64_S32768x512) bitsLt_bf16_f32

end

theorem res_stages (m : (ℓ : Loc nD τ sig) → Buf (Elt Ideal) ℓ) (c : Dev nD) : res_main_v79 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## The mask -/

theorem keyPos_at (s : Fin 16384) : keyPos (ix2 0 s) = BitVec.ofNat 32 s.val := rfl
theorem queryPos_at (s : Fin 16384) : queryPos (ix2 s 0) = BitVec.ofNat 32 s.val := rfl

/-- The sign of a word. -/
def sign (x : BitVec 32) : BitVec 32 := if x = 0 then 0 else if x.msb then -1 else 1

/-- Rounding division of a position by the block's length: no position is negative, so nothing is taken off the quotient. -/
theorem floor_at (s : ℕ) (hs : s < 16384) :
    Scalar.select (IntOp.andi (IntOp.cmpi .ne (sign (BitVec.ofNat 32 s)) (sign 256#32)) (IntOp.cmpi .ne (IntOp.remsi .host (BitVec.ofNat 32 s) 256#32) 0#32))
      (IntOp.subi (IntOp.divsi .host (BitVec.ofNat 32 s) 256#32) 1#32) (IntOp.divsi .host (BitVec.ofNat 32 s) 256#32) = BitVec.ofNat 32 (s / 256) := by
  have hd : IntOp.divsi .host (BitVec.ofNat 32 s) 256#32 = BitVec.ofNat 32 (s / 256) := Routing.divsi_word .host (a := s) (b := 256) (by omega) (by omega) (by omega)
  have hr : IntOp.remsi .host (BitVec.ofNat 32 s) 256#32 = BitVec.ofNat 32 (s % 256) := Routing.remsi_word .host (a := s) (b := 256) (by omega) (by omega) (by omega)
  rw [hd, hr]
  unfold Scalar.select
  refine if_neg fun h => ?_
  rcases Nat.eq_zero_or_pos s with h0 | h0
  · subst h0
    exact absurd h (by decide)
  · have e : sign (BitVec.ofNat 32 s) = 1#32 := by
      unfold sign
      rw [if_neg fun h => ?_, if_neg fun h => ?_]
      · rfl
      · rw [BitVec.msb_eq_decide] at h
        simp at h
        omega
      · have := congrArg BitVec.toNat h
        simp at this
        omega
    rw [e] at h
    revert h
    have e' : IntOp.cmpi .ne 1#32 (sign 256#32) = 0#1 := by decide
    rw [e']
    intro h
    unfold IntOp.andi at h
    rw [BitVec.zero_and] at h
    exact absurd h (by decide)

theorem keyBlock_at (s : Fin 16384) : keyBlock (ix2 0 s) = BitVec.ofNat 32 (s.val / 256) := floor_at s.val s.isLt
theorem queryBlock_at (s : Fin 16384) : queryBlock (ix2 s 0) = BitVec.ofNat 32 (s.val / 256) := floor_at s.val s.isLt

theorem lists_at (X4 : IVec S8x8x16384 32) (a : Fin 2) (H : Fin 8) (e : Fin 3) (s : Fin 16384) : lists X4 (ix4 a H e s)
    = X4 (ix3 ⟨4 * a.val + H.val / 2, by omega⟩ ⟨3 * (H.val % 2) + e.val, by omega⟩ s) := by
  unfold lists
  pointwise
  simp only [mul_comm]

theorem heads_at (X : FVec Ideal S32768x512 .f32) (a : Fin 2) (H : Fin 8) (s : Fin 16384) (d : Fin 64) : heads X (ix4 a H s d)
    = X (ix2 ⟨16384 * a.val + s.val, by omega⟩ ⟨64 * H.val + d.val, by omega⟩) := by
  unfold heads
  pointwise
  simp only [mul_comm]

theorem named_at (Y : IVec S2x8x1x16384 32) (a : Fin 2) (H : Fin 8) (s k : Fin 16384) : named Y (ix4 a H s k)
    = IntOp.cmpi .eq (Y (ix4 a H 0 s)) (BitVec.ofNat 32 (k.val / 256)) := by
  unfold named
  pointwise
  rw [keyBlock_at]

theorem word_toInt (s : ℕ) (hs : s < 16384) : (BitVec.ofNat 32 s).toInt = s := by
  rw [BitVec.toInt_eq_toNat_of_lt (by rw [BitVec.toNat_ofNat]; omega), BitVec.toNat_ofNat]
  omega

theorem dist_at (s k : Fin 16384) : (dist (ix2 s k)).toInt = (s.val : ℤ) - k.val := by
  show (BitVec.ofNat 32 s.val - BitVec.ofNat 32 k.val).toInt = _
  rw [BitVec.toInt_sub, word_toInt _ s.isLt, word_toInt _ k.isLt]
  refine Int.bmod_eq_of_le ?_ ?_ <;> omega

/-- A query's mask at a key. -/
theorem mask_at (X4 : IVec S8x8x16384 32) (a : Fin 2) (H : Fin 8) (s k : Fin 16384) : mask X4 (ix4 a H s k) = 1#1
    ↔ ((lists X4 (ix4 a H 0 s) = BitVec.ofNat 32 (k.val / 256) ∨ lists X4 (ix4 a H 1 s) = BitVec.ofNat 32 (k.val / 256))
        ∨ lists X4 (ix4 a H 2 s) = BitVec.ofNat 32 (k.val / 256)) ∨ (k.val / 256 = s.val / 256 ∧ k.val ≤ s.val) := by
  have e : mask X4 (ix4 a H s k) = IntOp.ori (IntOp.ori (IntOp.ori (IntOp.cmpi .eq (lists X4 (ix4 a H 0 s)) (BitVec.ofNat 32 (k.val / 256)))
      (IntOp.cmpi .eq (lists X4 (ix4 a H 1 s)) (BitVec.ofNat 32 (k.val / 256)))) (IntOp.cmpi .eq (lists X4 (ix4 a H 2 s)) (BitVec.ofNat 32 (k.val / 256))))
      (IntOp.andi (IntOp.cmpi .eq (BitVec.ofNat 32 (k.val / 256)) (BitVec.ofNat 32 (s.val / 256))) (IntOp.cmpi .sge (dist (ix2 s k)) 0#32)) := by
    unfold mask ownBlock
    pointwise
    rw [named_at, named_at, named_at, keyBlock_at, queryBlock_at]
    pointwise
  rw [e, IntOp.ori_eq_one, IntOp.ori_eq_one, IntOp.ori_eq_one, IntOp.andi_eq_one, IntOp.cmpi_eq, IntOp.cmpi_eq, IntOp.cmpi_eq, IntOp.cmpi_eq, IntOp.cmpi_sge, dist_at]
  refine or_congr Iff.rfl (and_congr ⟨fun h => ?_, fun h => by rw [h]⟩ ?_)
  · have := congrArg BitVec.toNat h
    simp at this
    omega
  · rw [show (0#32 : BitVec 32).toInt = 0 from rfl]
    omega

end Cert.ReferenceIdeal.Value

end
-- ==== Proof.Scores.lean ====
/- The reference at one query of one head: its masked scores, its greatest score, its weights, and its average of the values. -/
module

public import proofs.«01_k».proof.Proof.Masked

@[expose] public section

set_option maxRecDepth 16384

noncomputable section

open Idealize.ShloMosaic Idealize.ShloMosaic.TcCoe Idealize.SL.Sem
open scoped Classical

namespace Cert.ReferenceIdeal.Value

open Cert.ReferenceIdeal Cert.ReferenceIdeal.Gen Attn

/-- The arguments as functions of row and lane, the lists naming blocks before the query's own only. -/
structure Numbers (X0 X1 X2 : FVec Ideal S32768x512 .f32) (X3 : FVec Ideal S8 .f32) (X4 : IVec S8x8x16384 32)
    (Q K : ℕ → ℕ → ℝ) (W : ℕ → ℕ → EReal) (A : ℕ → ℝ) (I : ℕ → ℕ → ℕ → BitVec 32) : Prop where
  q : ∀ (r : Fin 32768) (j : Fin 512), X0 (ix2 r j) = ((Q r.val j.val : ℝ) : EReal)
  k : ∀ (r : Fin 32768) (j : Fin 512), X1 (ix2 r j) = ((K r.val j.val : ℝ) : EReal)
  v : ∀ (r : Fin 32768) (j : Fin 512), X2 (ix2 r j) = W r.val j.val
  a : ∀ H : Fin 8, X3 (ix1 H) = ((A H.val : ℝ) : EReal)
  i : ∀ (r : Fin 8) (j : Fin 8) (s : Fin 16384), X4 (ix3 r j s) = I r.val j.val s.val
  past : ∀ (r : Fin 8) (j : Fin 8) (s : Fin 16384), (X4 (ix3 r j s)).toInt < ((s.val / 256 : ℕ) : ℤ)

theorem total_real {ι : Type} (s : Finset ι) (f : ι → ℝ) : ∑ i ∈ s, ((f i : ℝ) : EReal) = ((∑ i ∈ s, f i : ℝ) : EReal) := by
  induction s using Finset.induction_on with
  | empty => simp
  | insert a s ha ih => rw [Finset.sum_insert ha, Finset.sum_insert ha, ih, EReal.coe_add]

/-- The greatest of numbers none of which is infinite upwards and one of which is finite, from minus infinity, is finite. -/
theorem greatest_real {s t u : Shape} {axes : List (Fin s.rank)} (x : FVec Ideal s .f32) (init : FVec Ideal u .f32) (h : s.ReducesTo axes t) (hu : 0 < u.numel)
    (j : t.Idx) (hinit : init (Shape.Idx.first hu) = ⊥) (hx : ∀ i, x i ≠ ⊤) (i : s.Idx) (hi : h.drop i = j) (hi' : x i ≠ ⊥) :
    ∃ ρ : ℝ, Host.reduce FloatOps.maximumf x init h hu j = (ρ : EReal) := by
  have e : Host.reduce FloatOps.maximumf x init h hu j = (Finset.univ.filter fun i => h.drop i = j).sup (fun i => (x i : EReal)) := by
    rw [Host.reduce_eq_fold, hinit]
    rfl
  rw [e]
  have ht : (Finset.univ.filter fun i => h.drop i = j).sup (fun i => (x i : EReal)) ≠ ⊤ :=
    ((Finset.sup_lt_iff (by exact bot_lt_top)).2 fun k _ => lt_top_iff_ne_top.2 (hx k)).ne
  have hb : (Finset.univ.filter fun i => h.drop i = j).sup (fun i => (x i : EReal)) ≠ ⊥ := fun hb =>
    hi' (le_bot_iff.1 (hb ▸ Finset.le_sup (f := fun i => (x i : EReal)) (Finset.mem_filter.2 ⟨Finset.mem_univ i, hi⟩)))
  exact ⟨_, (EReal.coe_toReal ht hb).symm⟩

theorem greater_at {s : Shape} (x y : FVec Ideal s .f32) (i : s.Idx) : maximumf x y i = max (x i) (y i) := rfl

/-- A sum over the positions of the keys, by block and place in the block. -/
theorem sum_blocks (f : ℕ → EReal) : ∑ x : Fin 16384, f x.val = ∑ k : Fin 64 × Fin 256, f (256 * k.1.val + k.2.val) := by
  refine ((finProdFinEquiv (m := 64) (n := 256)).sum_comp (fun x : Fin (64 * 256) => f x.val)).symm.trans ?_
  refine Finset.sum_congr rfl fun k _ => congrArg f ?_
  show k.2.val + 256 * k.1.val = _
  ring

section

variable {X0 X1 X2 : FVec Ideal S32768x512 .f32} {X3 : FVec Ideal S8 .f32} {X4 : IVec S8x8x16384 32}
  {Q K : ℕ → ℕ → ℝ} {W : ℕ → ℕ → EReal} {A : ℕ → ℝ} {I : ℕ → ℕ → ℕ → BitVec 32}

/-- A score before the mask. -/
def raw (Q K : ℕ → ℕ → ℝ) (A : ℕ → ℝ) (a H s k : ℕ) : ℝ :=
  product Q K H (16384 * a + s) (16384 * a + k) * (1 / 8) - A H * ((s : ℝ) - k)

/-- Whether a query attends to a key. -/
def Keeps (I : ℕ → ℕ → ℕ → BitVec 32) (a H s k : ℕ) : Prop :=
  Attended (s / 256) (fun κ => κ.val ≤ s % 256) (chosen I a H s) (⟨k / 256 % 64, by omega⟩, ⟨k % 256, by omega⟩)

variable (N : Numbers X0 X1 X2 X3 X4 Q K W A I) (a : Fin 2) (H : Fin 8) (s : Fin 16384)
include N

theorem list_at (e : Fin 3) : lists X4 (ix4 a H e s) = I (4 * a.val + H.val / 2) (3 * (H.val % 2) + e.val) s.val := by
  rw [lists_at, N.i]

theorem list_past (e : Fin 3) (b : ℕ) (hb : b < 64) (h : lists X4 (ix4 a H e s) = BitVec.ofNat 32 b) : b < s.val / 256 := by
  have := N.past ⟨4 * a.val + H.val / 2, by omega⟩ ⟨3 * (H.val % 2) + e.val, by omega⟩ s
  rw [← lists_at X4, h, word_toInt b (by omega)] at this
  omega

theorem keeps_iff (k : Fin 16384) : mask X4 (ix4 a H s k) = 1#1 ↔ Keeps I a.val H.val s.val k.val := by
  rw [mask_at]
  have hk : k.val / 256 % 64 = k.val / 256 := by omega
  have p0 := list_past N a H s 0 (k.val / 256) (by omega)
  have p1 := list_past N a H s 1 (k.val / 256) (by omega)
  have p2 := list_past N a H s 2 (k.val / 256) (by omega)
  rw [list_at N] at p0 p1 p2
  rw [list_at N, list_at N, list_at N]
  unfold Keeps Attended chosen
  simp only [hk]
  constructor
  · rintro (((h | h) | h) | ⟨h, h'⟩)
    · exact Or.inr ⟨p0 h, Or.inl h⟩
    · exact Or.inr ⟨p1 h, Or.inr (Or.inl h)⟩
    · exact Or.inr ⟨p2 h, Or.inr (Or.inr h)⟩
    · exact Or.inl ⟨h, by omega⟩
  · rintro (⟨h, h'⟩ | ⟨_, h | h | h⟩)
    · exact Or.inr ⟨h, by omega⟩
    · exact Or.inl (Or.inl (Or.inl h))
    · exact Or.inl (Or.inl (Or.inr h))
    · exact Or.inl (Or.inr h)

theorem scores_at (k : Fin 16384) : scores X0 X1 X3 (ix4 a H s k) = ((raw Q K A a.val H.val s.val k.val : ℝ) : EReal) := by
  have e8 : Ideal.ofBits .f32 0x3E000000#32 = ((1 / 8 : ℝ) : EReal) := by
    simp [Ideal.ofBits, Ideal.ieee, -EReal.coe_mul]; norm_num
  have ed : (sitofp (F := Ideal) .f32 dist) (ix2 s k) = (((s.val : ℝ) - k.val : ℝ) : EReal) := by
    show (((dist (ix2 s k)).toInt : ℝ) : EReal) = _
    rw [dist_at]; norm_cast
  unfold scores
  pointwise
  simp only [heads_at, N.q, N.k, N.a, ← EReal.coe_mul]
  rw [e8, total_real, show FloatOps.sitofp (F := Ideal) .f32 (dist (ix2 s k)) = (((s.val : ℝ) - k.val : ℝ) : EReal) from ed, ← EReal.coe_mul, ← EReal.coe_mul, ← EReal.coe_sub]
  rfl

theorem masked_at (k : Fin 16384) : masked X0 X1 X3 X4 (ix4 a H s k)
    = if Keeps I a.val H.val s.val k.val then ((raw Q K A a.val H.val s.val k.val : ℝ) : EReal) else ⊥ := by
  have eb : (id (constant (F := Ideal) S_ .f32 0xFF800000#32)) ix0 = (⊥ : EReal) := by
    show Ideal.ofBits .f32 0xFF800000#32 = _
    simp [Ideal.ofBits, Ideal.ieee]
  unfold masked
  pointwise
  rw [scores_at N, eb]
  unfold Scalar.select
  exact if_congr (keeps_iff N a H s k) rfl rfl

theorem keeps_own : Keeps I a.val H.val s.val s.val := Or.inl ⟨by show s.val / 256 % 64 = s.val / 256; omega, le_rfl⟩

theorem peak_real : ∃ ρ : ℝ, peak X0 X1 X3 X4 (ix3 a H s) = (ρ : EReal) := by
  have eb : Ideal.ofBits .f32 0xFF800000#32 = (⊥ : EReal) := by simp [Ideal.ofBits, Ideal.ieee]
  obtain ⟨ρ, h⟩ := greatest_real (masked X0 X1 X3 X4) (constant S_ .f32 0xFF800000#32) reducesTo_S2x8x16384x16384_S2x8x16384_d3 h_S_ (ix3 a H s) eb
    (fun i => by
      rw [eq_ix4 i]
      refine (masked_at N (i 0) (i 1) (i 2) (i 3)).trans_ne ?_
      split_ifs
      · exact EReal.coe_ne_top _
      · exact bot_ne_top)
    (ix4 a H s s) (by funext b; fin_cases b <;> rfl)
    (by rw [masked_at N, if_pos (keeps_own N a H s)]; exact EReal.coe_ne_bot _)
  refine ⟨ρ, ?_⟩
  unfold peak
  rw [greater_at, h]
  exact max_eq_right ((show _ = (⊥ : EReal) from eb).le.trans bot_le)

theorem powers_at (k : Fin 16384) (ρ : ℝ) (hρ : peak X0 X1 X3 X4 (ix3 a H s) = (ρ : EReal)) : powers X0 X1 X3 X4 (ix4 a H s k)
    = if Keeps I a.val H.val s.val k.val then ((Real.exp (raw Q K A a.val H.val s.val k.val - ρ) : ℝ) : EReal) else 0 := by
  unfold powers perKey
  pointwise
  rw [hρ, masked_at N]
  split_ifs
  · rw [← EReal.coe_sub]
    rfl
  · rw [EReal.bot_sub]
    rfl

/-- A query's weights, to base two. -/
theorem power_weight (k : Fin 64 × Fin 256) (ρ : ℝ) :
    (if Keeps I a.val H.val s.val (256 * k.1.val + k.2.val) then ((Real.exp (raw Q K A a.val H.val s.val (256 * k.1.val + k.2.val) - ρ) : ℝ) : EReal) else 0)
      = weight Q K A I a.val (s.val / 256) (s.val % 256) H.val (ρ * (Real.log 2)⁻¹ + A H.val * (Real.log 2)⁻¹ * (s.val % 256 : ℕ)) k := by
  have hs : 256 * (s.val / 256) + s.val % 256 = s.val := by omega
  unfold weight wt
  rw [hs]
  refine if_congr ?_ ?_ rfl
  · unfold Keeps
    rw [show ((⟨(256 * k.1.val + k.2.val) / 256 % 64, by omega⟩, ⟨(256 * k.1.val + k.2.val) % 256, by omega⟩) : Fin 64 × Fin 256) = k from
      Prod.ext (Fin.ext (by show (256 * k.1.val + k.2.val) / 256 % 64 = k.1.val; omega)) (Fin.ext (by show (256 * k.1.val + k.2.val) % 256 = k.2.val; omega))]
  · refine congrArg (fun y : ℝ => (y : EReal)) ?_
    refine Eq.trans (congrArg Real.exp ?_) (Real.rpow_def_of_pos two_pos _).symm
    have hl : Real.log 2 ≠ 0 := (Real.log_pos one_lt_two).ne'
    have hs' : (s.val : ℝ) = 256 * (s.val / 256 : ℕ) + (s.val % 256 : ℕ) := by exact_mod_cast hs.symm
    unfold raw power
    rw [show 16384 * a.val + 256 * (s.val / 256) + s.val % 256 = 16384 * a.val + s.val by omega, ← add_assoc (16384 * a.val)]
    rw [hs']
    push_cast
    field_simp
    ring

theorem averaged_at (d : Fin 64) : ∃ ν : ℝ, averaged X0 X1 X2 X3 X4 (ix4 a H s d) = attention Q K W A I a.val (s.val / 256) (s.val % 256) H.val d.val ν := by
  obtain ⟨ρ, hρ⟩ := peak_real N a H s
  refine ⟨ρ * (Real.log 2)⁻¹ + A H.val * (Real.log 2)⁻¹ * (s.val % 256 : ℕ), ?_⟩
  have e : averaged X0 X1 X2 X3 X4 (ix4 a H s d)
      = ∑ x : Fin 16384, Ideal.div (powers X0 X1 X3 X4 (ix4 a H s x)) (∑ x : Fin 16384, powers X0 X1 X3 X4 (ix4 a H s x)) * heads X2 (ix4 a H x d) := by
    unfold averaged perKey norm
    pointwise
  rw [e]
  simp only [powers_at N a H s _ ρ hρ, heads_at, N.v]
  rw [sum_blocks fun x => if Keeps I a.val H.val s.val x then ((Real.exp (raw Q K A a.val H.val s.val x - ρ) : ℝ) : EReal) else 0]
  simp only [power_weight N a H s]
  refine (sum_blocks fun x => Ideal.div (if Keeps I a.val H.val s.val x then ((Real.exp (raw Q K A a.val H.val s.val x - ρ) : ℝ) : EReal) else 0) _ * W (16384 * a.val + x) (64 * H.val + d.val)).trans ?_
  simp only [power_weight N a H s]
  unfold attention
  simp only [add_assoc]

/-- The reference at a row and a lane. -/
theorem result_at (r : Fin 32768) (j : Fin 512) : ∃ ν : ℝ, result X0 X1 X2 X3 X4 (ix2 r j)
    = attention Q K W A I (r.val / 16384) (r.val % 16384 / 256) (r.val % 256) (j.val / 64) (j.val % 64) ν := by
  obtain ⟨ν, h⟩ := averaged_at N ⟨r.val / 16384, by omega⟩ ⟨j.val / 64, by omega⟩ ⟨r.val % 16384, by omega⟩ ⟨j.val % 64, by omega⟩
  refine ⟨ν, ?_⟩
  have e : result X0 X1 X2 X3 X4 (ix2 r j)
      = averaged X0 X1 X2 X3 X4 (ix4 ⟨r.val / 16384, by omega⟩ ⟨j.val / 64, by omega⟩ ⟨r.val % 16384, by omega⟩ ⟨j.val % 64, by omega⟩) := by
    unfold result
    pointwise
  rw [e, h]
  show attention Q K W A I _ _ (r.val % 16384 % 256) _ _ ν = _
  rw [show r.val % 16384 % 256 = r.val % 256 by omega]

end

end Cert.ReferenceIdeal.Value

end
-- ==== Proof.Given.lean ====
/- What the precondition says of the arguments: queries, keys and slopes are finite, and the lists name earlier blocks only. -/
module

public import proofs.«01_k».proof.Pre_finite_and_past
public import proofs.«01_k».proof.Proof.Gen.Pre_finite_and_past
public import proofs.«01_k».proof.Proof.Scores
public import Idealize.ShloMosaic.Lib.ReduceAll

@[expose] public section

noncomputable section

open Idealize.ShloMosaic

namespace Attn

open Cert.Pre_finite_and_past

attribute [local instance] Cert.Pre_finite_and_past.Gen.facts

theorem both_at {s : Shape} (x y : IVec s 1) (i : s.Idx) : andi x y i = 1#1 ↔ x i = 1#1 ∧ y i = 1#1 := IntOp.andi_eq_one

theorem finite_at {s : Shape} (X B : FVec Ideal s .f32) (i : s.Idx) (hB : B i = (⊤ : EReal)) (h : cmpf .olt (Host.absf X) B i = 1#1) :
    X i = (((X i : EReal).toReal : ℝ) : EReal) := by
  have h' : Ideal.cmp .olt (max (X i : EReal) (-(X i : EReal))) (B i) = 1#1 := h
  rw [hB] at h'
  have hlt : max (X i : EReal) (-(X i : EReal)) < ⊤ := by
    by_contra hn
    simp [Ideal.cmp, hn] at h'
  refine (EReal.coe_toReal (fun e => ?_) (fun e => ?_)).symm
  · rw [e] at hlt; simp at hlt
  · rw [e] at hlt; simp at hlt

theorem decoded (X0 X1 X2 : FVec Ideal S32768x512 .f32) (X3 : FVec Ideal S8 .f32) (X4 : IVec S8x8x16384 32)
    (h : fn (F := Ideal) X0 X1 X2 X3 X4 = fun _ => 1#1) :
    (∀ i, X0 i = (((X0 i : EReal).toReal : ℝ) : EReal)) ∧ (∀ i, X1 i = (((X1 i : EReal).toReal : ℝ) : EReal))
      ∧ (∀ i, X3 i = (((X3 i : EReal).toReal : ℝ) : EReal)) ∧ ∀ (r j : Fin 8) (s : Fin 16384), (X4 (ix3 r j s)).toInt < ((s.val / 256 : ℕ) : ℤ) := by
  have h0 := congrFun h ix0
  dsimp only [fn, fn_part1] at h0
  rw [both_at, both_at, both_at] at h0
  obtain ⟨⟨⟨q, k⟩, a⟩, l⟩ := h0
  haveI : Subsingleton S_.Idx := ⟨fun x y => by funext d; exact d.elim0⟩
  have top : Ideal.ofBits .f32 0x7F800000#32 = (⊤ : EReal) := by simp [Ideal.ofBits, Ideal.ieee]
  refine ⟨fun i => ?_, fun i => ?_, fun i => ?_, fun r j s => ?_⟩
  · exact finite_at X0 _ i top (Host.reduce_andi_all _ _ _ _ _ q i)
  · exact finite_at X1 _ i top (Host.reduce_andi_all _ _ _ _ _ k i)
  · exact finite_at X3 _ i top (Host.reduce_andi_all _ _ _ _ _ a i)
  · have e := Host.reduce_andi_all _ _ _ _ _ l (ix3 r j s)
    have e' := IntOp.cmpi_slt.1 e
    have w : (fn_floor_divide (F := Ideal) (iotaInDim S16384 32 0) (constantI S_ 32 256#32)) (ix1 s) = BitVec.ofNat 32 (s.val / 256) :=
      Cert.ReferenceIdeal.Value.floor_at s.val s.isLt
    refine lt_of_lt_of_eq e' ?_
    refine (congrArg BitVec.toInt (?_ : _ = BitVec.ofNat 32 (s.val / 256))).trans (Cert.ReferenceIdeal.Value.word_toInt _ (by omega))
    exact w

end Attn

end
-- ==== Proof.Final.lean ====
/- The kernel's result is the reference's: every row and lane of it lies in one grid point's block, and there both are the
   attention of that row's query. -/
module

public import proofs.«01_k».proof.Proof.Blocks
public import proofs.«01_k».proof.Proof.Given

@[expose] public section

set_option maxRecDepth 16384

noncomputable section

open Idealize.ShloMosaic Idealize.ShloMosaic.TcCoe Idealize.SL.Sem
open scoped Classical

namespace Cert.KernelIdeal.Value

open Cert.KernelIdeal Cert.KernelIdeal.Gen Attn

section

variable (m : (ℓ : Loc nD τ sig) → Buf (Elt Ideal) ℓ) (c : Dev nD)

/-- The arguments. -/
abbrev argQ : FVec Ideal S32768x512 .f32 := m ((c : Thread nD τ).loc main_arg0)
abbrev argK : FVec Ideal S32768x512 .f32 := m ((c : Thread nD τ).loc main_arg1)
abbrev argV : FVec Ideal S32768x512 .f32 := m ((c : Thread nD τ).loc main_arg2)
abbrev argA : FVec Ideal S8 .f32 := m ((c : Thread nD τ).loc main_arg3)
abbrev argI : IVec S8x8x16384 32 := m ((c : Thread nD τ).loc main_arg4)

/-- An array of rows and lanes as a function of two numbers. -/
def table (X : FVec Ideal S32768x512 .f32) (r j : ℕ) : EReal := if h : r < 32768 ∧ j < 512 then X (ix2 ⟨r, h.1⟩ ⟨j, h.2⟩) else 0
def slopesOf (X : FVec Ideal S8 .f32) (H : ℕ) : EReal := if h : H < 8 then X (ix1 ⟨H, h⟩) else 0
def listsOf (X : IVec S8x8x16384 32) (r j s : ℕ) : BitVec 32 := if h : r < 8 ∧ j < 8 ∧ s < 16384 then X (ix3 ⟨r, h.1⟩ ⟨j, h.2.1⟩ ⟨s, h.2.2⟩) else 0

theorem table_at (X : FVec Ideal S32768x512 .f32) (r : Fin 32768) (j : Fin 512) : table X r.val j.val = X (ix2 r j) := dif_pos ⟨r.isLt, j.isLt⟩
theorem slopesOf_at (X : FVec Ideal S8 .f32) (H : Fin 8) : slopesOf X H.val = X (ix1 H) := dif_pos H.isLt
theorem listsOf_at (X : IVec S8x8x16384 32) (r j : Fin 8) (s : Fin 16384) : listsOf X r.val j.val s.val = X (ix3 r j s) := dif_pos ⟨r.isLt, j.isLt, s.isLt⟩

variable (pre : Cert.Pre_finite_and_past.fn (F := Ideal) (argQ m c) (argK m c) (argV m c) (argA m c) (argI m c) = fun _ => 1#1)
include pre

theorem numbersRef : Cert.ReferenceIdeal.Value.Numbers (argQ m c) (argK m c) (argV m c) (argA m c) (argI m c)
    (fun r j => (table (argQ m c) r j).toReal) (fun r j => (table (argK m c) r j).toReal) (table (argV m c))
    (fun H => (slopesOf (argA m c) H).toReal) (listsOf (argI m c)) := by
  obtain ⟨q, k, a, l⟩ := decoded _ _ _ _ _ pre
  exact ⟨fun r j => by rw [table_at]; exact q _, fun r j => by rw [table_at]; exact k _, fun r j => (table_at _ r j).symm,
    fun H => by rw [slopesOf_at]; exact a _, fun r j s => (listsOf_at _ r j s).symm, l⟩

theorem numbers : Numbers m c
    (fun r j => (table (argQ m c) r j).toReal) (fun r j => (table (argK m c) r j).toReal) (table (argV m c))
    (fun H => (slopesOf (argA m c) H).toReal) (listsOf (argI m c)) :=
  have N := numbersRef m c pre
  ⟨N.q, N.k, N.v, N.a, N.i⟩

/-- The kernel's result, whole. -/
theorem final : (dats m 0 c).arrAt 6 cfg0.N = Cert.ReferenceIdeal.Value.result (argQ m c) (argK m c) (argV m c) (argA m c) (argI m c) := by
  refine (dats m 0 c).arrAt_eq_of_covers 6 _ (by decide +kernel) fun t _ y => ?_
  blk_simp
  rw [after0_6]
  obtain ⟨q, r, rfl⟩ : ∃ (q : Fin 256) (r : Fin 128), y = ix2 q r := ⟨y 0, y 1, eq_ix2 (n0 := 256) (n1 := 128) y⟩
  have hb := bat_lt t
  have hn := qb_lt t
  have hp := pr_lt t
  have e : (win0_6.blk t).view.emb (ix2 q r) = ix2 (n0 := 32768) (n1 := 512) ⟨16384 * bat t + 256 * qb t + q.val, by omega⟩ ⟨128 * pr t + r.val, by omega⟩ := by
    blk_ext [idx t]
  obtain ⟨ν, h⟩ := Cert.ReferenceIdeal.Value.result_at (numbersRef m c pre) ⟨16384 * bat t + 256 * qb t + q.val, by omega⟩ ⟨128 * pr t + r.val, by omega⟩
  refine (stored_at (numbers m c pre) t q r ν).trans (Eq.trans ?_ (h.symm.trans (congrArg _ e.symm)))
  show _ = attention _ _ _ _ _ ((16384 * bat t + 256 * qb t + q.val) / 16384) ((16384 * bat t + 256 * qb t + q.val) % 16384 / 256)
    ((16384 * bat t + 256 * qb t + q.val) % 256) ((128 * pr t + r.val) / 64) ((128 * pr t + r.val) % 64) ν
  rw [show (16384 * bat t + 256 * qb t + q.val) / 16384 = bat t by omega, show (16384 * bat t + 256 * qb t + q.val) % 16384 / 256 = qb t by omega,
    show (16384 * bat t + 256 * qb t + q.val) % 256 = q.val by omega, show (128 * pr t + r.val) / 64 = 2 * pr t + r.val / 64 by omega,
    show (128 * pr t + r.val) % 64 = r.val % 64 by omega]

end

end Cert.KernelIdeal.Value

end
-- ==== Proof.ProjSpec.lean ====
/- The projection, in numbers: a token's features divided by their root mean square and weighed, the product with a column of
   weights, and the order in which the columns of the RWKV branch are laid out. -/
module

public import Idealize.ShloMosaic.Lib.Pipeline.ValueKit

@[expose] public section

noncomputable section

open Idealize.ShloMosaic

namespace Proj

/-- A token's features `x` over their root mean square (the mean of the squares moved from zero by a small constant), times
    the gains `g`. -/
def normed (x g : Fin 1024 → EReal) (d : Fin 1024) : EReal :=
  x d * FloatOps.rsqrt (F := Ideal) (φ := .f32)
    (Ideal.div (∑ e : Fin 1024, x e * x e) (Ideal.ofBits .f32 0x44800000#32) + Ideal.ofBits .f32 0x358637BD#32) * g d

/-- The product of a token's normed features with a column `w` of weights. -/
def lin (x g w : Fin 1024 → EReal) : EReal := ∑ d : Fin 1024, normed x g d * w d

/-- The logistic function, as both programs write it. -/
def gate (z : EReal) : EReal := Ideal.div 1 (1 + Ideal.exp (-z))

/-- Column `j` of the RWKV branch's 2048: the columns of `f` from 5120 on, each of its small groups in 128 lanes of its own,
    zero where a group leaves lanes free. -/
def laid (f : ℕ → EReal) (j : ℕ) : EReal :=
  if j < 1536 then f (5120 + j)
  else if j < 1664 then (if j - 1536 < 64 then f (6656 + (j - 1536)) else 0)
  else if j < 1792 then (if j - 1664 < 64 then f (6720 + (j - 1664)) else 0)
  else if j < 1920 then f (6784 + (j - 1792))
  else if j - 1920 < 32 then f (6912 + (j - 1920)) else 0

/-- The weights side by side: 6912 columns, and 32 more. -/
def weight (W : FVec Ideal ⟨2, ![1024, 6912]⟩ .f32) (M : FVec Ideal ⟨2, ![1024, 32]⟩ .f32) (d : Fin 1024) (J : ℕ) : EReal :=
  if h : J < 6912 then W (ix2 d ⟨J, h⟩) else if h : J - 6912 < 32 then M (ix2 d ⟨J - 6912, h⟩) else 0

theorem weight_left (W : FVec Ideal ⟨2, ![1024, 6912]⟩ .f32) (M : FVec Ideal ⟨2, ![1024, 32]⟩ .f32) (d : Fin 1024) (a J : ℕ) (ha : a < 6912) (h : a = J) :
    W (ix2 d ⟨a, ha⟩) = weight W M d J := by
  subst h
  unfold weight
  rw [dif_pos ha]

theorem weight_right (W : FVec Ideal ⟨2, ![1024, 6912]⟩ .f32) (M : FVec Ideal ⟨2, ![1024, 32]⟩ .f32) (d : Fin 1024) (a J : ℕ) (ha : a < 32) (h : 6912 + a = J) :
    M (ix2 d ⟨a, ha⟩) = weight W M d J := by
  subst h
  unfold weight
  rw [dif_neg (by omega), dif_pos (by omega)]
  exact congrArg (fun k => M (ix2 d k)) (Fin.ext (by simp))

/-- Two choices by one condition agree where their branches do. -/
theorem branch {a b : Prop} [Decidable a] [Decidable b] (h : a ↔ b) {x : a → EReal} {y : ¬ a → EReal} {u v : EReal} (hx : ∀ ha, x ha = u)
    (hy : ∀ ha, y ha = v) : dite a x y = ite b u v := by
  by_cases ha : a
  · rw [dif_pos ha, if_pos (h.1 ha), hx]
  · rw [dif_neg ha, if_neg (fun hb => ha (h.2 hb)), hy]

/-- Token `R`'s product with column `J` of the weights. -/
def prod (X : FVec Ideal ⟨3, ![2, 16384, 1024]⟩ .f32) (G : FVec Ideal ⟨1, ![1024]⟩ .f32) (W : FVec Ideal ⟨2, ![1024, 6912]⟩ .f32)
    (M : FVec Ideal ⟨2, ![1024, 32]⟩ .f32) (R : Fin 32768) (J : ℕ) : EReal :=
  lin (fun d => X (ix3 ⟨R.val / 16384, by omega⟩ ⟨R.val % 16384, by omega⟩ d)) (fun d => G (ix1 d)) (fun d => weight W M d J)

/-- A column of zeros gives zero. -/
theorem lin_zero (x g : Fin 1024 → EReal) : lin x g (fun _ => 0) = 0 := by
  simp [lin]

/-- Laying out the columns of weights lays out the products. -/
theorem lin_laid (x g : Fin 1024 → EReal) (w : Fin 1024 → ℕ → EReal) (j : ℕ) :
    lin x g (fun d => laid (w d) j) = laid (fun J => lin x g (fun d => w d J)) j := by
  unfold laid
  split_ifs <;> first | rfl | exact lin_zero x g

end Proj

end
-- ==== Proof.ProjBody.lean ====
/- The projection's body at one index of each of its blocks. -/
module

public import proofs.«01_k».proof.Proof.ProjSpec
public import proofs.«01_k».proof.Proof.Gen.ProjectionIdeal.Frame

@[expose] public section

set_option maxRecDepth 16384

noncomputable section

open Idealize.ShloMosaic Idealize.ShloMosaic.TcCoe Idealize.SL.Sem
open scoped Classical

namespace Cert.ProjectionIdeal.Value

open Cert.ProjectionIdeal Cert.ProjectionIdeal.Gen Proj

section

variable (x0 : FVec Ideal S256x1024 .f32) (x1 : FVec Ideal S1x1024 .f32)

/-- A row's features and the gains. -/
abbrev feat (r : Fin 256) : Fin 1024 → EReal := fun d => x0 (ix2 r d)
abbrev gain : Fin 1024 → EReal := fun d => x1 (ix2 0 d)

theorem normed_at (r : Fin 256) (d : Fin 1024) : k0_pay5 (F := Ideal) x0 x1 (ix2 r d) = normed (feat x0 r) (gain x1) d := by
  pointwise [k0_pay5]
  rfl

theorem both_at (x2 : FVec Ideal S1024x1024 .bf16) (r : Fin 256) (j : Fin 1024) :
    k0_pay6 (F := Ideal) x0 x1 x2 (ix2 r j) = lin (feat x0 r) (gain x1) (fun d => x2 (ix2 d j)) := by
  unfold k0_pay6 lin
  simp only [← normed_at]
  generalize k0_pay5 (F := Ideal) x0 x1 = h
  pointwise

theorem value_at (x3 : FVec Ideal S512x1024 .bf16) (j : Fin 512) (r : Fin 256) :
    k0_pay10 (F := Ideal) x0 x1 x3 (ix2 j r) = lin (feat x0 r) (gain x1) (fun d => x3 (ix2 j d)) := by
  unfold k0_pay10 lin
  simp only [← normed_at]
  generalize k0_pay5 (F := Ideal) x0 x1 = h
  pointwise
  exact Finset.sum_congr rfl fun d _ => mul_comm _ _

theorem gates_at (x4 : FVec Ideal S1024x3072 .bf16) (r : Fin 256) (j : Fin 3072) :
    k0_pay2 (F := Ideal) (k0_pay5 x0 x1) x4 (ix2 r j) = gate (lin (feat x0 r) (gain x1) (fun d => x4 (ix2 d j))) := by
  unfold k0_pay2 lin
  simp only [← normed_at]
  generalize k0_pay5 (F := Ideal) x0 x1 = h
  pointwise
  unfold gate
  rw [zero_sub]

theorem pool_at (x5 : FVec Ideal S1024x512 .bf16) (r : Fin 256) (j : Fin 512) :
    k0_pay3 (F := Ideal) (k0_pay5 x0 x1) x5 (ix2 r j) = lin (feat x0 r) (gain x1) (fun d => x5 (ix2 d j)) := by
  unfold k0_pay3 lin
  simp only [← normed_at]
  generalize k0_pay5 (F := Ideal) x0 x1 = h
  pointwise

theorem rwkv_at (x6 : FVec Ideal S1024x2048 .bf16) (r : Fin 256) (j : Fin 2048) :
    k0_pay4 (F := Ideal) (k0_pay5 x0 x1) x6 (ix2 r j) = lin (feat x0 r) (gain x1) (fun d => x6 (ix2 d j)) := by
  unfold k0_pay4 lin
  simp only [← normed_at]
  generalize k0_pay5 (F := Ideal) x0 x1 = h
  pointwise

/-- The named factor of the queries. -/
theorem scale_named : Named.named (F := Ideal) Cert.ProjectionIdeal.κ "scale" (φ := .f32) 0x3E38AA3B#32 = (((8 * Real.log 2)⁻¹ : ℝ) : EReal) :=
  IdealRules.named_const.ideal_named_scalar _ _ _ _ rfl

theorem queries_at (x2 : FVec Ideal S1024x1024 .bf16) (r : Fin 256) (j : Fin 512) :
    k0_pay7 (F := Ideal) x0 x1 x2 (ix2 r j)
      = lin (feat x0 r) (gain x1) (fun d => x2 (ix2 d ⟨j.val, by omega⟩)) * (((8 * Real.log 2)⁻¹ : ℝ) : EReal) := by
  rw [← both_at, ← scale_named]
  unfold k0_pay7
  generalize k0_pay6 (F := Ideal) x0 x1 x2 = h
  pointwise

theorem keys_at (x2 : FVec Ideal S1024x1024 .bf16) (r : Fin 256) (j : Fin 512) :
    k0_pay8 (F := Ideal) x0 x1 x2 (ix2 r j) = lin (feat x0 r) (gain x1) (fun d => x2 (ix2 d ⟨512 + j.val, by omega⟩)) := by
  rw [← both_at]
  unfold k0_pay8
  generalize k0_pay6 (F := Ideal) x0 x1 x2 = h
  pointwise

theorem mean_at (x2 : FVec Ideal S1024x1024 .bf16) (j : Fin 512) :
    k0_pay1 (F := Ideal) (k0_pay8 x0 x1 x2) (ix3 0 0 j)
      = Ideal.div (∑ r : Fin 256, lin (feat x0 r) (gain x1) (fun d => x2 (ix2 d ⟨512 + j.val, by omega⟩))) (Ideal.ofBits .f32 0x43800000#32) := by
  simp only [← keys_at]
  unfold k0_pay1
  generalize k0_pay8 (F := Ideal) x0 x1 x2 = h
  pointwise

/-! ## The values, each head's with the other head's rows replaced by ones -/

theorem upper_at (r : Fin 128) : k0_pay11 (ix2 r 0) = if r.val < 64 then 1#1 else 0#1 := by
  have h : ∀ r : Fin 128, IntOp.cmpi .slt (BitVec.ofNat 32 r.val) 64#32 = if r.val < 64 then 1#1 else 0#1 := by decide +kernel
  pointwise [k0_pay11]
  exact h r

theorem choose_at (v : IVec S128x1 1) (hv : v = k0_pay11) (r : Fin 128) (a b : EReal) :
    Scalar.select (v (ix2 r 0)) a b = if r.val < 64 then a else b := by
  rw [hv, upper_at]
  unfold Scalar.select
  by_cases hr : r.val < 64 <;> simp [hr]

/-- The eight stored pieces of values, as one function of the block's index. -/
def halves (v : FVec Ideal S512x256 .f32) : FVec Ideal S1x4x2x128x256 .bf16 := fun y =>
  if ((y 2).val = 0 ↔ (y 3).val < 64) then v (ix2 ⟨128 * (y 1).val + (y 3).val, by have h1 : (y 1).val < 4 := (y 1).isLt; have h3 : (y 3).val < 128 := (y 3).isLt; omega⟩ (y 4)) else 1

theorem halves_first (v : FVec Ideal S512x256 .f32) (y : S1x4x2x128x256.Idx) (r : Fin 128) (i : S512x256.Idx) (h2 : (y 2).val = 0) (h3 : (y 3).val = r.val)
    (i0 : (i 0).val = 128 * (y 1).val + r.val) (i1 : (i 1).val = (y 4).val) : (if r.val < 64 then v i else 1) = halves v y := by
  unfold halves
  refine if_congr (by rw [h2, h3]; simp) (congrArg v ?_) rfl
  refine (eq_ix2 (n0 := 512) (n1 := 256) i).trans ?_
  congr 1 <;> apply Fin.ext <;> simp <;> omega

theorem halves_second (v : FVec Ideal S512x256 .f32) (y : S1x4x2x128x256.Idx) (r : Fin 128) (i : S512x256.Idx) (h2 : (y 2).val = 1) (h3 : (y 3).val = r.val)
    (i0 : (i 0).val = 128 * (y 1).val + r.val) (i1 : (i 1).val = (y 4).val) : (if r.val < 64 then 1 else v i) = halves v y := by
  unfold halves
  refine (ite_not _ _ _).symm.trans (if_congr (by rw [h2, h3]; simp) (congrArg v ?_) rfl)
  refine (eq_ix2 (n0 := 512) (n1 := 256) i).trans ?_
  congr 1 <;> apply Fin.ext <;> simp <;> omega

theorem pieces_at (x2 : FVec Ideal S1024x1024 .bf16) (x3 : FVec Ideal S512x1024 .bf16) (x4 : FVec Ideal S1024x3072 .bf16) (x5 : FVec Ideal S1024x512 .bf16)
    (x6 : FVec Ideal S1024x2048 .bf16) (y : S1x4x2x128x256.Idx) :
    out0_9 (F := Ideal) x0 x1 x2 x3 x4 x5 x6 y = halves (k0_pay10 x0 x1 x3) y := by
  unfold_out out0_9
  frame_out
  unfold k0_pay12
  generalize k0_pay10 (F := Ideal) x0 x1 x3 = v
  canon_tiles x h
  all_goals
    obtain ⟨r, κ, rfl⟩ : ∃ (r : Fin 128) (κ : Fin 256), x = ix5 0 0 0 r κ := ⟨x 3, x 4, by
      refine (eq_ix5 (n0 := 1) (n1 := 1) (n2 := 1) (n3 := 128) (n4 := 256) x).trans ?_
      congr 1 <;> apply Fin.ext <;> simp <;> omega⟩
    pointwise [k0_pay24, k0_pay23, k0_pay22, k0_pay21, k0_pay20, k0_pay19, k0_pay18, k0_pay17, k0_pay16, k0_pay15, k0_pay14, k0_pay13]
    rw [choose_at _ rfl]
    first
    | (refine halves_first v y r _ ?_ ?_ ?_ ?_ <;> (simp_all; done))
    | (refine halves_second v y r _ ?_ ?_ ?_ ?_ <;> (simp_all; done))

end

end Cert.ProjectionIdeal.Value

end
-- ==== Proof.ProjInputs.lean ====
/- What the host code hands the projection's body, read at an index: the tokens as rows, the gains, and the groups of columns
   of the weights. -/
module

public import proofs.«01_k».proof.Proof.ProjBody

@[expose] public section

set_option maxRecDepth 16384

noncomputable section

open Idealize.ShloMosaic Idealize.ShloMosaic.TcCoe Idealize.SL.Sem
open scoped Classical

namespace Cert.ProjectionIdeal.Value

open Cert.ProjectionIdeal Cert.ProjectionIdeal.Gen Proj

/-- The columns of the RWKV branch as the host code lays them out. -/
def rwkvCols (W : FVec Ideal S1024x6912 .f32) (M : FVec Ideal S1024x32 .f32) : FVec Ideal S1024x2048 .f32 :=
  let B : FVec Ideal S1024x1792 .f32 := extractStridedSlice S1024x1792 ![0, 5120] W slices_S1024x6912_S1024x1792_0_5120
  let z : FVec Ideal S_ .f32 := sitofp .f32 (constantI S_ 32 0#32)
  concatenate S1024x2048 1
    [⟨S1024x1536, extractStridedSlice S1024x1536 ![0, 0] B slices_S1024x1792_S1024x1536_0_0⟩,
     ⟨S1024x128, pad S1024x128 ![0, 0] ![0, 64] ![0, 0] (extractStridedSlice S1024x64 ![0, 1536] B slices_S1024x1792_S1024x64_0_1536) z pads_S1024x64_S1024x128_000_0640 h_S_⟩,
     ⟨S1024x128, pad S1024x128 ![0, 0] ![0, 64] ![0, 0] (extractStridedSlice S1024x64 ![0, 1600] B slices_S1024x1792_S1024x64_0_1600) z pads_S1024x64_S1024x128_000_0640 h_S_⟩,
     ⟨S1024x128, extractStridedSlice S1024x128 ![0, 1664] B slices_S1024x1792_S1024x128_0_1664⟩,
     ⟨S1024x128, pad S1024x128 ![0, 0] ![0, 96] ![0, 0] M z pads_S1024x32_S1024x128_000_0960 h_S_⟩]
    concatenates_S1024x1536_S1024x128_S1024x128_S1024x128_S1024x128_S1024x2048_d1

section

variable (m : (ℓ : Loc nD τ sig) → Buf (Elt Ideal) ℓ) (c : Dev nD)

/-- The arguments. -/
abbrev argX : FVec Ideal S2x16384x1024 .f32 := m ((c : Thread nD τ).loc main_arg0)
abbrev argG : FVec Ideal S1024 .f32 := m ((c : Thread nD τ).loc main_arg1)
abbrev argW : FVec Ideal S1024x6912 .f32 := m ((c : Thread nD τ).loc main_arg2)
abbrev argM : FVec Ideal S1024x32 .f32 := m ((c : Thread nD τ).loc main_arg3)

theorem entry_x : V m c main_v0 = shapeCast S32768x1024 (argX m c) shapeCasts_S2x16384x1024_S32768x1024 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results
  rfl

theorem entry_g : V m c main_v20 = broadcastInDim S1x1024 ![1] bcast_S1024_S1x1024_1 (argG m c) := by
  show StableHlo.after _ _ _ = _
  simp only [hostOps0, hostOps0_1, hostOps0_2, hostOps0_3, hostOps0_4, hostOps0_5, hostOps0_6, List.flatten_cons, List.flatten_nil, List.append_nil, List.cons_append, List.nil_append]
  after_results

theorem entry_both : V m c main_v2 = truncf (F := Ideal) .bf16 (extractStridedSlice S1024x1024 ![0, 0] (argW m c) slices_S1024x6912_S1024x1024_0_0) bitsLt_bf16_f32 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results

theorem entry_value : V m c main_v5 = truncf (F := Ideal) .bf16 (transpose S512x1024 [1, 0] (extractStridedSlice S1024x512 ![0, 1024] (argW m c)
    slices_S1024x6912_S1024x512_0_1024) transposes_S1024x512_S512x1024_1_0) bitsLt_bf16_f32 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results

theorem entry_gates : V m c main_v7 = truncf (F := Ideal) .bf16 (extractStridedSlice S1024x3072 ![0, 1536] (argW m c) slices_S1024x6912_S1024x3072_0_1536) bitsLt_bf16_f32 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results

theorem entry_pool : V m c main_v9 = truncf (F := Ideal) .bf16 (extractStridedSlice S1024x512 ![0, 4608] (argW m c) slices_S1024x6912_S1024x512_0_4608) bitsLt_bf16_f32 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results

theorem entry_rwkv : V m c main_v19 = truncf (F := Ideal) .bf16 (rwkvCols (argW m c) (argM m c)) bitsLt_bf16_f32 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results
  rfl

end

/-! ## Read at an index -/

section

variable (W : FVec Ideal S1024x6912 .f32) (M : FVec Ideal S1024x32 .f32)

theorem rows_at (X : FVec Ideal S2x16384x1024 .f32) (R : Fin 32768) (d : Fin 1024) :
    shapeCast S32768x1024 X shapeCasts_S2x16384x1024_S32768x1024 (ix2 R d) = X (ix3 ⟨R.val / 16384, by omega⟩ ⟨R.val % 16384, by omega⟩ d) := by
  pointwise
  try (refine congrArg X ?_; congr 1 <;> apply Fin.ext <;> simp <;> omega)

theorem gains_at (G : FVec Ideal S1024 .f32) (d : Fin 1024) : broadcastInDim S1x1024 ![1] bcast_S1024_S1x1024_1 G (ix2 0 d) = G (ix1 d) := by
  pointwise

theorem bothCol_at (d : Fin 1024) (j : Fin 1024) :
    truncf (F := Ideal) .bf16 (extractStridedSlice S1024x1024 ![0, 0] W slices_S1024x6912_S1024x1024_0_0) bitsLt_bf16_f32 (ix2 d j) = weight W M d j.val := by
  unfold weight
  rw [dif_pos (by omega)]
  pointwise

theorem valueCol_at (d : Fin 1024) (j : Fin 512) :
    truncf (F := Ideal) .bf16 (transpose S512x1024 [1, 0] (extractStridedSlice S1024x512 ![0, 1024] W slices_S1024x6912_S1024x512_0_1024)
      transposes_S1024x512_S512x1024_1_0) bitsLt_bf16_f32 (ix2 j d) = weight W M d (1024 + j.val) := by
  unfold weight
  rw [dif_pos (by omega)]
  pointwise

theorem gatesCol_at (d : Fin 1024) (j : Fin 3072) :
    truncf (F := Ideal) .bf16 (extractStridedSlice S1024x3072 ![0, 1536] W slices_S1024x6912_S1024x3072_0_1536) bitsLt_bf16_f32 (ix2 d j) = weight W M d (1536 + j.val) := by
  unfold weight
  rw [dif_pos (by omega)]
  pointwise

theorem poolCol_at (d : Fin 1024) (j : Fin 512) :
    truncf (F := Ideal) .bf16 (extractStridedSlice S1024x512 ![0, 4608] W slices_S1024x6912_S1024x512_0_4608) bitsLt_bf16_f32 (ix2 d j) = weight W M d (4608 + j.val) := by
  unfold weight
  rw [dif_pos (by omega)]
  pointwise

theorem rwkvCol_at (d : Fin 1024) (j : Fin 2048) :
    truncf (F := Ideal) .bf16 (rwkvCols W M) bitsLt_bf16_f32 (ix2 d j) = laid (weight W M d) j.val := by
  have z : FloatOps.sitofp (F := Ideal) .f32 0#32 = (0 : EReal) := by
    show (((0#32 : BitVec 32).toInt : ℝ) : EReal) = 0
    simp
  unfold laid rwkvCols
  generalize hf : weight W M d = f
  pointwise
  subst hf
  refine branch Iff.rfl (fun _ => weight_left W M d _ _ _ rfl) fun _ => ?_
  refine branch (by omega) (fun _ => branch Iff.rfl (fun _ => weight_left W M d _ _ _ (by omega)) fun _ => z) fun _ => ?_
  refine branch (by omega) (fun _ => branch (by omega) (fun _ => weight_left W M d _ _ _ (by omega)) fun _ => z) fun _ => ?_
  refine branch (by omega) (fun _ => weight_left W M d _ _ _ (by omega)) fun _ => ?_
  exact branch (by omega) (fun _ => weight_right W M d _ _ _ (by omega)) fun _ => z

end

end Cert.ProjectionIdeal.Value

end
-- ==== Proof.ProjReference.lean ====
/- The projection's reference in stages, and its seven results at an index. -/
module

public import proofs.«01_k».proof.Proof.ProjSpec
public import proofs.«01_k».proof.Proof.Gen.ProjectionReferenceIdeal.Run

@[expose] public section

set_option maxRecDepth 16384

noncomputable section

open Idealize.ShloMosaic Idealize.ShloMosaic.TcCoe Idealize.SL.Sem
open scoped Classical

namespace Cert.ProjectionReferenceIdeal.Value

open Cert.ProjectionReferenceIdeal Cert.ProjectionReferenceIdeal.Gen Proj

/-! ## The stages -/

/-- The normed features. -/
def feats (X : FVec Ideal S2x16384x1024 .f32) (G : FVec Ideal S1024 .f32) : FVec Ideal S2x16384x1024 .f32 :=
  mulf (mulf X (broadcastInDim S2x16384x1024 ![0, 1, 2] bcast_S2x16384x1_S2x16384x1024_0_1_2 (Host.rsqrt (addf (Host.divf
    (broadcastInDim S2x16384x1 ![0, 1] bcast_S2x16384_S2x16384x1_0_1 (Host.reduceAdd (mulf X X) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 G))

/-- The weights side by side. -/
def sides (W : FVec Ideal S1024x6912 .f32) (M : FVec Ideal S1024x32 .f32) : FVec Ideal S1024x6944 .f32 :=
  concatenate S1024x6944 1 [⟨S1024x6912, W⟩, ⟨S1024x32, M⟩] concatenates_S1024x6912_S1024x32_S1024x6944_d1

/-- Every token's product with every column. -/
def prods (X : FVec Ideal S2x16384x1024 .f32) (G : FVec Ideal S1024 .f32) (W : FVec Ideal S1024x6912 .f32) (M : FVec Ideal S1024x32 .f32) : FVec Ideal S32768x6944 .f32 :=
  shapeCast S32768x6944 (Host.dotGeneral dot_S2x16384x1024_S1024x6944_S2x16384x6944_2_0_01_1_n_n none (feats X G) (sides W M)) shapeCasts_S2x16384x6944_S32768x6944

variable (Z : FVec Ideal S32768x6944 .f32)

def queries : FVec Ideal S32768x512 .bf16 :=
  truncf .bf16 (mulf (extractStridedSlice S32768x512 ![0, 0] Z slices_S32768x6944_S32768x512_0_0) (broadcastInDim S32768x512 ![] bcast_S_S32768x512
    (Host.divf (constant S_ .f32 0x3E000000#32) (Host.log (constant S_ .f32 0x40000000#32))))) bitsLt_bf16_f32

def keys : FVec Ideal S32768x512 .bf16 := truncf .bf16 (extractStridedSlice S32768x512 ![0, 512] Z slices_S32768x6944_S32768x512_0_512) bitsLt_bf16_f32

/-- Which of a pair's 128 rows belong to its first head. -/
def upper : IVec S128x4x128x256 1 :=
  broadcastInDim S128x4x128x256 ![2, 3] bcast_S128x1_S128x4x128x256_2_3
    (broadcastInDim S128x1 ![0] bcast_S128_S128x1_0 (cmpi .slt (iotaInDim S128 32 0) (broadcastInDim S128 ![] bcast_S_S128 (constantI S_ 32 64#32))))

def unit : FVec Ideal S128x4x128x256 .f32 := broadcastInDim S128x4x128x256 ![] bcast_S_S128x4x128x256 (id (constant S_ .f32 0x3F800000#32))

/-- The values, block by block and pair by pair, with the keys last. -/
def turned : FVec Ideal S128x4x128x256 .f32 :=
  transpose S128x4x128x256 [0, 2, 3, 1] (shapeCast S128x256x4x128 (extractStridedSlice S32768x512 ![0, 1024] Z slices_S32768x6944_S32768x512_0_1024)
    shapeCasts_S32768x512_S128x256x4x128) transposes_S128x256x4x128_S128x4x128x256_0_2_3_1

def values : FVec Ideal S128x4x2x128x256 .bf16 :=
  truncf .bf16 (concatenate S128x4x2x128x256 2
    [⟨S128x4x1x128x256, broadcastInDim S128x4x1x128x256 ![0, 1, 3, 4] bcast_S128x4x128x256_S128x4x1x128x256_0_1_3_4 (select upper (turned Z) unit)⟩,
     ⟨S128x4x1x128x256, broadcastInDim S128x4x1x128x256 ![0, 1, 3, 4] bcast_S128x4x128x256_S128x4x1x128x256_0_1_3_4 (select upper unit (turned Z))⟩]
    concatenates_S128x4x1x128x256_S128x4x1x128x256_S128x4x2x128x256_d2) bitsLt_bf16_f32

def gates : FVec Ideal S32768x3072 .f32 :=
  Host.divf (broadcastInDim S32768x3072 ![] bcast_S_S32768x3072 (constant S_ .f32 0x3F800000#32))
    (addf (broadcastInDim S32768x3072 ![] bcast_S_S32768x3072 (constant S_ .f32 0x3F800000#32))
      (Host.exp (Host.negf (extractStridedSlice S32768x3072 ![0, 1536] Z slices_S32768x6944_S32768x3072_0_1536))))

def pool : FVec Ideal S32768x512 .f32 := extractStridedSlice S32768x512 ![0, 4608] Z slices_S32768x6944_S32768x512_0_4608

def rwkv : FVec Ideal S32768x2048 .f32 :=
  let B : FVec Ideal S32768x1824 .f32 := extractStridedSlice S32768x1824 ![0, 5120] Z slices_S32768x6944_S32768x1824_0_5120
  let z : FVec Ideal S_ .f32 := sitofp .f32 (constantI S_ 32 0#32)
  concatenate S32768x2048 1
    [⟨S32768x1536, extractStridedSlice S32768x1536 ![0, 0] B slices_S32768x1824_S32768x1536_0_0⟩,
     ⟨S32768x128, pad S32768x128 ![0, 0] ![0, 64] ![0, 0] (extractStridedSlice S32768x64 ![0, 1536] B slices_S32768x1824_S32768x64_0_1536) z pads_S32768x64_S32768x128_000_0640 h_S_⟩,
     ⟨S32768x128, pad S32768x128 ![0, 0] ![0, 64] ![0, 0] (extractStridedSlice S32768x64 ![0, 1600] B slices_S32768x1824_S32768x64_0_1600) z pads_S32768x64_S32768x128_000_0640 h_S_⟩,
     ⟨S32768x128, extractStridedSlice S32768x128 ![0, 1664] B slices_S32768x1824_S32768x128_0_1664⟩,
     ⟨S32768x128, pad S32768x128 ![0, 0] ![0, 96] ![0, 0] (extractStridedSlice S32768x32 ![0, 1792] B slices_S32768x1824_S32768x32_0_1792) z pads_S32768x32_S32768x128_000_0960 h_S_⟩]
    concatenates_S32768x1536_S32768x128_S32768x128_S32768x128_S32768x128_S32768x2048_d1

def means : FVec Ideal S128x1x512 .f32 :=
  Host.divf (Host.reduceAdd (shapeCast S128x1x256x512 (extractStridedSlice S32768x512 ![0, 512] Z slices_S32768x6944_S32768x512_0_512) shapeCasts_S32768x512_S128x1x256x512)
    (constant S_ .f32 0x00000000#32) reducesTo_S128x1x256x512_S128x1x512_d2 h_S_) (broadcastInDim S128x1x512 ![] bcast_S_S128x1x512 (constant S_ .f32 0x43800000#32))

/-! ## At an index -/

theorem prods_at (X : FVec Ideal S2x16384x1024 .f32) (G : FVec Ideal S1024 .f32) (W : FVec Ideal S1024x6912 .f32) (M : FVec Ideal S1024x32 .f32)
    (R : Fin 32768) (J : Fin 6944) : prods X G W M (ix2 R J) = prod X G W M R J.val := by
  have e1 (a : Fin 2) (s : Fin 16384) (d : Fin 1024) : feats X G (ix3 a s d) = normed (fun d => X (ix3 a s d)) (fun d => G (ix1 d)) d := by
    pointwise [feats]
    rfl
  have e2 (d : Fin 1024) : sides W M (ix2 d J) = weight W M d J.val := by
    unfold weight
    pointwise [sides]
    by_cases h : J.val < 6912
    · rw [dif_pos h, dif_pos h]
    · rw [dif_neg h, dif_neg h, dif_pos (by omega)]
  unfold prod lin
  simp only [← e1, ← e2]
  unfold prods
  generalize feats X G = f
  generalize sides W M = w
  pointwise

theorem keys_at (R : Fin 32768) (j : Fin 512) : keys Z (ix2 R j) = Z (ix2 R ⟨512 + j.val, by omega⟩) := by
  pointwise [keys]

theorem queries_at (R : Fin 32768) (j : Fin 512) : queries Z (ix2 R j) = Z (ix2 R ⟨j.val, by omega⟩) * (((8 * Real.log 2)⁻¹ : ℝ) : EReal) := by
  pointwise [queries]
  refine congrArg _ ?_
  have e8 : Ideal.ofBits .f32 0x3E000000#32 = ((1 / 8 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have el : Ideal.log ((2 : ℝ) : EReal) = ((Real.log 2 : ℝ) : EReal) := if_neg (by norm_num)
  have hl : Real.log 2 ≠ 0 := (Real.log_pos (by norm_num)).ne'
  rw [e8, e2, el]
  unfold Ideal.div
  rw [if_neg (by exact_mod_cast hl), ← EReal.coe_inv, ← EReal.coe_mul]
  congr 1
  field_simp

theorem values_at (b : Fin 128) (p : Fin 4) (h : Fin 2) (r : Fin 128) (κ : Fin 256) :
    values Z (ix5 b p h r κ) = if (h = 0 ↔ r.val < 64) then Z (ix2 ⟨256 * b.val + κ.val, by omega⟩ ⟨1024 + (128 * p.val + r.val), by omega⟩) else 1 := by
  have et : turned Z (ix4 b p r κ) = Z (ix2 ⟨256 * b.val + κ.val, by omega⟩ ⟨1024 + (128 * p.val + r.val), by omega⟩) := by
    pointwise [turned]
    refine congrArg Z ?_
    congr 1 <;> apply Fin.ext <;> simp <;> omega
  have eu : upper (ix4 b p r κ) = if r.val < 64 then 1#1 else 0#1 := by
    have h : ∀ r : Fin 128, IntOp.cmpi .slt (BitVec.ofNat 32 r.val) 64#32 = if r.val < 64 then 1#1 else 0#1 := by decide +kernel
    pointwise [upper]
    exact h r
  have eo : unit (ix4 b p r κ) = 1 := by
    show Ideal.ofBits .f32 0x3F800000#32 = 1
    simp [Ideal.ofBits, Ideal.ieee, -EReal.coe_mul]; norm_num
  have e1 : select upper (turned Z) unit (ix4 b p r κ) = if r.val < 64 then turned Z (ix4 b p r κ) else 1 := by
    show Scalar.select (upper (ix4 b p r κ)) (turned Z (ix4 b p r κ)) (unit (ix4 b p r κ)) = _
    rw [eu, eo]
    by_cases hr : r.val < 64 <;> simp [Scalar.select, hr]
  have e2 : select upper unit (turned Z) (ix4 b p r κ) = if r.val < 64 then 1 else turned Z (ix4 b p r κ) := by
    show Scalar.select (upper (ix4 b p r κ)) (unit (ix4 b p r κ)) (turned Z (ix4 b p r κ)) = _
    rw [eu, eo]
    by_cases hr : r.val < 64 <;> simp [Scalar.select, hr]
  rw [← et]
  unfold values
  generalize select upper (turned Z) unit = A at e1 ⊢
  generalize select upper unit (turned Z) = B at e2 ⊢
  fin_cases h
  · pointwise
    rw [e1]
    simp
  · pointwise
    rw [e2]
    by_cases hr : r.val < 64 <;> simp [hr]

theorem gates_at (R : Fin 32768) (j : Fin 3072) : gates Z (ix2 R j) = gate (Z (ix2 R ⟨1536 + j.val, by omega⟩)) := by
  unfold gate
  pointwise [gates]

theorem pool_at (R : Fin 32768) (j : Fin 512) : pool Z (ix2 R j) = Z (ix2 R ⟨4608 + j.val, by omega⟩) := by
  pointwise [pool]

theorem means_at (b : Fin 128) (j : Fin 512) : means Z (ix3 b 0 j)
    = Ideal.div (∑ r : Fin 256, Z (ix2 ⟨256 * b.val + r.val, by omega⟩ ⟨512 + j.val, by omega⟩)) (Ideal.ofBits .f32 0x43800000#32) := by
  pointwise [means]
  simp only [Nat.mul_comm b.val 256]

theorem rwkv_at (R : Fin 32768) (j : Fin 2048) (f : ℕ → EReal) (hf : ∀ J : Fin 6944, Z (ix2 R J) = f J.val) : rwkv Z (ix2 R j) = laid f j.val := by
  have z : FloatOps.sitofp (F := Ideal) .f32 0#32 = (0 : EReal) := by
    show (((0#32 : BitVec 32).toInt : ℝ) : EReal) = 0
    simp
  have e (a J : ℕ) (ha : a < 6944) (h : a = J) : Z (ix2 R ⟨a, ha⟩) = f J := (hf _).trans (congrArg f h)
  unfold laid rwkv
  pointwise
  refine branch Iff.rfl (fun _ => e _ _ _ rfl) fun _ => ?_
  refine branch (by omega) (fun _ => branch Iff.rfl (fun _ => e _ _ _ (by omega)) fun _ => z) fun _ => ?_
  refine branch (by omega) (fun _ => branch (by omega) (fun _ => e _ _ _ (by omega)) fun _ => z) fun _ => ?_
  refine branch (by omega) (fun _ => e _ _ _ (by omega)) fun _ => ?_
  exact branch (by omega) (fun _ => e _ _ _ (by omega)) fun _ => z

end Cert.ProjectionReferenceIdeal.Value

end
-- ==== Proof.ProjFinal.lean ====
/- The projection's seven results are the reference's: each block of them comes from the 256 tokens of one grid point. -/
module

public import proofs.«01_k».proof.Proof.ProjInputs
public import proofs.«01_k».proof.Proof.ProjReference
public import proofs.«01_k».proof.Proof.Gen.ProjectionIdeal.Value

@[expose] public section

set_option maxRecDepth 16384

noncomputable section

open Idealize.ShloMosaic Idealize.ShloMosaic.TcCoe Idealize.SL.Sem
open scoped Classical

namespace Cert.ProjectionIdeal.Value

open Cert.ProjectionIdeal Cert.ProjectionIdeal.Gen Proj

theorem point_lt (t : Fin cfg0.N) : t.val < 128 := t.isLt

theorem idx : ∀ t : Fin cfg0.N, (win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0]) ∧ win0_7.index t = ![t.val, 0] ∧ win0_8.index t = ![t.val, 0]
    ∧ win0_9.index t = ![t.val, 0, 0, 0, 0] ∧ win0_10.index t = ![t.val, 0] ∧ win0_11.index t = ![t.val, 0] ∧ win0_12.index t = ![t.val, 0]
    ∧ win0_13.index t = ![t.val, 0, 0] :=
  (by decide +kernel : ∀ t : Fin grid0.N, _)

section

variable (m : (ℓ : Loc nD τ sig) → Buf (Elt Ideal) ℓ) (c : Dev nD) (t : Fin cfg0.N)

/-- The staged blocks. -/
abbrev s0 : FVec Ideal S256x1024 .f32 := iblk m c 0 t
abbrev s1 : FVec Ideal S1x1024 .f32 := iblk m c 1 t
abbrev s2 : FVec Ideal S1024x1024 .bf16 := iblk m c 2 t
abbrev s3 : FVec Ideal S512x1024 .bf16 := iblk m c 3 t
abbrev s4 : FVec Ideal S1024x3072 .bf16 := iblk m c 4 t
abbrev s5 : FVec Ideal S1024x512 .bf16 := iblk m c 5 t
abbrev s6 : FVec Ideal S1024x2048 .bf16 := iblk m c 6 t

theorem block0 (r : Fin 256) (d : Fin 1024) : s0 m c t (ix2 r d)
    = (V m c main_v0 : FVec Ideal S32768x1024 .f32) (ix2 ⟨256 * t.val + r.val, by have := point_lt t; omega⟩ d) := by
  blk_ext [s0, iblk, (idx t).1]

theorem block1 (d : Fin 1024) : s1 m c t (ix2 0 d) = (V m c main_v20 : FVec Ideal S1x1024 .f32) (ix2 0 d) := by
  blk_ext [s1, iblk, (idx t).1]

theorem block2 (d : Fin 1024) (j : Fin 1024) : s2 m c t (ix2 d j) = (V m c main_v2 : FVec Ideal S1024x1024 .bf16) (ix2 d j) := by
  blk_ext [s2, iblk, (idx t).1]

theorem block3 (j : Fin 512) (d : Fin 1024) : s3 m c t (ix2 j d) = (V m c main_v5 : FVec Ideal S512x1024 .bf16) (ix2 j d) := by
  blk_ext [s3, iblk, (idx t).1]

theorem block4 (d : Fin 1024) (j : Fin 3072) : s4 m c t (ix2 d j) = (V m c main_v7 : FVec Ideal S1024x3072 .bf16) (ix2 d j) := by
  blk_ext [s4, iblk, (idx t).1]

theorem block5 (d : Fin 1024) (j : Fin 512) : s5 m c t (ix2 d j) = (V m c main_v9 : FVec Ideal S1024x512 .bf16) (ix2 d j) := by
  blk_ext [s5, iblk, (idx t).1]

theorem block6 (d : Fin 1024) (j : Fin 2048) : s6 m c t (ix2 d j) = (V m c main_v19 : FVec Ideal S1024x2048 .bf16) (ix2 d j) := by
  blk_ext [s6, iblk, (idx t).1]

/-- Token `R`'s product with column `J` of the arguments. -/
abbrev product (R : Fin 32768) (J : ℕ) : EReal := prod (argX m c) (argG m c) (argW m c) (argM m c) R J

/-- A row of the point's block is a token. -/
abbrev token (r : Fin 256) : Fin 32768 := ⟨256 * t.val + r.val, by have := point_lt t; omega⟩

theorem feat_at (r : Fin 256) : feat (s0 m c t) r
    = fun d => argX m c (ix3 ⟨(token t r).val / 16384, by have := (token t r).isLt; omega⟩ ⟨(token t r).val % 16384, by omega⟩ d) := by
  funext d
  show s0 m c t (ix2 r d) = _
  rw [block0, entry_x, rows_at]

theorem gain_at : gain (s1 m c t) = fun d => argG m c (ix1 d) := by
  funext d
  show s1 m c t (ix2 0 d) = _
  rw [block1, entry_g, gains_at]

/-- A row of the point's block against a column of the weights. -/
theorem lin_at (r : Fin 256) (w : Fin 1024 → EReal) (J : ℕ) (hw : ∀ d, w d = weight (argW m c) (argM m c) d J) :
    lin (feat (s0 m c t) r) (gain (s1 m c t)) w = product m c (token t r) J := by
  rw [feat_at, gain_at, funext hw]
  rfl

/-- The reference's products of the arguments. -/
abbrev Z : FVec Ideal Cert.ProjectionReferenceIdeal.S32768x6944 .f32 := Cert.ProjectionReferenceIdeal.Value.prods (argX m c) (argG m c) (argW m c) (argM m c)

theorem Z_at (R : Fin 32768) (J : Fin 6944) : Z m c (ix2 R J) = product m c R J.val := Cert.ProjectionReferenceIdeal.Value.prods_at _ _ _ _ R J

end

section

variable (m : (ℓ : Loc nD τ sig) → Buf (Elt Ideal) ℓ) (c : Dev nD)

theorem both_col (t : Fin cfg0.N) (j : Fin 1024) (d : Fin 1024) : s2 m c t (ix2 d j) = weight (argW m c) (argM m c) d j.val := by
  rw [block2, entry_both, bothCol_at]

theorem final7 : (dats m 0 c).arrAt 7 cfg0.N = Cert.ProjectionReferenceIdeal.Value.queries (Z m c) := by
  refine (dats m 0 c).arrAt_eq_of_covers 7 _ (by decide +kernel) fun t _ y => ?_
  blk_simp
  rw [after0_7]
  frame_out
  obtain ⟨r, j, rfl⟩ : ∃ (r : Fin 256) (j : Fin 512), y = ix2 r j := ⟨y 0, y 1, eq_ix2 (n0 := 256) (n1 := 512) y⟩
  have e : (win0_7.blk t).view.emb (ix2 r j) = ix2 (n0 := 32768) (n1 := 512) (token t r) j := by blk_ext [(idx t).2]
  refine (queries_at _ _ _ r j).trans (Eq.trans ?_ (congrArg _ e.symm))
  rw [Cert.ProjectionReferenceIdeal.Value.queries_at, Z_at, lin_at m c t r _ j.val fun d => both_col m c t _ d]

theorem final8 : (dats m 0 c).arrAt 8 cfg0.N = Cert.ProjectionReferenceIdeal.Value.keys (Z m c) := by
  refine (dats m 0 c).arrAt_eq_of_covers 8 _ (by decide +kernel) fun t _ y => ?_
  blk_simp
  rw [after0_8]
  frame_out
  obtain ⟨r, j, rfl⟩ : ∃ (r : Fin 256) (j : Fin 512), y = ix2 r j := ⟨y 0, y 1, eq_ix2 (n0 := 256) (n1 := 512) y⟩
  have e : (win0_8.blk t).view.emb (ix2 r j) = ix2 (n0 := 32768) (n1 := 512) (token t r) j := by blk_ext [(idx t).2]
  refine (keys_at _ _ _ r j).trans (Eq.trans ?_ (congrArg _ e.symm))
  rw [Cert.ProjectionReferenceIdeal.Value.keys_at, Z_at, lin_at m c t r _ (512 + j.val) fun d => both_col m c t _ d]

theorem final9 : (dats m 0 c).arrAt 9 cfg0.N = Cert.ProjectionReferenceIdeal.Value.values (Z m c) := by
  refine (dats m 0 c).arrAt_eq_of_covers 9 _ (by decide +kernel) fun t _ y => ?_
  blk_simp
  rw [after0_9]
  refine (pieces_at _ _ _ _ _ _ _ y).trans ?_
  obtain ⟨p, h, r, κ, rfl⟩ : ∃ (p : Fin 4) (h : Fin 2) (r : Fin 128) (κ : Fin 256), y = ix5 0 p h r κ := ⟨y 1, y 2, y 3, y 4, by
    refine (eq_ix5 (n0 := 1) (n1 := 4) (n2 := 2) (n3 := 128) (n4 := 256) y).trans ?_
    congr 1
    apply Fin.ext
    have h0 : (y 0).val < 1 := (y 0).isLt
    simp⟩
  have e : (win0_9.blk t).view.emb (ix5 0 p h r κ) = ix5 (n0 := 128) (n1 := 4) (n2 := 2) (n3 := 128) (n4 := 256) ⟨t.val, point_lt t⟩ p h r κ := by
    blk_ext [(idx t).2]
  refine Eq.trans ?_ (congrArg _ e.symm)
  rw [Cert.ProjectionReferenceIdeal.Value.values_at, Z_at]
  unfold halves
  refine if_congr (by rw [Fin.ext_iff]; rfl) ?_ rfl
  refine (value_at _ _ _ _ _).trans (lin_at m c t κ _ (1024 + (128 * p.val + r.val)) fun d => ?_)
  exact (block3 m c t _ d).trans ((congrFun (entry_value m c) _).trans (valueCol_at _ _ d _))

theorem final10 : (dats m 0 c).arrAt 10 cfg0.N = Cert.ProjectionReferenceIdeal.Value.gates (Z m c) := by
  refine (dats m 0 c).arrAt_eq_of_covers 10 _ (by decide +kernel) fun t _ y => ?_
  blk_simp
  rw [after0_10]
  unfold_out out0_10
  frame_out
  obtain ⟨r, j, rfl⟩ : ∃ (r : Fin 256) (j : Fin 3072), y = ix2 r j := ⟨y 0, y 1, eq_ix2 (n0 := 256) (n1 := 3072) y⟩
  have e : (win0_10.blk t).view.emb (ix2 r j) = ix2 (n0 := 32768) (n1 := 3072) (token t r) j := by blk_ext [(idx t).2]
  refine (gates_at _ _ _ r j).trans (Eq.trans ?_ (congrArg _ e.symm))
  rw [Cert.ProjectionReferenceIdeal.Value.gates_at, Z_at, lin_at m c t r _ (1536 + j.val) fun d => ?_]
  exact (block4 m c t d j).trans ((congrFun (entry_gates m c) _).trans (gatesCol_at _ _ d j))

theorem final11 : (dats m 0 c).arrAt 11 cfg0.N = Cert.ProjectionReferenceIdeal.Value.pool (Z m c) := by
  refine (dats m 0 c).arrAt_eq_of_covers 11 _ (by decide +kernel) fun t _ y => ?_
  blk_simp
  rw [after0_11]
  unfold_out out0_11
  frame_out
  obtain ⟨r, j, rfl⟩ : ∃ (r : Fin 256) (j : Fin 512), y = ix2 r j := ⟨y 0, y 1, eq_ix2 (n0 := 256) (n1 := 512) y⟩
  have e : (win0_11.blk t).view.emb (ix2 r j) = ix2 (n0 := 32768) (n1 := 512) (token t r) j := by blk_ext [(idx t).2]
  refine (pool_at _ _ _ r j).trans (Eq.trans ?_ (congrArg _ e.symm))
  rw [Cert.ProjectionReferenceIdeal.Value.pool_at, Z_at, lin_at m c t r _ (4608 + j.val) fun d => ?_]
  exact (block5 m c t d j).trans ((congrFun (entry_pool m c) _).trans (poolCol_at _ _ d j))

theorem final12 : (dats m 0 c).arrAt 12 cfg0.N = Cert.ProjectionReferenceIdeal.Value.rwkv (Z m c) := by
  refine (dats m 0 c).arrAt_eq_of_covers 12 _ (by decide +kernel) fun t _ y => ?_
  blk_simp
  rw [after0_12]
  unfold_out out0_12
  frame_out
  obtain ⟨r, j, rfl⟩ : ∃ (r : Fin 256) (j : Fin 2048), y = ix2 r j := ⟨y 0, y 1, eq_ix2 (n0 := 256) (n1 := 2048) y⟩
  have e : (win0_12.blk t).view.emb (ix2 r j) = ix2 (n0 := 32768) (n1 := 2048) (token t r) j := by blk_ext [(idx t).2]
  refine (rwkv_at _ _ _ r j).trans (Eq.trans ?_ (congrArg _ e.symm))
  rw [Cert.ProjectionReferenceIdeal.Value.rwkv_at (Z m c) (token t r) j (product m c (token t r)) fun J => Z_at m c _ J]
  have w (d : Fin 1024) : s6 m c t (ix2 d j) = laid (weight (argW m c) (argM m c) d) j.val :=
    (block6 m c t d j).trans ((congrFun (entry_rwkv m c) _).trans (rwkvCol_at _ _ d j))
  refine (congrArg (lin _ _) (funext w)).trans ((lin_laid _ _ _ _).trans ?_)
  exact congrArg (fun f => laid f j.val) (funext fun J => lin_at m c t r _ J fun d => rfl)

theorem final13 : (dats m 0 c).arrAt 13 cfg0.N = Cert.ProjectionReferenceIdeal.Value.means (Z m c) := by
  refine (dats m 0 c).arrAt_eq_of_covers 13 _ (by decide +kernel) fun t _ y => ?_
  blk_simp
  rw [after0_13]
  frame_out
  obtain ⟨j, rfl⟩ : ∃ (j : Fin 512), y = ix3 0 0 j := ⟨y 2, by
    refine (eq_ix3 (n0 := 1) (n1 := 1) (n2 := 512) y).trans ?_
    congr 1 <;> apply Fin.ext <;> simp⟩
  have e : (win0_13.blk t).view.emb (ix3 0 0 j) = ix3 (n0 := 128) (n1 := 1) (n2 := 512) ⟨t.val, point_lt t⟩ 0 j := by blk_ext [(idx t).2]
  refine (mean_at _ _ _ j).trans (Eq.trans ?_ (congrArg _ e.symm))
  rw [Cert.ProjectionReferenceIdeal.Value.means_at]
  refine congrArg (fun z => Ideal.div z _) (Finset.sum_congr rfl fun r _ => ?_)
  rw [Z_at, lin_at m c t r _ (512 + j.val) fun d => both_col m c t _ d]

end

end Cert.ProjectionIdeal.Value

namespace Cert.ProjectionReferenceIdeal.Value

open Cert.ProjectionReferenceIdeal Cert.ProjectionReferenceIdeal.Gen

variable (m : (ℓ : Loc nD τ sig) → Buf (Elt Ideal) ℓ) (c : Dev nD)

/-- The products of the reference's arguments. -/
abbrev ofArgs : FVec Ideal S32768x6944 .f32 :=
  prods (m ((c : Thread nD τ).loc main_arg0)) (m ((c : Thread nD τ).loc main_arg1)) (m ((c : Thread nD τ).loc main_arg2)) (m ((c : Thread nD τ).loc main_arg3))

/-- The reference's run, its results by stages. -/
theorem run_stages (ρ : Dev nD → PrngReg) :
    θ_run defs (onTc (τ := τ) (main (F := Ideal))) ⟨m, fun _ => 0, ρ⟩ fun r => ∀ c : Dev nD,
      (r.2.mem ((c.tc : Thread nD τ).loc main_v56) = queries (ofArgs m c)
      ∧ r.2.mem ((c.tc : Thread nD τ).loc main_v57) = keys (ofArgs m c)
      ∧ r.2.mem ((c.tc : Thread nD τ).loc main_v58) = values (ofArgs m c)
      ∧ r.2.mem ((c.tc : Thread nD τ).loc main_v40) = gates (ofArgs m c)
      ∧ r.2.mem ((c.tc : Thread nD τ).loc main_v41) = pool (ofArgs m c)
      ∧ r.2.mem ((c.tc : Thread nD τ).loc main_v51) = rwkv (ofArgs m c)
      ∧ r.2.mem ((c.tc : Thread nD τ).loc main_v55) = means (ofArgs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => by
    obtain ⟨h0, h1, h2, h3, h4, h5, h6, ha⟩ := h c
    exact ⟨⟨h0.trans rfl, h1.trans rfl, h2.trans rfl, h3.trans rfl, h4.trans rfl, h5.trans rfl, h6.trans rfl⟩, ha⟩) (run m ρ)

end Cert.ProjectionReferenceIdeal.Value

end
-- ==== Proof.ProjClaims.lean ====
/- The five claims about the projection. -/
module

public import proofs.«01_k».proof.Defs
public import proofs.«01_k».proof.Proof.ProjFinal
public import proofs.«01_k».proof.Proof.Gen.Projection.Frame

@[expose] public section

noncomputable section

namespace Cert.Proof.Projection

open Idealize.ShloMosaic Idealize.SL.Sem

theorem frame : @Cert.quiescent_Projection Cert.Projection.Gen.facts := fun m g _ => Cert.Projection.Gen.frame m g

theorem frame_ideal : @Cert.quiescent_ProjectionIdeal Cert.ProjectionIdeal.Gen.facts := fun m g _ => Cert.ProjectionIdeal.Gen.frame m g

/-- The reference's frame: no operation writes an argument, and it has no semaphore. -/
theorem frame_reference : @Cert.quiescent_ProjectionReferenceIdeal Cert.ProjectionReferenceIdeal.Gen.facts := fun m g _ =>
  (θ_run _ _ _).mono (fun r h => ⟨fun c => (h c).2, sem_eq_zero_of_no_sems (by decide) r.2⟩) (Cert.ProjectionReferenceIdeal.Value.run_stages m g)

theorem preserves : Cert.preserves_Projection_ProjectionIdeal :=
  IdealRules.named_const.statement Cert.ProjectionIdeal.κ "scale" .f32 0x3E38AA3B#32 (((8 * Real.log 2)⁻¹ : ℝ) : EReal) rfl

/-- Two products of equal arguments are equal. -/
theorem products_eq (m : (ℓ : Loc Cert.ProjectionIdeal.nD Cert.ProjectionIdeal.τ Cert.ProjectionIdeal.sig) → Buf (Elt Ideal) ℓ)
    (m' : (ℓ : Loc Cert.ProjectionReferenceIdeal.nD Cert.ProjectionReferenceIdeal.τ Cert.ProjectionReferenceIdeal.sig) → Buf (Elt Ideal) ℓ)
    (c : Dev Cert.ProjectionIdeal.nD)
    (e0 : m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0))
    (e1 : m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1))
    (e2 : m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2))
    (e3 : m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) :
    Cert.ProjectionReferenceIdeal.Value.ofArgs m' c = Cert.ProjectionIdeal.Value.Z m c := by
  unfold Cert.ProjectionReferenceIdeal.Value.ofArgs
  rw [e0, e1, e2, e3]

/-- The idealized kernel and the reference end with the same seven results. -/
theorem value : @Cert.algebraic_ProjectionIdeal_ProjectionReferenceIdeal Cert.ProjectionIdeal.Gen.facts Cert.ProjectionReferenceIdeal.Gen.facts := by
  intro m g m' g' _ same
  refine ⟨fun c => Cert.ProjectionReferenceIdeal.Value.queries (Cert.ProjectionIdeal.Value.Z m c),
    fun c => Cert.ProjectionReferenceIdeal.Value.keys (Cert.ProjectionIdeal.Value.Z m c),
    fun c => Cert.ProjectionReferenceIdeal.Value.values (Cert.ProjectionIdeal.Value.Z m c),
    fun c => Cert.ProjectionReferenceIdeal.Value.gates (Cert.ProjectionIdeal.Value.Z m c),
    fun c => Cert.ProjectionReferenceIdeal.Value.pool (Cert.ProjectionIdeal.Value.Z m c),
    fun c => Cert.ProjectionReferenceIdeal.Value.rwkv (Cert.ProjectionIdeal.Value.Z m c),
    fun c => Cert.ProjectionReferenceIdeal.Value.means (Cert.ProjectionIdeal.Value.Z m c), ?_, ?_⟩
  · refine (θ_run _ _ _).mono (fun r h c => ?_) (Cert.ProjectionIdeal.Value.run_blocks m g)
    obtain ⟨h0, h1, h2, h3, h4, h5, h6, ha⟩ := h c
    exact ⟨h0.trans (Cert.ProjectionIdeal.Value.final7 m c), h1.trans (Cert.ProjectionIdeal.Value.final8 m c),
      h2.trans (Cert.ProjectionIdeal.Value.final9 m c), h3.trans (Cert.ProjectionIdeal.Value.final10 m c),
      h4.trans (Cert.ProjectionIdeal.Value.final11 m c), h5.trans (Cert.ProjectionIdeal.Value.final12 m c),
      h6.trans (Cert.ProjectionIdeal.Value.final13 m c), ha⟩
  · refine (θ_run _ _ _).mono (fun r h c => ?_) (Cert.ProjectionReferenceIdeal.Value.run_stages m' g')
    obtain ⟨e0, e1, e2, e3⟩ := same c
    obtain ⟨⟨h0, h1, h2, h3, h4, h5, h6⟩, ha⟩ := h c
    have e := products_eq m m' c e0 e1 e2 e3
    exact ⟨h0.trans (congrArg _ e), h1.trans (congrArg _ e), h2.trans (congrArg _ e), h3.trans (congrArg _ e),
      h4.trans (congrArg _ e), h5.trans (congrArg _ e), h6.trans (congrArg _ e), ha⟩

end Cert.Proof.Projection

end
-- ==== Proof.ExpTable.lean ====
/- The table of the experts' kernel: which expert each block of rows goes to. The host code counts, for every block, the
   experts whose rows end at or before the block's first row, and caps the count at the last expert; so every entry names an
   expert, and the blocks the kernel fetches lie inside the weights. -/
module

public import proofs.«01_k».proof.Proof.Gen.Experts.Frame
public import proofs.«01_k».proof.Proof.Gen.ExpertsIdeal.Frame
public import Idealize.ShloMosaic.Lib.StableHlo.Predicate
public import Idealize.ShloMosaic.Lib.WordArith

@[expose] public section

set_option maxRecDepth 16384

noncomputable section

open Idealize.ShloMosaic Idealize.ShloMosaic.TcCoe Idealize.SL.Sem

namespace Exp

/-- The number of experts whose rows end (`ends`) at or before the first row of block `t`, capped at the last expert. -/
def expert (ends : (⟨1, ![32]⟩ : Shape).Idx → BitVec 32) (t : Fin 544) : ℕ :=
  min (Finset.univ.filter fun q : Fin 32 =>
    IntOp.cmpi .sle (ends (Shape.Idx.ofFin q)) (BitVec.ofNat 32 t.val * 128#32) = 1#1).card 31

theorem expert_lt (ends : (⟨1, ![32]⟩ : Shape).Idx → BitVec 32) (t : Fin 544) : expert ends t < 32 := by
  unfold expert; omega

/-- The capped count as the host code computes it, for any mask over blocks and experts. -/
theorem capped_count (mask : IVec ⟨2, ![544, 32]⟩ 1) (hw : 1 < 32) (h : (⟨2, ![544, 32]⟩ : Shape).ReducesTo [1] ⟨1, ![544]⟩)
    {u : Shape} (hu : 0 < u.numel) (j : (⟨1, ![544]⟩ : Shape).Idx) :
    (IntOp.minsi (Host.reduce IntOp.addi (extui 32 mask hw) (constantI u 32 0#32) h hu j) 31#32).toNat
      = min (Finset.univ.filter fun q : Fin 32 => mask (StableHlo.Predicate.ij (j 0) q) = 1#1).card 31 := by
  have hc := StableHlo.Predicate.toNat_reduce_count_cols (by decide) mask hw h hu j
  have hle : (Finset.univ.filter fun q : Fin 32 => mask (StableHlo.Predicate.ij (j 0) q) = 1#1).card ≤ 32 :=
    (Finset.card_filter_le _ _).trans (by simp)
  rw [WordArith.toNat_minsi_of_lt _ _ (by rw [hc]; omega) (by decide), hc]
  rfl

/-- A block of one expert's weights lies inside the array of all 32. -/
theorem inside (e r k : ℕ) (he : e < 32) : ∀ a, ((![e, 0, 0] : Fin 3 → ℕ) a + 1) * (![1, r, k] : Fin 3 → ℕ) a ≤ (![32, r, k] : Fin 3 → ℕ) a := by
  intro a
  match a with
  | ⟨0, _⟩ => show (e + 1) * 1 ≤ 32; omega
  | ⟨1, _⟩ => show (0 + 1) * r ≤ r; omega
  | ⟨2, _⟩ => show (0 + 1) * k ≤ k; omega

end Exp

namespace Cert.Experts.Gen

open Cert.Experts

variable {F : FTy → Type} [FloatOps F] (m : (ℓ : Loc nD τ sig) → Buf (Elt F) ℓ)

/-- The host code's comparisons: does expert `q` end at or before the first row of block `t`? -/
def ended (ends : IVec S32 32) : IVec S544x32 1 :=
  cmpi .sle (broadcastInDim S544x32 ![0, 1] bcast_S1x32_S544x32_0_1 (broadcastInDim S1x32 ![1] bcast_S32_S1x32_1 ends))
    (broadcastInDim S544x32 ![0, 1] bcast_S544x1_S544x32_0_1 (muli (broadcastInDim S544x1 ![0] bcast_S544_S544x1_0 (iotaInDim S544 32 0))
      (broadcastInDim S544x1 ![] bcast_S_S544x1 (constantI S_ 32 128#32))))

theorem ended_at (ends : IVec S32 32) (t : Fin 544) (q : Fin 32) :
    ended ends (StableHlo.Predicate.ij t q) = IntOp.cmpi .sle (ends (Shape.Idx.ofFin q)) (BitVec.ofNat 32 t.val * 128#32) := by
  refine congrArg₂ (IntOp.cmpi .sle) (StableHlo.Predicate.bcast_cols _ _ ends t q) ?_
  refine (StableHlo.Predicate.bcast_of_col _ _ t q).trans ?_
  exact congrArg₂ (· * ·) ((StableHlo.Predicate.bcast_col1 _ _ t).trans rfl) rfl

theorem entry_table (c : Dev nD) : V m c main_v11 = minsi (Host.reduce IntOp.addi
    (extui 32 (ended (m ((c : Thread nD τ).loc main_arg0))) natLt_1_32) (constantI S_ 32 0#32) reducesTo_S544x32_S544_d1 h_S_)
    (broadcastInDim S544 ![] bcast_S_S544 (constantI S_ 32 31#32)) := by
  show StableHlo.after _ _ _ = _
  after_results
  rfl

theorem table_at (j : S544.Idx) : (tbl m 0 j : BitVec 32).toNat = Exp.expert (m (((0 : Dev nD) : Thread nD τ).loc main_arg0)) (j 0) := by
  have e : (tbl m 0 j : BitVec 32) = IntOp.minsi (Host.reduce IntOp.addi
      (extui 32 (ended (m (((0 : Dev nD) : Thread nD τ).loc main_arg0))) natLt_1_32) (constantI S_ 32 0#32) reducesTo_S544x32_S544_d1 h_S_ j) 31#32 :=
    congrFun (entry_table m 0) j
  rw [e, Exp.capped_count (ended (m (((0 : Dev nD) : Thread nD τ).loc main_arg0))) natLt_1_32 reducesTo_S544x32_S544_d1 h_S_ j]
  refine congrArg (fun s : Finset (Fin 32) => min s.card 31) (Finset.filter_congr fun q _ => Iff.of_eq (congrArg (· = 1#1) ?_))
  exact ended_at _ (j 0) q

theorem table_lt (x : S544.Idx) : (tbl m 0 x : BitVec 32).toNat < 32 := by rw [table_at]; exact Exp.expert_lt _ _

/-- The blocks the table names lie inside the weights. -/
theorem ok : Ok m :=
  ⟨fun _ => ⟨Exp.inside _ 1024 512 (table_lt m _), .inr (Affine.block_words_dvd (of_decide_eq_true rfl) (by decide))⟩,
    fun _ => ⟨Exp.inside _ 1024 512 (table_lt m _), .inr (Affine.block_words_dvd (of_decide_eq_true rfl) (by decide))⟩,
    fun _ => ⟨Exp.inside _ 512 1024 (table_lt m _), .inr (Affine.block_words_dvd (of_decide_eq_true rfl) (by decide))⟩⟩

end Cert.Experts.Gen

namespace Cert.ExpertsIdeal.Gen

open Cert.ExpertsIdeal

variable {F : FTy → Type} [FloatOps F] (m : (ℓ : Loc nD τ sig) → Buf (Elt F) ℓ)

/-- The host code's comparisons: does expert `q` end at or before the first row of block `t`? -/
def ended (ends : IVec S32 32) : IVec S544x32 1 :=
  cmpi .sle (broadcastInDim S544x32 ![0, 1] bcast_S1x32_S544x32_0_1 (broadcastInDim S1x32 ![1] bcast_S32_S1x32_1 ends))
    (broadcastInDim S544x32 ![0, 1] bcast_S544x1_S544x32_0_1 (muli (broadcastInDim S544x1 ![0] bcast_S544_S544x1_0 (iotaInDim S544 32 0))
      (broadcastInDim S544x1 ![] bcast_S_S544x1 (constantI S_ 32 128#32))))

theorem ended_at (ends : IVec S32 32) (t : Fin 544) (q : Fin 32) :
    ended ends (StableHlo.Predicate.ij t q) = IntOp.cmpi .sle (ends (Shape.Idx.ofFin q)) (BitVec.ofNat 32 t.val * 128#32) := by
  refine congrArg₂ (IntOp.cmpi .sle) (StableHlo.Predicate.bcast_cols _ _ ends t q) ?_
  refine (StableHlo.Predicate.bcast_of_col _ _ t q).trans ?_
  exact congrArg₂ (· * ·) ((StableHlo.Predicate.bcast_col1 _ _ t).trans rfl) rfl

theorem entry_table (c : Dev nD) : V m c main_v11 = minsi (Host.reduce IntOp.addi
    (extui 32 (ended (m ((c : Thread nD τ).loc main_arg0))) natLt_1_32) (constantI S_ 32 0#32) reducesTo_S544x32_S544_d1 h_S_)
    (broadcastInDim S544 ![] bcast_S_S544 (constantI S_ 32 31#32)) := by
  show StableHlo.after _ _ _ = _
  after_results
  rfl

theorem table_at (j : S544.Idx) : (tbl m 0 j : BitVec 32).toNat = Exp.expert (m (((0 : Dev nD) : Thread nD τ).loc main_arg0)) (j 0) := by
  have e : (tbl m 0 j : BitVec 32) = IntOp.minsi (Host.reduce IntOp.addi
      (extui 32 (ended (m (((0 : Dev nD) : Thread nD τ).loc main_arg0))) natLt_1_32) (constantI S_ 32 0#32) reducesTo_S544x32_S544_d1 h_S_ j) 31#32 :=
    congrFun (entry_table m 0) j
  rw [e, Exp.capped_count (ended (m (((0 : Dev nD) : Thread nD τ).loc main_arg0))) natLt_1_32 reducesTo_S544x32_S544_d1 h_S_ j]
  refine congrArg (fun s : Finset (Fin 32) => min s.card 31) (Finset.filter_congr fun q _ => Iff.of_eq (congrArg (· = 1#1) ?_))
  exact ended_at _ (j 0) q

theorem table_lt (x : S544.Idx) : (tbl m 0 x : BitVec 32).toNat < 32 := by rw [table_at]; exact Exp.expert_lt _ _

/-- The blocks the table names lie inside the weights. -/
theorem ok : Ok m :=
  ⟨fun _ => ⟨Exp.inside _ 1024 512 (table_lt m _), .inr (Affine.block_words_dvd (of_decide_eq_true rfl) (by decide))⟩,
    fun _ => ⟨Exp.inside _ 1024 512 (table_lt m _), .inr (Affine.block_words_dvd (of_decide_eq_true rfl) (by decide))⟩,
    fun _ => ⟨Exp.inside _ 512 1024 (table_lt m _), .inr (Affine.block_words_dvd (of_decide_eq_true rfl) (by decide))⟩⟩

end Cert.ExpertsIdeal.Gen

end
-- ==== Proof.ExpSpec.lean ====
/- What one expert makes of one row. -/
module

public import proofs.«01_k».proof.Proof.ProjSpec

@[expose] public section

noncomputable section

open Idealize.ShloMosaic

namespace Exp

/-- A row's 512 hidden values in one expert: its products with the first weights, through silu, times its products with the
    third weights. -/
def gated (x : Fin 1024 → EReal) (w1 w3 : Fin 1024 → Fin 512 → EReal) (k : Fin 512) : EReal :=
  (∑ d, x d * w1 d k) * Proj.gate (∑ d, x d * w1 d k) * ∑ d, x d * w3 d k

/-- What the expert makes of the row: the hidden values against the second weights. -/
def out (x : Fin 1024 → EReal) (w1 w3 : Fin 1024 → Fin 512 → EReal) (w2 : Fin 512 → Fin 1024 → EReal) (j : Fin 1024) : EReal :=
  ∑ k, gated x w1 w3 k * w2 k j

end Exp

end
-- ==== Proof.ExpBody.lean ====
/- The experts' body at one index of its block. -/
module

public import proofs.«01_k».proof.Proof.ExpSpec
public import proofs.«01_k».proof.Proof.Gen.ExpertsIdeal.Frame

@[expose] public section

set_option maxRecDepth 16384

noncomputable section

open Idealize.ShloMosaic Idealize.ShloMosaic.TcCoe Idealize.SL.Sem
open scoped Classical

namespace Cert.ExpertsIdeal.Value

open Cert.ExpertsIdeal Cert.ExpertsIdeal.Gen Exp

theorem body_at (x : FVec Ideal S128x1024 .f32) (w1 w3 : FVec Ideal S1x1024x512 .bf16) (w2 : FVec Ideal S1x512x1024 .bf16) (r : Fin 128) (j : Fin 1024) :
    k0_pay1 (F := Ideal) x w1 w3 w2 (ix2 r j)
      = out (fun d => x (ix2 r d)) (fun d k => w1 (ix3 0 d k)) (fun d k => w3 (ix3 0 d k)) (fun k j => w2 (ix3 0 k j)) j := by
  pointwise [k0_pay1]
  unfold out gated Proj.gate
  simp only [zero_sub]

end Cert.ExpertsIdeal.Value

end
-- ==== Proof.ExpReference.lean ====
/- The experts' reference in stages, and its result at an index. -/
module

public import proofs.«01_k».proof.Proof.ExpTable
public import proofs.«01_k».proof.Proof.ExpSpec
public import Idealize.ShloMosaic.Lib.Routing.OpsPair
public import proofs.«01_k».proof.Proof.Gen.ExpertsReferenceIdeal.Run

@[expose] public section

set_option maxRecDepth 16384

noncomputable section

open Idealize.ShloMosaic Idealize.ShloMosaic.TcCoe Idealize.SL.Sem
open scoped Classical

namespace Exp

/-- The dimension numbers of taking whole `r` by `k` tables from a stack of 32. -/
def stack (r k : ℕ) (wf : GatherDims.WF ⟨3, ![32, r, k]⟩ ⟨2, ![544, 1]⟩ ⟨3, ![544, r, k]⟩ [1, 2] [0] [] [0] [] 1 ![1, r, k]) :
    GatherDims ⟨3, ![32, r, k]⟩ ⟨2, ![544, 1]⟩ ⟨3, ![544, r, k]⟩ where
  offsetDims := [1, 2]
  collapsedSliceDims := [0]
  operandBatchingDims := []
  startIndicesBatchingDims := []
  startIndexMap := [0]
  indexVectorDim := 1
  sliceSizes := ![1, r, k]
  wf := wf

/-- What is taken is the table the index names, where it names one. -/
theorem stack_at {r k : ℕ} (wf : GatherDims.WF ⟨3, ![32, r, k]⟩ ⟨2, ![544, 1]⟩ ⟨3, ![544, r, k]⟩ [1, 2] [0] [] [0] [] 1 ![1, r, k])
    (W : (⟨3, ![32, r, k]⟩ : Shape).Idx → EReal) (i : IVec ⟨2, ![544, 1]⟩ 32) (t : Fin 544) (a : Fin r) (b : Fin k)
    (e : Fin 32) (h : (i (ix2 t 0)).toNat = e.val) :
    Host.gather (stack r k wf) W i (ix3 t a b) = W (ix3 e a b) := by
  have he := e.isLt
  have hi : (stack r k wf).siIdx (ix3 t a b) ⟨0, Nat.one_pos⟩ = ix2 t 0 := by
    funext x
    match x with
    | ⟨0, _⟩ => rfl
    | ⟨1, _⟩ => rfl
  have hs : (stack r k wf).start (ix3 t a b) i 0 = e.val := by
    unfold GatherDims.start
    rw [dif_pos (show (0 : Fin 3) ∈ (stack r k wf).startIndexMap from List.mem_singleton.2 rfl)]
    show min (i ((stack r k wf).siIdx (ix3 t a b) ⟨0, Nat.one_pos⟩)).toInt.toNat 31 = _
    rw [hi]
    have := BitVec.toInt_eq_toNat_of_lt (x := i (ix2 t 0)) (by omega)
    omega
  refine congrArg W (funext fun x => Fin.ext ?_)
  match x with
  | ⟨0, _⟩ => exact hs
  | ⟨1, _⟩ => exact Nat.zero_add _
  | ⟨2, _⟩ => exact Nat.zero_add _

end Exp

namespace Cert.ExpertsReferenceIdeal.Value

open Cert.ExpertsReferenceIdeal Cert.ExpertsReferenceIdeal.Gen Exp

/-- Does expert `q` end at or before the first row of block `t`? -/
def ended (ends : IVec S32 32) : IVec S544x32 1 :=
  cmpi .sle (broadcastInDim S544x32 ![0, 1] bcast_S1x32_S544x32_0_1 (broadcastInDim S1x32 ![1] bcast_S32_S1x32_1 ends))
    (broadcastInDim S544x32 ![0, 1] bcast_S544x1_S544x32_0_1 (broadcastInDim S544x1 ![0] bcast_S544_S544x1_0
      (muli (iotaInDim S544 32 0) (broadcastInDim S544 ![] bcast_S_S544 (constantI S_ 32 128#32)))))

/-- Each block's expert. -/
def owner (ends : IVec S32 32) : IVec S544 32 :=
  minsi (Host.reduce IntOp.addi (extui 32 (ended ends) natLt_1_32) (constantI S_ 32 0#32) reducesTo_S544x32_S544_d1 h_S_)
    (broadcastInDim S544 ![] bcast_S_S544 (constantI S_ 32 31#32))

/-- The same as indices, a negative one counted from the end. -/
def fromEnd (o : IVec S544 32) : IVec S544x1 32 :=
  broadcastInDim S544x1 ![0] bcast_S544_S544x1_0 (select (cmpi .slt o (broadcastInDim S544 ![] bcast_S_S544 (constantI S_ 32 0#32)))
    (addi o (broadcastInDim S544 ![] bcast_S_S544 (constantI S_ 32 32#32))) o)
def index (ends : IVec S32 32) : IVec S544x1 32 := fromEnd (owner ends)

/-- Each block's weights. -/
def wide (ends : IVec S32 32) (W : FVec Ideal S32x1024x512 .f32) : FVec Ideal S544x1024x512 .f32 :=
  Host.gather gather_S32x1024x512_S544x1_S544x1024x512_12_0_n_n_0_1_11024512 W (index ends)
def tall (ends : IVec S32 32) (W : FVec Ideal S32x512x1024 .f32) : FVec Ideal S544x512x1024 .f32 :=
  Host.gather gather_S32x512x1024_S544x1_S544x512x1024_12_0_n_n_0_1_15121024 W (index ends)

/-- The rows block by block, and their products with their experts' first or third weights. -/
def rows (X : FVec Ideal S69632x1024 .f32) : FVec Ideal S544x128x1024 .f32 := shapeCast S544x128x1024 X shapeCasts_S69632x1024_S544x128x1024
def up (ends : IVec S32 32) (X : FVec Ideal S69632x1024 .f32) (W : FVec Ideal S32x1024x512 .f32) : FVec Ideal S544x128x512 .f32 :=
  Host.dotGeneral dot_S544x128x1024_S544x1024x512_S544x128x512_2_1_1_2_0_0 none (rows X) (wide ends W)

def silu (H : FVec Ideal S544x128x512 .f32) : FVec Ideal S544x128x512 .f32 :=
  mulf H (Host.divf (broadcastInDim S544x128x512 ![] bcast_S_S544x128x512 (constant S_ .f32 0x3F800000#32))
    (addf (broadcastInDim S544x128x512 ![] bcast_S_S544x128x512 (constant S_ .f32 0x3F800000#32)) (Host.exp (Host.negf H))))

/-- The result. -/
def result (ends : IVec S32 32) (X : FVec Ideal S69632x1024 .f32) (W1 W3 : FVec Ideal S32x1024x512 .f32) (W2 : FVec Ideal S32x512x1024 .f32) : FVec Ideal S69632x1024 .f32 :=
  shapeCast S69632x1024 (Host.dotGeneral dot_S544x128x512_S544x512x1024_S544x128x1024_2_1_1_2_0_0 none
    (mulf (silu (up ends X W1)) (up ends X W3)) (tall ends W2)) shapeCasts_S544x128x1024_S69632x1024

theorem res_stages (m : (ℓ : Loc nD τ sig) → Buf (Elt Ideal) ℓ) (c : Dev nD) : res_main_v39 m c
    = result (m ((c : Thread nD τ).loc main_arg0)) (m ((c : Thread nD τ).loc main_arg1)) (m ((c : Thread nD τ).loc main_arg2))
      (m ((c : Thread nD τ).loc main_arg3)) (m ((c : Thread nD τ).loc main_arg4)) := rfl

variable (ends : IVec S32 32)

theorem ended_at (t : Fin 544) (q : Fin 32) :
    ended ends (StableHlo.Predicate.ij t q) = IntOp.cmpi .sle (ends (Shape.Idx.ofFin q)) (BitVec.ofNat 32 t.val * 128#32) := by
  refine congrArg₂ (IntOp.cmpi .sle) (StableHlo.Predicate.bcast_cols _ _ ends t q) ?_
  exact (StableHlo.Predicate.bcast_of_col _ _ t q).trans ((StableHlo.Predicate.bcast_col1 _ _ t).trans rfl)

theorem owner_at (t : Fin 544) : (owner ends (ix1 t)).toNat = expert ends t := by
  have e : owner ends (ix1 t) = IntOp.minsi (Host.reduce IntOp.addi (extui 32 (ended ends) natLt_1_32) (constantI S_ 32 0#32)
      reducesTo_S544x32_S544_d1 h_S_ (ix1 t)) 31#32 := rfl
  rw [e, capped_count (ended ends) natLt_1_32 reducesTo_S544x32_S544_d1 h_S_ (ix1 t)]
  refine congrArg (fun s : Finset (Fin 32) => min s.card 31) (Finset.filter_congr fun q _ => Iff.of_eq (congrArg (· = 1#1) ?_))
  exact ended_at ends t q

theorem fromEnd_at (o : IVec S544 32) (t : Fin 544) (h : (o (ix1 t)).toNat < 2 ^ (32 - 1)) : fromEnd o (ix2 t 0) = o (ix1 t) := by
  refine Eq.trans ?_ (Routing.wrap_of_lt (o (ix1 t)) (o (ix1 t) + 32#32) h)
  pointwise [fromEnd]
  rfl

theorem index_at (t : Fin 544) : (index ends (ix2 t 0)).toNat = expert ends t := by
  have h : (owner ends (ix1 t)).toNat < 2 ^ (32 - 1) := by rw [owner_at]; exact lt_trans (expert_lt ends t) (by decide)
  unfold index
  rw [fromEnd_at _ t h, owner_at]

theorem wide_at (W : FVec Ideal S32x1024x512 .f32) (t : Fin 544) (d : Fin 1024) (k : Fin 512) :
    wide ends W (ix3 t d k) = W (ix3 ⟨expert ends t, expert_lt ends t⟩ d k) :=
  stack_at gather_S32x1024x512_S544x1_S544x1024x512_12_0_n_n_0_1_11024512_wf W (index ends) t d k ⟨expert ends t, expert_lt ends t⟩ (index_at ends t)

theorem tall_at (W : FVec Ideal S32x512x1024 .f32) (t : Fin 544) (k : Fin 512) (j : Fin 1024) :
    tall ends W (ix3 t k j) = W (ix3 ⟨expert ends t, expert_lt ends t⟩ k j) :=
  stack_at gather_S32x512x1024_S544x1_S544x512x1024_12_0_n_n_0_1_15121024_wf W (index ends) t k j ⟨expert ends t, expert_lt ends t⟩ (index_at ends t)

theorem rows_at (X : FVec Ideal S69632x1024 .f32) (t : Fin 544) (r : Fin 128) (d : Fin 1024) :
    rows X (ix3 t r d) = X (ix2 ⟨128 * t.val + r.val, by omega⟩ d) := by
  pointwise [rows]
  exact congrArg (fun z => X (ix2 z d)) (Fin.ext (congrArg (· + r.val) (Nat.mul_comm _ _)))

theorem up_at (X : FVec Ideal S69632x1024 .f32) (W : FVec Ideal S32x1024x512 .f32) (t : Fin 544) (r : Fin 128) (k : Fin 512) :
    up ends X W (ix3 t r k) = ∑ d : Fin 1024, X (ix2 ⟨128 * t.val + r.val, by omega⟩ d) * W (ix3 ⟨expert ends t, expert_lt ends t⟩ d k) := by
  simp only [← rows_at, ← wide_at]
  unfold up
  generalize rows X = x
  generalize wide ends W = w
  pointwise

theorem silu_at (H : FVec Ideal S544x128x512 .f32) (i : S544x128x512.Idx) : silu H i = H i * Proj.gate (H i) := by
  pointwise [silu]
  rfl

theorem result_at (X : FVec Ideal S69632x1024 .f32) (W1 W3 : FVec Ideal S32x1024x512 .f32) (W2 : FVec Ideal S32x512x1024 .f32)
    (t : Fin 544) (r : Fin 128) (j : Fin 1024) :
    result ends X W1 W3 W2 (ix2 ⟨128 * t.val + r.val, by omega⟩ j)
      = out (fun d => X (ix2 ⟨128 * t.val + r.val, by omega⟩ d)) (fun d k => W1 (ix3 ⟨expert ends t, expert_lt ends t⟩ d k))
        (fun d k => W3 (ix3 ⟨expert ends t, expert_lt ends t⟩ d k)) (fun k j => W2 (ix3 ⟨expert ends t, expert_lt ends t⟩ k j)) j := by
  unfold out gated
  simp only [← up_at, ← tall_at, ← silu_at]
  unfold result
  generalize silu (up ends X W1) = a
  generalize up ends X W3 = b
  generalize tall ends W2 = w
  pointwise

end Cert.ExpertsReferenceIdeal.Value

end
-- ==== Proof.ExpFinal.lean ====
/- The experts' result is the reference's: each block of it comes from the 128 rows of one grid point. -/
module

public import proofs.«01_k».proof.Proof.ExpTable
public import proofs.«01_k».proof.Proof.ExpBody
public import proofs.«01_k».proof.Proof.ExpReference

@[expose] public section

set_option maxRecDepth 16384

noncomputable section

open Idealize.ShloMosaic Idealize.ShloMosaic.TcCoe Idealize.SL.Sem
open scoped Classical

namespace Cert.ExpertsIdeal.Value

open Cert.ExpertsIdeal Cert.ExpertsIdeal.Gen Exp

/-- The one store covers the block, and each load reads a whole block. -/
theorem out_eq (c : Dev nD) (i : grid0.Coords) (arg2 : Memref sig .tc .vmem S128x1024 .f32) (h2 : arg2.IsWhole)
    (arg3 : Memref sig .tc .vmem S1x1024x512 .bf16) (h3 : arg3.IsWhole) (arg4 : Memref sig .tc .vmem S1x1024x512 .bf16) (h4 : arg4.IsWhole)
    (arg5 : Memref sig .tc .vmem S1x512x1024 .bf16) (h5 : arg5.IsWhole) (arg6 : Memref sig .tc .vmem S128x1024 .f32) (h6 : arg6.IsWhole)
    (x : FVec Ideal S128x1024 .f32) (w1 w3 : FVec Ideal S1x1024x512 .bf16) (w2 : FVec Ideal S1x512x1024 .bf16) (e : Vec Ideal S544 .i32) :
    out0_A_4 (F := Ideal) c i arg2 h2 arg3 h3 arg4 h4 arg5 h5 arg6 h6 x w1 w3 w2 e = k0_pay1 (F := Ideal) x w1 w3 w2 := by
  have e2 : View.readAt (Elt Ideal) arg2.view (Rect.unit (s := S128x1024) ![0, 0] S128x1024.size inb_S128x1024_S128x1024_0_0).toLoadRect (h2.unread x) = x := by
    rw [View.readAt_eq_ld, View.ld_unit_zero (by decide)]; exact h2.read_unread (Val := Elt Ideal) x
  have e3 : View.readAt (Elt Ideal) arg3.view (Rect.unit (s := S1x1024x512) ![0, 0, 0] S1x1024x512.size inb_S1x1024x512_S1x1024x512_0_0_0).toLoadRect (h3.unread w1) = w1 := by
    rw [View.readAt_eq_ld, View.ld_unit_zero (by decide)]; exact h3.read_unread (Val := Elt Ideal) w1
  have e4 : View.readAt (Elt Ideal) arg4.view (Rect.unit (s := S1x1024x512) ![0, 0, 0] S1x1024x512.size inb_S1x1024x512_S1x1024x512_0_0_0).toLoadRect (h4.unread w3) = w3 := by
    rw [View.readAt_eq_ld, View.ld_unit_zero (by decide)]; exact h4.read_unread (Val := Elt Ideal) w3
  have e5 : View.readAt (Elt Ideal) arg5.view (Rect.unit (s := S1x512x1024) ![0, 0, 0] S1x512x1024.size inb_S1x512x1024_S1x512x1024_0_0_0).toLoadRect (h5.unread w2) = w2 := by
    rw [View.readAt_eq_ld, View.ld_unit_zero (by decide)]; exact h5.read_unread (Val := Elt Ideal) w2
  unfold out0_A_4 kernelRun0_A
  dsimp only
  rw [View.read_writes_junk_eq_canon, View.canon_unit_zero (by decide), e2, e3, e4, e5]

section

variable (m : (ℓ : Loc nD τ sig) → Buf (Elt Ideal) ℓ) (hO : Ok m) (c : Dev nD)

theorem point_lt (t : Fin (cfgM m hO).N) : t.val < 544 := t.isLt

/-- The rows' blocks follow the grid. -/
theorem rows_idx : ∀ t : Fin grid0.N, cc0_transform_0 (grid0.coords t) = ![t.val, 0] ∧ cc0_transform_4 (grid0.coords t) = ![t.val, 0] := by
  decide +kernel

theorem idx0 (t : Fin (cfgM m hO).N) : ((cfgM m hO).win 0).index t = ![t.val, 0] := (rows_idx t).1
theorem idx4 (t : Fin (cfgM m hO).N) : ((cfgM m hO).win 4).index t = ![t.val, 0] := (rows_idx t).2

/-- The blocks of the result cover it. -/
theorem covers : ((cfgM m hO).win 4).Covers := by
  have n0 : ((cfgM m hO).win 4).nblk (0 : Fin 2) = 544 := by
    show (69632 + 128 - 1) / 128 = 544
    norm_num
  have n1 : ((cfgM m hO).win 4).nblk (1 : Fin 2) = 1 := by
    show (1024 + 1024 - 1) / 1024 = 1
    norm_num
  refine ⟨(by decide : ∀ a : Fin 2, 0 < (![128, 1024] : Fin 2 → ℕ) a), fun β => ?_⟩
  have h0 := lt_of_lt_of_eq (β (0 : Fin 2)).isLt n0
  have h1 := lt_of_lt_of_eq (β (1 : Fin 2)).isLt n1
  refine ⟨(⟨(β (0 : Fin 2)).val, h0⟩ : Fin 544), flush0_4 _ _, fun a => ⟨?_, Or.inl rfl⟩⟩
  refine (congrFun (idx4 m hO _) a).trans ?_
  match a with
  | ⟨0, _⟩ => rfl
  | ⟨1, _⟩ => exact (Nat.lt_one_iff.mp h1).symm

theorem coord : ∀ t : Fin grid0.N, (k0_off1 (grid0.coords t)) 0 = t.val := by decide +kernel

/-- The weights' windows take the block their map names, at any table. -/
theorem index_at (a : (pcfg0 (F := Ideal)).Adm) (t : Fin (cfg0 a).N) :
    ((cfg0 a).win 1).index t = cc0_transform_1 k0_off1_inb numel1_S1 a.1 (grid0.coords t)
      ∧ ((cfg0 a).win 2).index t = cc0_transform_2 k0_off1_inb numel1_S1 a.1 (grid0.coords t)
      ∧ ((cfg0 a).win 3).index t = cc0_transform_3 k0_off1_inb numel1_S1 a.1 (grid0.coords t) := ⟨rfl, rfl, rfl⟩

/-- The table's word at a grid point is the point's expert. -/
theorem word_at (t : Fin grid0.N) :
    ((tbl m).at 0 (Rect.unit (s := S544) (k0_off1 (grid0.coords t)) S1.size (k0_off1_inb (grid0.coords t))) numel1_S1 : BitVec 32).toNat
      = expert (m (((0 : Dev nD) : Thread nD τ).loc main_arg0)) t := by
  refine (table_at m _).trans (congrArg _ (Fin.ext ?_))
  exact (coord t)

theorem map1 (t : Fin grid0.N) : cc0_transform_1 k0_off1_inb numel1_S1 (tbl m) (grid0.coords t) = ![expert (m (((0 : Dev nD) : Thread nD τ).loc main_arg0)) t, 0, 0] :=
  congrArg (fun n : ℕ => ![n, 0, 0]) (word_at m t)

theorem map2 (t : Fin grid0.N) : cc0_transform_2 k0_off1_inb numel1_S1 (tbl m) (grid0.coords t) = ![expert (m (((0 : Dev nD) : Thread nD τ).loc main_arg0)) t, 0, 0] :=
  congrArg (fun n : ℕ => ![n, 0, 0]) (word_at m t)

theorem map3 (t : Fin grid0.N) : cc0_transform_3 k0_off1_inb numel1_S1 (tbl m) (grid0.coords t) = ![expert (m (((0 : Dev nD) : Thread nD τ).loc main_arg0)) t, 0, 0] :=
  congrArg (fun n : ℕ => ![n, 0, 0]) (word_at m t)

theorem idx1 (t : Fin grid0.N) : ((cfgM m hO).win 1).index t = ![expert (m (((0 : Dev nD) : Thread nD τ).loc main_arg0)) t, 0, 0] := by
  refine Eq.trans (index_at (adm m hO) t).1 ?_
  exact map1 m t

theorem idx2 (t : Fin grid0.N) : ((cfgM m hO).win 2).index t = ![expert (m (((0 : Dev nD) : Thread nD τ).loc main_arg0)) t, 0, 0] := by
  refine Eq.trans (index_at (adm m hO) t).2.1 ?_
  exact map2 m t

theorem idx3 (t : Fin grid0.N) : ((cfgM m hO).win 3).index t = ![expert (m (((0 : Dev nD) : Thread nD τ).loc main_arg0)) t, 0, 0] := by
  refine Eq.trans (index_at (adm m hO) t).2.2 ?_
  exact map3 m t

theorem block0 (t : Fin (cfgM m hO).N) (r : Fin 128) (d : Fin 1024) : (iblk m hO c 0 t : FVec Ideal S128x1024 .f32) (ix2 r d)
    = (V m c main_arg1 : FVec Ideal S69632x1024 .f32) (ix2 ⟨128 * t.val + r.val, by have := point_lt m hO t; omega⟩ d) := by
  blk_ext [iblk, idx0 m hO t]

/-- The staged weights are those of the point's expert. -/
theorem block1 (t : Fin (cfgM m hO).N) (d : Fin 1024) (k : Fin 512) : (iblk m hO c 1 t : FVec Ideal S1x1024x512 .bf16) (ix3 0 d k)
    = (V m c main_v12 : FVec Ideal S32x1024x512 .bf16) (ix3 ⟨expert (m (((0 : Dev nD) : Thread nD τ).loc main_arg0)) t, expert_lt _ t⟩ d k) := by
  blk_ext [iblk, idx1 m hO t]

theorem block2 (t : Fin (cfgM m hO).N) (d : Fin 1024) (k : Fin 512) : (iblk m hO c 2 t : FVec Ideal S1x1024x512 .bf16) (ix3 0 d k)
    = (V m c main_v13 : FVec Ideal S32x1024x512 .bf16) (ix3 ⟨expert (m (((0 : Dev nD) : Thread nD τ).loc main_arg0)) t, expert_lt _ t⟩ d k) := by
  blk_ext [iblk, idx2 m hO t]

theorem block3 (t : Fin (cfgM m hO).N) (d : Fin 512) (k : Fin 1024) : (iblk m hO c 3 t : FVec Ideal S1x512x1024 .bf16) (ix3 0 d k)
    = (V m c main_v14 : FVec Ideal S32x512x1024 .bf16) (ix3 ⟨expert (m (((0 : Dev nD) : Thread nD τ).loc main_arg0)) t, expert_lt _ t⟩ d k) := by
  blk_ext [iblk, idx3 m hO t]

/-- The weights as the call gets them: the host code's cast is the identity. -/
theorem entry1 : (V m c main_v12 : FVec Ideal S32x1024x512 .bf16) = truncf (F := Ideal) (s := S32x1024x512) (φ := .f32) .bf16 (m ((c : Thread nD τ).loc main_arg2)) bitsLt_bf16_f32 := by
  show StableHlo.after _ _ _ = _
  after_results

theorem entry2 : (V m c main_v13 : FVec Ideal S32x1024x512 .bf16) = truncf (F := Ideal) (s := S32x1024x512) (φ := .f32) .bf16 (m ((c : Thread nD τ).loc main_arg3)) bitsLt_bf16_f32 := by
  show StableHlo.after _ _ _ = _
  after_results

theorem entry3 : (V m c main_v14 : FVec Ideal S32x512x1024 .bf16) = truncf (F := Ideal) (s := S32x512x1024) (φ := .f32) .bf16 (m ((c : Thread nD τ).loc main_arg4)) bitsLt_bf16_f32 := by
  show StableHlo.after _ _ _ = _
  after_results

/-- Equal numbers give equal results. -/
theorem out_congr {x x' : Fin 1024 → EReal} {w1 w1' w3 w3' : Fin 1024 → Fin 512 → EReal} {w2 w2' : Fin 512 → Fin 1024 → EReal}
    (hx : ∀ d, x d = x' d) (h1 : ∀ d k, w1 d k = w1' d k) (h3 : ∀ d k, w3 d k = w3' d k) (h2 : ∀ k j, w2 k j = w2' k j) (j : Fin 1024) :
    out x w1 w3 w2 j = out x' w1' w3' w2' j := by
  rw [funext hx, funext fun d => funext (h1 d), funext fun d => funext (h3 d), funext fun k => funext (h2 k)]

/-- The reference's result from the program's arguments. -/
abbrev res : FVec Ideal S69632x1024 .f32 :=
  Cert.ExpertsReferenceIdeal.Value.result (m ((c : Thread nD τ).loc main_arg0)) (m ((c : Thread nD τ).loc main_arg1))
    (m ((c : Thread nD τ).loc main_arg2)) (m ((c : Thread nD τ).loc main_arg3)) (m ((c : Thread nD τ).loc main_arg4))

/-- The whole result. -/
theorem final4 : (dats m hO 0 c).arrAt 4 (cfgM m hO).N = res m c := by
  obtain rfl : c = 0 := Subsingleton.elim _ _
  refine (dats m hO 0 0).arrAt_eq_of_covers 4 _ (covers m hO) fun t _ y => ?_
  blk_simp
  rw [after0_4]
  obtain ⟨r, j, rfl⟩ : ∃ (r : Fin 128) (j : Fin 1024), y = ix2 r j := ⟨y (0 : Fin 2), y (1 : Fin 2), eq_ix2 (n0 := 128) (n1 := 1024) y⟩
  have e : (((cfgM m hO).win 4).blk t).view.emb (ix2 r j) = ix2 (n0 := 69632) (n1 := 1024) ⟨128 * t.val + r.val, by have := point_lt m hO t; omega⟩ j := by
    blk_ext [idx4 m hO t]
  refine Eq.trans (congrFun (out_eq 0 (grid0.coords t) _ _ _ _ _ _ _ _ _ _ _ _ _ _ _) (ix2 r j)) ?_
  refine (body_at _ _ _ _ r j).trans (Eq.trans ?_ (congrArg (res m 0) e.symm))
  refine Eq.trans ?_ (Cert.ExpertsReferenceIdeal.Value.result_at _ _ _ _ _ t r j).symm
  exact out_congr (fun d => (block0 m hO 0 t r d).trans (congrFun (V_main_arg1 m 0) _))
    (fun d k => (block1 m hO 0 t d k).trans (congrFun (entry1 m 0) _))
    (fun d k => (block2 m hO 0 t d k).trans (congrFun (entry2 m 0) _))
    (fun k j => (block3 m hO 0 t k j).trans (congrFun (entry3 m 0) _)) j

/-- The run ends with the whole result, and every argument kept. -/
theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨((h c).1 4).trans (final4 m (ok m) c),
      ((h c).2 main_arg0 (by decide : main_arg0 ∈ Pipeline.restRefs sig spec0)).trans (V_main_arg0 m c),
      ((h c).1 0).trans (((dats m (ok m) 0 c).arrAt_in 0 rfl _).trans ((A_eq m (ok m) c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) (run_main m ρ (ok m))

end

end Cert.ExpertsIdeal.Value

end
-- ==== Proof.ExpClaims.lean ====
/- The five claims about the experts. -/
module

public import proofs.«01_k».proof.Defs
public import proofs.«01_k».proof.Proof.ExpFinal
public import proofs.«01_k».proof.Proof.Gen.Experts.Frame

@[expose] public section

set_option maxRecDepth 16384

noncomputable section

namespace Cert.Proof.Experts

open Idealize.ShloMosaic Idealize.SL.Sem

theorem frame : @Cert.quiescent_Experts Cert.Experts.Gen.facts := fun m g _ => Cert.Experts.Gen.frame m g (Cert.Experts.Gen.ok m)

theorem frame_ideal : @Cert.quiescent_ExpertsIdeal Cert.ExpertsIdeal.Gen.facts := fun m g _ => Cert.ExpertsIdeal.Gen.frame m g (Cert.ExpertsIdeal.Gen.ok m)

/-- The reference's frame: no operation writes an argument, and it has no semaphore. -/
theorem frame_reference : @Cert.quiescent_ExpertsReferenceIdeal Cert.ExpertsReferenceIdeal.Gen.facts := fun m g _ =>
  (θ_run _ _ _).mono (fun r h => ⟨fun c => (h c).2, sem_eq_zero_of_no_sems (by decide) r.2⟩) (Cert.ExpertsReferenceIdeal.Value.run m g)

theorem preserves : Cert.preserves_Experts_ExpertsIdeal := trivial

/-- The idealized kernel and the reference end with one result. -/
theorem value : @Cert.algebraic_ExpertsIdeal_ExpertsReferenceIdeal Cert.ExpertsIdeal.Gen.facts Cert.ExpertsReferenceIdeal.Gen.facts := by
  intro m g m' g' _ same
  refine ⟨fun c => Cert.ExpertsIdeal.Value.res m c, ?_, ?_⟩
  · refine (θ_run _ _ _).mono (fun r h c => ?_) (Cert.ExpertsIdeal.Value.run_result m g)
    exact h c
  · refine (θ_run _ _ _).mono (fun r h c => ?_) (Cert.ExpertsReferenceIdeal.Value.run m' g')
    obtain ⟨e0, e1, e2, e3, e4⟩ := same c
    refine ⟨(h c).1.trans ((Cert.ExpertsReferenceIdeal.Value.res_stages m' c).trans ?_), (h c).2⟩
    rw [e0, e1, e2, e3, e4]

end Cert.Proof.Experts

end
-- ==== Proof.CombRows.lean ====
/- The rows the combining step fetches: which elements each transfer reads and writes, and what it leaves. -/
module

public import proofs.«01_k».proof.Proof.Gen.CombineIdeal.Launch
public import proofs.«01_k».proof.Proof.Gen.CombineIdeal.Skeleton
public import Idealize.ShloMosaic.Lib.Pipeline.Frame
public import Idealize.ShloMosaic.Lib.Batch
public import Idealize.ShloMosaic.Lib.Ring
public import Idealize.ShloMosaic.Lib.Tactic
public import Idealize.ShloMosaic.Lib.Transfers
public import Idealize.ShloMosaic.Lib.Pointwise

@[expose] public section

set_option maxRecDepth 16384

noncomputable section

namespace Cert.CombineIdeal.Rows

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev tbM : Memref sig .tc .smem S65536 .i32 := Memref.whole main_arg0
abbrev yM : Memref sig .tc .hbm S69632x1024 .f32 := Memref.whole main_arg3
abbrev aM : Memref sig .tc .vmem S256x1024 .f32 := Memref.whole cc0_scratch0
abbrev bM : Memref sig .tc .vmem S256x1024 .f32 := Memref.whole cc0_scratch1

/-- Row `k` of a block of 256 rows. -/
def rowSet (k : ℕ) : Finset S256x1024.Idx := Finset.univ.filter fun y => (y 0).val = k
/-- Row `w` of the experts' rows. -/
def srcSet (w : ℕ) : Finset S69632x1024.Idx := Finset.univ.filter fun y => (y 0).val = w

theorem mem_rowSet (k : ℕ) (y : S256x1024.Idx) : y ∈ rowSet k ↔ (y 0).val = k := by simp [rowSet]
theorem mem_srcSet (w : ℕ) (y : S69632x1024.Idx) : y ∈ srcSet w ↔ (y 0).val = w := by simp [srcSet]

/-- A one-row rectangle of a two-axis array is that row. -/
theorem mem_row {n : ℕ} (o : Fin 2 → ℕ) (k : ℕ) (ho : o = ![k, 0]) (h : ∀ a, o a + S1x1024.size a ≤ (⟨2, ![n, 1024]⟩ : Shape).size a)
    (y : (⟨2, ![n, 1024]⟩ : Shape).Idx) : y ∈ (Rect.unit (s := ⟨2, ![n, 1024]⟩) o S1x1024.size h).set ↔ (y 0).val = k := by
  subst ho
  rw [Rect.mem_set_unit]
  have h1 : (y 1).val < 1024 := (y 1).isLt
  constructor
  · intro H; have a0 : k ≤ (y 0).val ∧ (y 0).val < k + 1 := H 0; omega
  · intro H a; fin_cases a
    · show k ≤ (y 0).val ∧ (y 0).val < k + 1; omega
    · show 0 ≤ (y 1).val ∧ (y 1).val < 0 + 1024; omega

/-- Element `n` of the table, and element `(w, j)` of the experts' rows. -/
def tabAt (n : ℕ) : S65536.Idx := fun a => ⟨n % 65536, by match a with | ⟨0, _⟩ => exact Nat.mod_lt _ (by decide)⟩
def srcAt (w : ℕ) (j : Fin 1024) : S69632x1024.Idx :=
  fun | ⟨0, _⟩ => (⟨w % 69632, Nat.mod_lt _ (by decide)⟩ : Fin 69632) | ⟨1, _⟩ => j

section

variable (T : S65536.Idx → BitVec 32) (Y : S69632x1024.Idx → Elt F .f32) (i : grid0.Coords)

/-- The row number the table holds for row `k` of this point's block and its expert `s`. -/
def word (s k : ℕ) : ℕ := (T (tabAt (512 * (i 0).val + 2 * k + s))).toNat
/-- What the block of fetched rows holds when every transfer has landed. -/
def got (s : ℕ) : S256x1024.Idx → Elt F .f32 := fun y => Y (srcAt (word T i s (y 0).val) (y 1))

variable (c : Dev nD)

abbrev held {sp : Space} {S : Shape} (M : Memref sig .tc sp S .f32) (I : Finset (Idx (M.view.loc (c : Thread nD τ)))) (q : PosShare TreeShare) (f : Buf (Elt F) (M.view.loc (c : Thread nD τ))) : sProp 𝕄 :=
  M.view.loc (c : Thread nD τ) ↦[I]{q} f

/-- What the two transfers of trip `k` hand back. -/
def landA (k : ℕ) : sProp 𝕄 :=
  iprop(held c aM (rowSet k) fullShare (got T Y i 0) ∗ held c yM (srcSet (word T i 0 k)) (Transfers.shareTokN fullShare (2 * k)) Y)
def landB (k : ℕ) : sProp 𝕄 :=
  iprop(held c bM (rowSet k) fullShare (got T Y i 1) ∗ held c yM (srcSet (word T i 1 k)) (Transfers.shareTokN fullShare (2 * k + 1)) Y)

instance (k : ℕ) : BI.Storable (upEmb : UEmb _ 𝕄) (landA T Y i c k) := by unfold landA; infer_instance
instance (k : ℕ) : BI.Storable (upEmb : UEmb _ 𝕄) (landB T Y i c k) := by unfold landB; infer_instance

/-- What the two transfers of trip `k` take. -/
def takes (k : ℕ) : sProp 𝕄 :=
  iprop((∃ f, held c aM (rowSet k) fullShare f) ∗ (∃ f, held c bM (rowSet k) fullShare f)
    ∗ held c yM (srcSet (word T i 0 k)) (Transfers.shareTokN fullShare (2 * k)) Y
    ∗ held c yM (srcSet (word T i 1 k)) (Transfers.shareTokN fullShare (2 * k + 1)) Y)

abbrev lands : Fin (2 * 256) → sProp 𝕄 := Ring.interleaved 256 (landA T Y i c) (landB T Y i c)

/-- One row's credit. -/
abbrev credit : ℕ := RefSig.tileCredit S1x1024 .f32

theorem credit_a (o : Fin 2 → ℕ) (h : ∀ a, o a + S1x1024.size a ≤ S256x1024.size a) (hs) :
    (aM.slice (Rect.unit (s := S256x1024) o S1x1024.size h) hs).view.amount (SemLoc.dma (SemArray.sem cc0_scratch2)) = credit := rfl
theorem credit_b (o : Fin 2 → ℕ) (h : ∀ a, o a + S1x1024.size a ≤ S256x1024.size a) (hs) :
    (bM.slice (Rect.unit (s := S256x1024) o S1x1024.size h) hs).view.amount (SemLoc.dma (SemArray.sem cc0_scratch2)) = credit := rfl

abbrev batch (j u : ℕ) : sProp 𝕄 :=
  Transfers.Batch (countersEmb (U := Pipeline.UD sig nD τ)) (c : Thread nD τ) (.dma (SemArray.sem cc0_scratch2)) () credit (lands T Y i c) j u

abbrev table (T : S65536.Idx → BitVec 32) : sProp 𝕄 := tbM.view.loc (c : Thread nD τ) ↦{fullShare.right} T

theorem trips1 : k0_t1_loop.trips = 256 := by decide +kernel
theorem trips2 : k0_t2_loop.trips = 256 := by decide +kernel

theorem take_head (Φ : ℕ → sProp 𝕄) {k : ℕ} (hk : k < 256) :
    bigSep (Finset.Ico k 256) Φ = iprop(Φ k ∗ bigSep (Finset.Ico (k + 1) 256) Φ) := by
  have e : Finset.Ico k 256 = insert k (Finset.Ico (k + 1) 256) := by
    ext x; simp only [Finset.mem_Ico, Finset.mem_insert]; omega
  rw [e, bigSep_insert (by simp)]; rfl

def issueAt (k : ℕ) (_ : Unit) : sProp 𝕄 :=
  iprop(batch T Y i c (2 * k) 0 ∗ bigSep (Finset.Ico k 256) (takes T Y i c) ∗ table c T)

variable (arg2 : Memref sig .tc .vmem S256x1024 .f32) (harg2 : arg2.IsWhole) (arg3 : Memref sig .tc .vmem S256x2 .f32) (harg3 : arg3.IsWhole) (arg4 : Memref sig .tc .vmem S1x1024 .f32) (harg4 : arg4.IsWhole) (arg6 : Memref sig .tc .vmem S256x1024 .f32) (harg6 : arg6.IsWhole)

abbrev issueBody := k0_t1_body (F := F) i tbM (Memref.isWhole_whole _) arg2 harg2 arg3 harg3 arg4 harg4 yM (Memref.isWhole_whole _) arg6 harg6 aM (Memref.isWhole_whole _) bM (Memref.isWhole_whole _) cc0_scratch2

/-- The word the body loads from the table. -/
theorem tab_read (o : Fin 1 → ℕ) (n : ℕ) (ho : o = ![n]) (h : ∀ a, o a + S1.size a ≤ S65536.size a) (hn : n < 65536)  :
    View.readAt (Elt F) tbM.view (Rect.unit (s := S65536) o S1.size h).toLoadRect T (Shape.Idx.first (Nat.lt_of_lt_of_eq Nat.one_pos numel1_S1.symm)) = T (tabAt n) := by
  subst ho
  refine congrArg T (funext fun a => Fin.ext ?_)
  match a with
  | ⟨0, _⟩ =>
    show n + 1 * _ = n % 65536
    rw [Nat.mod_eq_of_lt hn]
    rfl

theorem off3_eq (v : BitVec 32) : k0_off3 v = ![v.toNat, 0] := by
  unfold k0_off3; rfl
theorem off6_eq (v : BitVec 32) : k0_off6 v = ![v.toNat, 0] := by
  unfold k0_off6; rfl

theorem a_set (o : Fin 2 → ℕ) (k : ℕ) (ho : o = ![k, 0]) {h : ∀ a, o a + S1x1024.size a ≤ S256x1024.size a} {hs} :
    (aM.slice (Rect.unit (s := S256x1024) o S1x1024.size h) hs).view.set = rowSet k := by
  refine (View.set_slice_whole _ _).trans (Finset.ext fun y => ?_)
  rw [mem_row (n := 256) o k ho h y, mem_rowSet]
theorem b_set (o : Fin 2 → ℕ) (k : ℕ) (ho : o = ![k, 0]) {h : ∀ a, o a + S1x1024.size a ≤ S256x1024.size a} {hs} :
    (bM.slice (Rect.unit (s := S256x1024) o S1x1024.size h) hs).view.set = rowSet k := by
  refine (View.set_slice_whole _ _).trans (Finset.ext fun y => ?_)
  rw [mem_row (n := 256) o k ho h y, mem_rowSet]
theorem y_set (o : Fin 2 → ℕ) (w : ℕ) (ho : o = ![w, 0]) {h : ∀ a, o a + S1x1024.size a ≤ S69632x1024.size a} {hs} :
    (yM.slice (Rect.unit (s := S69632x1024) o S1x1024.size h) hs).view.set = srcSet w := by
  refine (View.set_slice_whole _ _).trans (Finset.ext fun y => ?_)
  rw [mem_row (n := 69632) o w ho h y, mem_srcSet]

/-- Where a one-row rectangle puts column `j`. -/
theorem row_emb {n : ℕ} (o : Fin 2 → ℕ) (k : ℕ) (ho : o = ![k, 0]) (h : ∀ a, o a + S1x1024.size a ≤ (⟨2, ![n, 1024]⟩ : Shape).size a)
    (y : (⟨2, ![n, 1024]⟩ : Shape).Idx) (hy : (y 0).val = k) :
    (Rect.unit (s := ⟨2, ![n, 1024]⟩) o S1x1024.size h).emb (ix2 (n0 := 1) (n1 := 1024) 0 (y 1)) = y := by
  subst ho
  funext a
  match a with
  | ⟨0, _⟩ => exact Fin.ext (by show k + 1 * 0 = (y 0).val; omega)
  | ⟨1, _⟩ => exact Fin.ext (by show 0 + 1 * (y 1).val = (y 1).val; omega)

/-- A landed row holds the experts' row the table names. -/
theorem landed_a (k s : ℕ) (fa : S256x1024.Idx → Elt F .f32) (o : Fin 2 → ℕ) (ho : o = ![k, 0]) {h : ∀ a, o a + S1x1024.size a ≤ S256x1024.size a} {hs}
    (p : Fin 2 → ℕ) (w : ℕ) (hp : p = ![w, 0]) {g : ∀ a, p a + S1x1024.size a ≤ S69632x1024.size a} {gs} (hw : w < 69632) (hv : w = word T i s k)
    (y : S256x1024.Idx) (hy : y ∈ rowSet k) :
    (aM.slice (Rect.unit (s := S256x1024) o S1x1024.size h) hs).view.write (Elt F) fa
      ((yM.slice (Rect.unit (s := S69632x1024) p S1x1024.size g) gs).view.read (Elt F) Y) Finset.univ y = got T Y i s y := by
  rw [mem_rowSet] at hy
  have e := row_emb (n := 256) o k ho h y hy
  have e' := row_emb (n := 69632) p w hp g (srcAt w (y 1)) (Nat.mod_eq_of_lt hw)
  have hwr := (aM.slice (Rect.unit (s := S256x1024) o S1x1024.size h) hs).view.write_emb_of_mem (Val := Elt F) fa
    ((yM.slice (Rect.unit (s := S69632x1024) p S1x1024.size g) gs).view.read (Elt F) Y) (x := ix2 (n0 := 1) (n1 := 1024) 0 (y 1)) (Finset.mem_univ _)
  refine ((congrArg _ e.symm).trans hwr).trans ?_
  show Y ((Rect.unit (s := S69632x1024) p S1x1024.size g).emb (ix2 (n0 := 1) (n1 := 1024) 0 (y 1))) = Y (srcAt (word T i s (y 0).val) (y 1))
  rw [hy, ← hv]
  exact congrArg Y e'

theorem land_a (k : ℕ) (hk : k < 256) (o : Fin 2 → ℕ) (h : ∀ a, o a + S1x1024.size a ≤ S256x1024.size a) (ho : o = ![k, 0])
    (v : BitVec 32) (hv : v = T (tabAt (512 * (i 0).val + 2 * k + 0))) (h1 : k0_chk1 v) (fa : S256x1024.Idx → Elt F .f32) :
    iprop(((aM.slice (Rect.unit (s := S256x1024) o S1x1024.size h) (fun _ => rfl)).view.loc (c : Thread nD τ) ↦[rowSet k]{fullShare}
        (aM.slice (Rect.unit (s := S256x1024) o S1x1024.size h) (fun _ => rfl)).view.write (Elt F) fa
          (ReadAs.same.apply ((yM.slice (Rect.unit (s := S69632x1024) (k0_off3 v) S1x1024.size (k0_off3_inb v h1)) (fun _ => rfl)).view.read (Elt F) Y)) Finset.univ)
      ∗ ((yM.slice (Rect.unit (s := S69632x1024) (k0_off3 v) S1x1024.size (k0_off3_inb v h1)) (fun _ => rfl)).view.loc (c : Thread nD τ)
          ↦[(yM.slice (Rect.unit (s := S69632x1024) (k0_off3 v) S1x1024.size (k0_off3_inb v h1)) (fun _ => rfl)).view.set]{Transfers.shareTokN fullShare (2 * k)} Y))
      ⊢ (landA T Y i c k : sProp 𝕄) := by
  have hw : v.toNat = word T i 0 k := by rw [hv]; rfl
  rw [y_set _ _ (off3_eq v), hw]
  unfold landA
  exact sep_mono (Entails.of_eq (pointsTo_congr fun y hy =>
    landed_a T Y i k 0 fa o ho _ v.toNat (off3_eq v) (by have := h1 0; exact this) hw y hy)) .rfl

/-- A row number inside the array has its row there. -/
theorem chk_of (v : BitVec 32) (h : v.toNat < 69632) : k0_chk1 v := by
  unfold k0_chk1
  intro a
  match a with
  | ⟨0, _⟩ => show v.toNat + 1 ≤ 69632; omega
  | ⟨1, _⟩ => show 0 + 1024 ≤ 1024; omega

theorem landed_b (k s : ℕ) (fa : S256x1024.Idx → Elt F .f32) (o : Fin 2 → ℕ) (ho : o = ![k, 0]) {h : ∀ a, o a + S1x1024.size a ≤ S256x1024.size a} {hs}
    (p : Fin 2 → ℕ) (w : ℕ) (hp : p = ![w, 0]) {g : ∀ a, p a + S1x1024.size a ≤ S69632x1024.size a} {gs} (hw : w < 69632) (hv : w = word T i s k)
    (y : S256x1024.Idx) (hy : y ∈ rowSet k) :
    (bM.slice (Rect.unit (s := S256x1024) o S1x1024.size h) hs).view.write (Elt F) fa
      ((yM.slice (Rect.unit (s := S69632x1024) p S1x1024.size g) gs).view.read (Elt F) Y) Finset.univ y = got T Y i s y := by
  rw [mem_rowSet] at hy
  have e := row_emb (n := 256) o k ho h y hy
  have e' := row_emb (n := 69632) p w hp g (srcAt w (y 1)) (Nat.mod_eq_of_lt hw)
  have hwr := (bM.slice (Rect.unit (s := S256x1024) o S1x1024.size h) hs).view.write_emb_of_mem (Val := Elt F) fa
    ((yM.slice (Rect.unit (s := S69632x1024) p S1x1024.size g) gs).view.read (Elt F) Y) (x := ix2 (n0 := 1) (n1 := 1024) 0 (y 1)) (Finset.mem_univ _)
  refine ((congrArg _ e.symm).trans hwr).trans ?_
  show Y ((Rect.unit (s := S69632x1024) p S1x1024.size g).emb (ix2 (n0 := 1) (n1 := 1024) 0 (y 1))) = Y (srcAt (word T i s (y 0).val) (y 1))
  rw [hy, ← hv]
  exact congrArg Y e'

theorem land_b (k : ℕ) (hk : k < 256) (o : Fin 2 → ℕ) (h : ∀ a, o a + S1x1024.size a ≤ S256x1024.size a) (ho : o = ![k, 0])
    (v : BitVec 32) (hv : v = T (tabAt (512 * (i 0).val + 2 * k + 1))) (h1 : k0_chk2 v) (fa : S256x1024.Idx → Elt F .f32) :
    iprop(((bM.slice (Rect.unit (s := S256x1024) o S1x1024.size h) (fun _ => rfl)).view.loc (c : Thread nD τ) ↦[rowSet k]{fullShare}
        (bM.slice (Rect.unit (s := S256x1024) o S1x1024.size h) (fun _ => rfl)).view.write (Elt F) fa
          (ReadAs.same.apply ((yM.slice (Rect.unit (s := S69632x1024) (k0_off6 v) S1x1024.size (k0_off6_inb v h1)) (fun _ => rfl)).view.read (Elt F) Y)) Finset.univ)
      ∗ ((yM.slice (Rect.unit (s := S69632x1024) (k0_off6 v) S1x1024.size (k0_off6_inb v h1)) (fun _ => rfl)).view.loc (c : Thread nD τ)
          ↦[(yM.slice (Rect.unit (s := S69632x1024) (k0_off6 v) S1x1024.size (k0_off6_inb v h1)) (fun _ => rfl)).view.set]{Transfers.shareTokN fullShare (2 * k + 1)} Y))
      ⊢ (landB T Y i c k : sProp 𝕄) := by
  have hw : v.toNat = word T i 1 k := by rw [hv]; rfl
  rw [y_set _ _ (off6_eq v), hw]
  unfold landB
  exact sep_mono (Entails.of_eq (pointsTo_congr fun y hy =>
    landed_b T Y i k 1 fa o ho _ v.toNat (off6_eq v) (by have := h1 0; exact this) hw y hy)) .rfl

/-- A row number inside the array has its row there. -/
theorem chk2_of (v : BitVec 32) (h : v.toNat < 69632) : k0_chk2 v := by
  unfold k0_chk2
  intro a
  match a with
  | ⟨0, _⟩ => show v.toNat + 1 ≤ 69632; omega
  | ⟨1, _⟩ => show 0 + 1024 ≤ 1024; omega

theorem lands_even (k : ℕ) (h : 2 * k < 2 * 256) : lands T Y i c ⟨2 * k, h⟩ = landA T Y i c k := Ring.interleaved_even _ _ _ _ _
theorem lands_odd (k : ℕ) (h : 2 * k + 1 < 2 * 256) : lands T Y i c ⟨2 * k + 1, h⟩ = landB T Y i c k := Ring.interleaved_odd _ _ _ _ _

theorem issue_step (hT : ∀ x, (T x).toNat < 69632) (k : Fin k0_t1_loop.trips) (acc : Unit) :
    issueAt T Y i c k acc ⊢ wp frame (wpE (defs₀ (F := F)) Variants.none (c : Thread nD τ) none) Set.univ (issueBody i arg2 harg2 arg3 harg3 arg4 harg4 arg6 harg6 k acc)
      (issueAt T Y i c (k.val + 1)) := by
  have hk : k.val < 256 := lt_of_lt_of_eq k.isLt trips1
  unfold issueAt
  rw [take_head (takes T Y i c) hk]
  unfold takes
  iintro ⟨HB, ⟨⟨⟨%fa, HA⟩, ⟨%fb, HBb⟩, HY0, HY1⟩, Hrest⟩, HT⟩
  unfold issueBody k0_t1_body
  sl_exec
  generalize hr : issue_step.sl.r T i k = v
  have hv : v = T (tabAt (512 * (i 0).val + 2 * k.val + 0)) := by
    rw [← hr]; unfold issue_step.sl.r
    exact tab_read T _ _ (k0_off1_eq i k) _ (by have := (i 0).isLt; have h128 : (i 0).val < 128 := this; omega)
  have h1 : k0_chk1 v := chk_of v (hv ▸ hT _)
  sl_exec
  iapply (Transfers.wp_dmaBatch (countersEmb (U := Pipeline.UD sig nD τ)) Variants.none (c : Thread nD τ) none (src := yM.slice (Rect.unit (s := S69632x1024) (k0_off3 v) S1x1024.size (k0_off3_inb v h1)) (fun _ => rfl)) (dst := aM.slice (Rect.unit (s := S256x1024) (k0_off2 k) S1x1024.size (k0_off2_inb k)) (fun _ => rfl)) () credit (D := lands T Y i c) (j := 2 * k.val) (u := 0) (q := Transfers.shareTokN fullShare (2 * k.val)) (credit_a _ _ _) (Sd := rowSet k.val) (fd := fa) (fs := Y)
    (by rw [a_set _ _ (k0_off2_eq k)]) (by omega) (Nat.zero_le _)
    (by rw [lands_even T Y i c k.val (by omega)]; exact land_a T Y i c k.val hk _ _ (k0_off2_eq k) v hv h1 fa)) $$ [HY0 HA HB]
  · isplitl [HY0]
    · rw [y_set _ _ (off3_eq v)]
      rw [show v.toNat = word T i 0 k.val from by rw [hv]; rfl]
      iexact HY0
    isplitl [HA]; · iexact HA
    iexact HB
  iintro HB
  sl_exec
  generalize hr2 : issue_step.sl.r_1 T i k = v2
  have hv2 : v2 = T (tabAt (512 * (i 0).val + 2 * k.val + 1)) := by
    rw [← hr2]; unfold issue_step.sl.r_1
    exact tab_read T _ _ (k0_off4_eq i k) _ (by have := (i 0).isLt; have h128 : (i 0).val < 128 := this; omega)
  have h2 : k0_chk2 v2 := chk2_of v2 (hv2 ▸ hT _)
  sl_exec
  iapply (Transfers.wp_dmaBatch (countersEmb (U := Pipeline.UD sig nD τ)) Variants.none (c : Thread nD τ) none (src := yM.slice (Rect.unit (s := S69632x1024) (k0_off6 v2) S1x1024.size (k0_off6_inb v2 h2)) (fun _ => rfl)) (dst := bM.slice (Rect.unit (s := S256x1024) (k0_off5 k) S1x1024.size (k0_off5_inb k)) (fun _ => rfl)) () credit (D := lands T Y i c) (j := 2 * k.val + 1) (u := 0) (q := Transfers.shareTokN fullShare (2 * k.val + 1)) (credit_b _ _ _) (Sd := rowSet k.val) (fd := fb) (fs := Y)
    (by rw [b_set _ _ (k0_off5_eq k)]) (by omega) (Nat.zero_le _)
    (by rw [lands_odd T Y i c k.val (by omega)]; exact land_b T Y i c k.val hk _ _ (k0_off5_eq k) v2 hv2 h2 fb)) $$ [HY1 HBb HB]
  · isplitl [HY1]
    · rw [y_set _ _ (off6_eq v2)]
      rw [show v2.toNat = word T i 1 k.val from by rw [hv2]; rfl]
      iexact HY1
    isplitl [HBb]; · iexact HBb
    iexact HB
  iintro HB
  sl_exec
  sl_step
  rw [show 2 * (k.val + 1) = 2 * k.val + 1 + 1 by omega]
  isplitl [HB]; · iexact HB
  isplitl [Hrest]; · iexact Hrest
  iexact HT

abbrev drainBody := k0_t2_body (F := F) i tbM (Memref.isWhole_whole _) arg2 harg2 arg3 harg3 arg4 harg4 yM (Memref.isWhole_whole _) arg6 harg6 aM (Memref.isWhole_whole _) bM (Memref.isWhole_whole _) cc0_scratch2

/-- Before trip `k` of the waits: `2k` rows' credits taken, or, when all are, every row landed. -/
def drainAt (k : ℕ) (_ : Unit) : sProp 𝕄 :=
  iprop((∃ W, owes (c : Thread nD τ) 0 W)
    ∗ (if k < 256 then batch T Y i c (2 * 256) (2 * k * credit)
       else iprop(semVal ((c : Thread nD τ), SemLoc.dma (SemArray.sem cc0_scratch2)) 0 ∗ bigSep Finset.univ (lands T Y i c))))

theorem drain_step (k : Fin k0_t2_loop.trips) (acc : Unit) :
    drainAt T Y i c k acc ⊢ wp frame (wpE (defs₀ (F := F)) Variants.none (c : Thread nD τ) none) Set.univ (drainBody i arg2 harg2 arg3 harg3 arg4 harg4 arg6 harg6 k acc)
      (drainAt T Y i c (k.val + 1)) := by
  have hk : k.val < 256 := lt_of_lt_of_eq k.isLt trips2
  unfold drainAt drainBody k0_t2_body
  simp only [if_pos hk]
  rcases Nat.lt_or_ge (k.val + 1) 256 with h1 | h1
  · simp only [if_pos h1]
    iintro ⟨⟨%W, HO⟩, HB⟩
    sl_exec
    sl_step
    isplitl [HO]; · iexists _; iexact HO
    rw [show 2 * (k.val + 1) * credit = 2 * k.val * credit + credit + credit by ring]
    iexact HB
  · simp only [if_neg (Nat.not_lt.mpr h1)]
    iintro ⟨⟨%W, HO⟩, HB⟩
    sl_exec
    sl_step
    isplitl [HO]; · iexists _; iexact HO
    isplitl [HB]; · iexact HB
    iexact HB_all

end

end Cert.CombineIdeal.Rows

end
-- ==== Proof.CombRun.lean ====
/- The combining step's body at one grid point: the experts' rows taken apart and put together again, the two loops run, and what is left in the output block. -/
module

public import proofs.«01_k».proof.Proof.CombRows
public import Idealize.ShloMosaic.Lib.Pipeline.Value
public import Idealize.ShloMosaic.Lib.Pipeline.FrameBody

@[expose] public section

set_option maxRecDepth 16384

noncomputable section

namespace Cert.CombineIdeal.Rows

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (T : S65536.Idx → BitVec 32) (Y : S69632x1024.Idx → Elt F .f32) (i : grid0.Coords) (c : Dev nD)

/-- A family of conjunctions is the conjunction of the families. -/
theorem big_sep (Φ Ψ : ℕ → sProp 𝕄) : bigSep (Finset.range 256) (fun k => iprop(Φ k ∗ Ψ k)) = iprop(bigSep (Finset.range 256) Φ ∗ bigSep (Finset.range 256) Ψ) :=
  BI.bigSep_sep _ Φ Ψ

/-- A buffer that 256 disjoint sets cover is those sets. -/
theorem in_rows {ℓ : Loc nD τ sig} (R : ℕ → Finset (Idx ℓ)) (q : PosShare TreeShare) (f : Buf (Elt F) ℓ)
    (hc : ∀ y, ∃ k < 256, y ∈ R k) (hd : ∀ k k', k ≠ k' → Disjoint (R k) (R k')) :
    (ℓ ↦[Finset.univ]{q} f : sProp 𝕄) = bigSep (Finset.range 256) (fun k => ℓ ↦[R k]{q} f) := by
  rw [← pointsTo_biUnion (Finset.range 256) R fun k _ k' _ h => hd k k' h]
  congr 1
  refine (Finset.eq_univ_of_forall fun y => ?_).symm
  obtain ⟨k, hk, hy⟩ := hc y
  exact Finset.mem_biUnion.mpr ⟨k, Finset.mem_range.mpr hk, hy⟩

theorem rows_cover (y : S256x1024.Idx) : ∃ k < 256, y ∈ rowSet k := ⟨(y 0).val, (y 0).isLt, (mem_rowSet _ _).mpr rfl⟩
theorem rows_apart (k k' : ℕ) (h : k ≠ k') : Disjoint (rowSet k) (rowSet k') := by
  rw [Finset.disjoint_left]; intro y h1 h2
  rw [mem_rowSet] at h1 h2; omega

/-- A block of fetched rows is its 256 rows. -/
theorem rows_a (f : S256x1024.Idx → Elt F .f32) :
    (held c aM Finset.univ fullShare f : sProp 𝕄) = bigSep (Finset.range 256) (fun k => held c aM (rowSet k) fullShare f) :=
  in_rows (ℓ := aM.view.loc (c : Thread nD τ)) rowSet fullShare f rows_cover rows_apart
theorem rows_b (f : S256x1024.Idx → Elt F .f32) :
    (held c bM Finset.univ fullShare f : sProp 𝕄) = bigSep (Finset.range 256) (fun k => held c bM (rowSet k) fullShare f) :=
  in_rows (ℓ := bM.view.loc (c : Thread nD τ)) rowSet fullShare f rows_cover rows_apart

/-- The row a transfer reads, at the transfer's share, and the rest of the array at that share. -/
abbrev fetched (s k : ℕ) : sProp 𝕄 := held c yM (srcSet (word T i s k)) (Transfers.shareTokN fullShare (2 * k + s)) Y
abbrev unread (s k : ℕ) : sProp 𝕄 := held c yM (Finset.univ \ srcSet (word T i s k)) (Transfers.shareTokN fullShare (2 * k + s)) Y

theorem tok_split (s k : ℕ) :
    (held c yM Finset.univ (Transfers.shareTokN fullShare (2 * k + s)) Y : sProp 𝕄) = iprop(fetched T Y i c s k ∗ unread T Y i c s k) :=
  have h := pointsTo_split_subset (Ix := Unit) (Name := ℕ) (U := Pipeline.UD sig nD τ) (Lvl := ℕ) (ℓ := yM.view.loc (c : Thread nD τ)) (q := Transfers.shareTokN fullShare (2 * k + s)) (f := Y) (Finset.subset_univ (srcSet (word T i s k)))
  BI.equiv_iff.mp ⟨h.1, h.2⟩

theorem toks_split (s : ℕ) :
    (bigSep (Finset.range 256) (fun k => held c yM Finset.univ (Transfers.shareTokN fullShare (2 * k + s)) Y) : sProp 𝕄)
      = iprop(bigSep (Finset.range 256) (fetched T Y i c s) ∗ bigSep (Finset.range 256) (unread T Y i c s)) := by
  rw [show (fun k => (held c yM Finset.univ (Transfers.shareTokN fullShare (2 * k + s)) Y : sProp 𝕄))
    = (fun k => iprop(fetched T Y i c s k ∗ unread T Y i c s k)) from funext fun k => tok_split T Y i c s k, big_sep]

/-- What the array keeps while the rows are on their way. -/
def kept : sProp 𝕄 :=
  iprop(held c yM Finset.univ (Transfers.shareDrop fullShare (2 * 256)) Y ∗ bigSep (Finset.range 256) (unread T Y i c 0) ∗ bigSep (Finset.range 256) (unread T Y i c 1))

theorem whole_y :
    (held c yM Finset.univ fullShare Y : sProp 𝕄) = iprop(held c yM Finset.univ (Transfers.shareDrop fullShare (2 * 256)) Y
      ∗ (bigSep (Finset.range 256) (fetched T Y i c 0) ∗ bigSep (Finset.range 256) (unread T Y i c 0))
      ∗ (bigSep (Finset.range 256) (fetched T Y i c 1) ∗ bigSep (Finset.range 256) (unread T Y i c 1))) := by
  rw [← toks_split T Y i c 0, ← toks_split T Y i c 1]
  have h := Transfers.pointsTo_toks_range (Ix := Unit) (Name := ℕ) (U := Pipeline.UD sig nD τ) (Lvl := ℕ) (ℓ := yM.view.loc (c : Thread nD τ)) (S := Finset.univ) (f := Y) fullShare (2 * 256)
  refine (BI.equiv_iff.mp ⟨h.1, h.2⟩).trans ?_
  rw [Ring.bigSep_range_deinterleave 256 (fun j => held c yM Finset.univ (Transfers.shareTokN fullShare j) Y)]
  rfl

theorem open_y : (held c yM Finset.univ fullShare Y : sProp 𝕄) ⊢
    iprop(bigSep (Finset.range 256) (fetched T Y i c 0) ∗ bigSep (Finset.range 256) (fetched T Y i c 1) ∗ kept T Y i c) := by
  rw [whole_y T Y i c]; unfold kept
  iintro ⟨Hd, ⟨H0, R0⟩, H1, R1⟩
  isplitl [H0]; · iexact H0
  isplitl [H1]; · iexact H1
  isplitl [Hd]; · iexact Hd
  isplitl [R0]; · iexact R0
  iexact R1
theorem close_y : iprop(bigSep (Finset.range 256) (fetched T Y i c 0) ∗ bigSep (Finset.range 256) (fetched T Y i c 1) ∗ kept T Y i c)
    ⊢ (held c yM Finset.univ fullShare Y : sProp 𝕄) := by
  rw [whole_y T Y i c]; unfold kept
  iintro ⟨H0, H1, Hd, R0, R1⟩
  isplitl [Hd]; · iexact Hd
  isplitl [H0 R0]
  · isplitl [H0]; · iexact H0
    iexact R0
  isplitl [H1]; · iexact H1
  iexact R1

theorem take_of (k : ℕ) (fa fb : S256x1024.Idx → Elt F .f32) :
    iprop(held c aM (rowSet k) fullShare fa ∗ held c bM (rowSet k) fullShare fb ∗ fetched T Y i c 0 k ∗ fetched T Y i c 1 k) ⊢ (takes T Y i c k : sProp 𝕄) := by
  unfold takes
  iintro ⟨HA, HB, H0, H1⟩
  isplitl [HA]; · iexists _; iexact HA
  isplitl [HB]; · iexists _; iexact HB
  isplitl [H0]; · iexact H0
  iexact H1

/-- Every trip's needs, from the two blocks of rows at anything and the rows to fetch. -/
theorem all_takes (fa fb : S256x1024.Idx → Elt F .f32) :
    iprop(held c aM Finset.univ fullShare fa ∗ held c bM Finset.univ fullShare fb
      ∗ bigSep (Finset.range 256) (fetched T Y i c 0) ∗ bigSep (Finset.range 256) (fetched T Y i c 1))
      ⊢ (bigSep (Finset.Ico 0 256) (takes T Y i c) : sProp 𝕄) := by
  rw [rows_a, rows_b, ← big_sep, ← big_sep, ← big_sep, ← Finset.range_eq_Ico]
  exact BI.bigSep_mono fun k _ => take_of T Y i c k fa fb

/-- All rows landed: the two blocks hold what they should, the fetched rows are back. -/
theorem all_lands : (bigSep Finset.univ (lands T Y i c) : sProp 𝕄) ⊢
    iprop(held c aM Finset.univ fullShare (got T Y i 0) ∗ held c bM Finset.univ fullShare (got T Y i 1)
      ∗ bigSep (Finset.range 256) (fetched T Y i c 0) ∗ bigSep (Finset.range 256) (fetched T Y i c 1)) := by
  unfold lands
  rw [Ring.bigSep_interleaved, rows_a, rows_b]
  unfold landA landB
  rw [big_sep, big_sep]
  iintro ⟨⟨HA, H0⟩, HB, H1⟩
  isplitl [HA]; · iexact HA
  isplitl [HB]; · iexact HB
  isplitl [H0]; · iexact H0
  iexact H1

/-- After the last trip of the first loop every transfer is under way. -/
theorem issue_done (acc : Unit) : issueAt T Y i c (Scf.trips k0_t1_loop.lb k0_t1_loop.ub k0_t1_loop.st) acc ⊢ iprop(batch T Y i c (2 * 256) 0 ∗ table c T) := by
  rw [show Scf.trips k0_t1_loop.lb k0_t1_loop.ub k0_t1_loop.st = 256 from trips1]
  unfold issueAt
  rw [Finset.Ico_self, BI.bigSep_empty]
  iintro ⟨HB, -, HT⟩
  isplitl [HB]; · iexact HB
  iexact HT
/-- After the last trip of the second loop every row has landed. -/
theorem drain_done (acc : Unit) : drainAt T Y i c (Scf.trips k0_t2_loop.lb k0_t2_loop.ub k0_t2_loop.st) acc ⊢
    iprop((∃ W, owes (c : Thread nD τ) 0 W) ∗ semVal ((c : Thread nD τ), SemLoc.dma (SemArray.sem cc0_scratch2)) 0 ∗ bigSep Finset.univ (lands T Y i c)) := by
  rw [show Scf.trips k0_t2_loop.lb k0_t2_loop.ub k0_t2_loop.st = 256 from trips2]
  unfold drainAt
  rw [if_neg (Nat.lt_irrefl _)]

variable (arg2 : Memref sig .tc .vmem S256x1024 .f32) (harg2 : arg2.IsWhole) (arg3 : Memref sig .tc .vmem S256x2 .f32) (harg3 : arg3.IsWhole) (arg4 : Memref sig .tc .vmem S1x1024 .f32) (harg4 : arg4.IsWhole) (arg6 : Memref sig .tc .vmem S256x1024 .f32) (harg6 : arg6.IsWhole)

/-- What is stored: each load reads a whole block, and the one store covers the block. -/
theorem left_eq (x : Vec F S256x1024 .f32) (w : Vec F S256x2 .f32) (g : Vec F S1x1024 .f32) (f6 : BufTy.Contents (Elt F) arg6.view.ty) :
    View.read (Elt F) arg6.view (arg6.view.writes (Elt F) f6
        [⟨Rect.unit (s := S256x1024) ![0, 0] S256x1024.size inb_S256x1024_S256x1024_0_0,
            k0_pay1
              (View.readAt (Elt F) arg3.view (Rect.unit (s := S256x2) ![0, 0] S256x2.size inb_S256x2_S256x2_0_0).toLoadRect (harg3.unread w))
              (View.readAt (Elt F) arg2.view (Rect.unit (s := S256x1024) ![0, 0] S256x1024.size inb_S256x1024_S256x1024_0_0).toLoadRect (harg2.unread x))
              (View.readAt (Elt F) aM.view (Rect.unit (s := S256x1024) ![0, 0] S256x1024.size inb_S256x1024_S256x1024_0_0).toLoadRect (got T Y i 0))
              (View.readAt (Elt F) bM.view (Rect.unit (s := S256x1024) ![0, 0] S256x1024.size inb_S256x1024_S256x1024_0_0).toLoadRect (got T Y i 1))
              (View.readAt (Elt F) arg4.view (Rect.unit (s := S1x1024) ![0, 0] S1x1024.size inb_S1x1024_S1x1024_0_0).toLoadRect (harg4.unread g))⟩])
      = k0_pay1 w x (got T Y i 0) (got T Y i 1) g := by
  have e3 : View.readAt (Elt F) arg3.view (Rect.unit (s := S256x2) ![0, 0] S256x2.size inb_S256x2_S256x2_0_0).toLoadRect (harg3.unread w) = w := by
    rw [View.readAt_eq_ld, View.ld_unit_zero (by decide)]; exact harg3.read_unread (Val := Elt F) w
  have e2 : View.readAt (Elt F) arg2.view (Rect.unit (s := S256x1024) ![0, 0] S256x1024.size inb_S256x1024_S256x1024_0_0).toLoadRect (harg2.unread x) = x := by
    rw [View.readAt_eq_ld, View.ld_unit_zero (by decide)]; exact harg2.read_unread (Val := Elt F) x
  have e4 : View.readAt (Elt F) arg4.view (Rect.unit (s := S1x1024) ![0, 0] S1x1024.size inb_S1x1024_S1x1024_0_0).toLoadRect (harg4.unread g) = g := by
    rw [View.readAt_eq_ld, View.ld_unit_zero (by decide)]; exact harg4.read_unread (Val := Elt F) g
  have ea : View.readAt (Elt F) aM.view (Rect.unit (s := S256x1024) ![0, 0] S256x1024.size inb_S256x1024_S256x1024_0_0).toLoadRect (got T Y i 0) = got T Y i 0 := by
    rw [View.readAt_eq_ld, View.ld_unit_zero (by decide)]; rfl
  have eb : View.readAt (Elt F) bM.view (Rect.unit (s := S256x1024) ![0, 0] S256x1024.size inb_S256x1024_S256x1024_0_0).toLoadRect (got T Y i 1) = got T Y i 1 := by
    rw [View.readAt_eq_ld, View.ld_unit_zero (by decide)]; rfl
  rw [View.read_writes_eq_canon _ _ _ (View.cover_of_tiledL _ S256x1024.size (by sl_kernel_rfl)), View.canon_unit_zero (by decide), e2, e3, e4, ea, eb]

/-- The body, from its inputs' blocks, the table and the experts' rows: it leaves the block the payload names. -/
theorem kernelRun (hT : ∀ n, (T n).toNat < 69632) (x : Vec F S256x1024 .f32) (w : Vec F S256x2 .f32) (g : Vec F S1x1024 .f32) (W : Waits sig Unit) (K : PUnit → sProp 𝕄) :
    iprop(owns (c : Thread nD τ) arg2 fullShare x ∗ owns (c : Thread nD τ) arg3 fullShare w ∗ owns (c : Thread nD τ) arg4 fullShare g
        ∗ (∃ d, owns (c : Thread nD τ) arg6 fullShare d)
        ∗ (∃ f, held c aM Finset.univ fullShare f) ∗ (∃ f, held c bM Finset.univ fullShare f)
        ∗ semVal ((c : Thread nD τ), SemLoc.dma (SemArray.sem cc0_scratch2)) 0
        ∗ held c yM Finset.univ fullShare Y ∗ table c T ∗ owes (c : Thread nD τ) 0 W
        ∗ (iprop(owns (c : Thread nD τ) arg2 fullShare x ∗ owns (c : Thread nD τ) arg3 fullShare w ∗ owns (c : Thread nD τ) arg4 fullShare g
            ∗ owns (c : Thread nD τ) arg6 fullShare (k0_pay1 w x (got T Y i 0) (got T Y i 1) g)
            ∗ (∃ f, held c aM Finset.univ fullShare f) ∗ (∃ f, held c bM Finset.univ fullShare f)
            ∗ semVal ((c : Thread nD τ), SemLoc.dma (SemArray.sem cc0_scratch2)) 0
            ∗ held c yM Finset.univ fullShare Y ∗ table c T ∗ ∃ W', owes (c : Thread nD τ) 0 W') -∗ K ⟨⟩))
      ⊢ wp frame (wpE (defs₀ (F := F)) Variants.none (c : Thread nD τ) none) Set.univ
          (cc0_moe_combine i tbM (Memref.isWhole_whole _) arg2 harg2 arg3 harg3 arg4 harg4 yM (Memref.isWhole_whole _) arg6 harg6 aM (Memref.isWhole_whole _) bM (Memref.isWhole_whole _) cc0_scratch2) K := by
  simp only [cc0_moe_combine_eq_skeleton]
  sl_unfold [cc0_moe_combine_skel]
  unfold owns
  iintro ⟨⟨%f2, %e2, H2⟩, ⟨%f3, %e3, H3⟩, ⟨%f4, %e4, H4⟩, ⟨%d6, %f6, -, H6⟩, ⟨%fa, HA⟩, ⟨%fb, HBb⟩, Hc, HY, HT, HO, Hk⟩
  ihave HY := (open_y T Y i c) $$ HY
  icases HY with ⟨HY0, HY1, HY⟩
  ihave Htk := (all_takes T Y i c fa fb) $$ [HA HBb HY0 HY1]
  · isplitl [HA]; · iexact HA
    isplitl [HBb]; · iexact HBb
    isplitl [HY0]; · iexact HY0
    iexact HY1
  imod (Transfers.batch_alloc' (Lvl := ℕ) (countersEmb (U := Pipeline.UD sig nD τ)) (c : Thread nD τ) () credit (lands T Y i c) (sm := .dma (SemArray.sem cc0_scratch2)) (E := Set.univ)) $$ Hc with HB
  sl_for (issueAt T Y i c) $$ [HB Htk HT]
  · intro k acc
    exact issue_step T Y i c arg2 harg2 arg3 harg3 arg4 harg4 arg6 harg6 hT k acc
  · unfold issueAt
    isplitl [HB]; · iexact HB
    isplitl [Htk]; · iexact Htk
    iexact HT
  iintro %_ HI
  ihave HI := (issue_done T Y i c _) $$ HI
  icases HI with ⟨HB, HT⟩
  sl_for (drainAt T Y i c) $$ [HB HO]
  · intro k acc
    exact drain_step T Y i c arg2 harg2 arg3 harg3 arg4 harg4 arg6 harg6 k acc
  · unfold drainAt
    rw [if_pos (by decide : 0 < 256)]
    isplitl [HO]; · iexists _; iexact HO
    rw [show 2 * 0 * credit = 0 from Nat.zero_mul _]
    iexact HB
  iintro %_ HI
  ihave HI := (drain_done T Y i c _) $$ HI
  icases HI with ⟨HO, Hc, HL⟩
  ihave HL := (all_lands T Y i c) $$ HL
  icases HL with ⟨HA, HBb, HY0, HY1⟩
  ihave HY := (close_y T Y i c) $$ [HY0 HY1 HY]
  · isplitl [HY0]; · iexact HY0
    isplitl [HY1]; · iexact HY1
    iexact HY
  obtain rfl := harg2.eq_unread e2; obtain rfl := harg3.eq_unread e3; obtain rfl := harg4.eq_unread e4
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; swap; · iexact H6
    ipureintro
    exact left_eq T Y i arg2 harg2 arg3 harg3 arg4 harg4 arg6 x w g f6
  isplitl [HA]; · iexists _; iexact HA
  isplitl [HBb]; · iexists _; iexact HBb
  isplitl [Hc]; · iexact Hc
  isplitl [HY]; · iexact HY
  isplitl [HT]; · iexact HT
  iexact HO

end Cert.CombineIdeal.Rows

end
-- ==== Proof.CombFrame.lean ====
/- The combining step's run: its proof data, the body at every grid point, and the frame, for any contents whose row numbers all name a row. -/
module

public import proofs.«01_k».proof.Proof.CombRun
public import Idealize.ShloMosaic.Lib.Claim

@[expose] public section

set_option maxRecDepth 16384

noncomputable section

namespace Cert.CombineIdeal.Rows

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the region finds: the launch memory. -/
abbrev V (c : Dev nD) (b : Ref sig .tc) : Buf (Elt F) ((c : Thread nD τ).loc b) := m (c, b)

/-- The table at launch. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem ok : ok0 (F := F) (tbl m) := by unfold ok0; trivial
abbrev adm : (pcfg0 (F := F)).Adm := ⟨tbl m, ok m⟩
abbrev cfgM : Pipeline.Cfg sig Λ₀ := cfg0 (adm m)

/-- The table's row numbers, as the body reads them. -/
abbrev words : S65536.Idx → BitVec 32 := tbl m 0
/-- The experts' rows. -/
abbrev source (c : Dev nD) : S69632x1024.Idx → Elt F .f32 := V m c main_arg3

/-! ## The body's own semaphore and the array it reads itself -/

abbrev osem : Fin 1 → SemLoc sig := fun _ => SemLoc.dma (SemArray.sem cc0_scratch2)
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma (SemArray.sem cc0_scratch2)) 0 := by
  rw [Pipeline.ownSems0_eq_of_list c osem [0] (by decide) (by decide)]; rfl

def own : Finset (Ref sig .tc) := {main_arg3}
theorem own_sub : own ⊆ Pipeline.restRefsP sig pre0 spec0 := by decide
theorem own_eq (c : Dev nD) :
    (bigSep own (fun b => ((c : Thread nD τ).loc b) ↦{fullShare} V m c b) : sProp 𝕄) = held c yM Finset.univ fullShare (source m c) := by
  rw [BI.bigSep_eq_bigSepL_of_eq [main_arg3] (by decide) (by decide)]; rfl

theorem PhiD_eq (c : Dev nD) :
    (Pipeline.ΦD osem spec0 own (V m) c : sProp 𝕄)
      = iprop(iprop((∃ f, held c aM Finset.univ fullShare f) ∗ (∃ f, held c bM Finset.univ fullShare f)) ∗ (∃ r, prngReg c r)
          ∗ semVal ((c : Thread nD τ), SemLoc.dma (SemArray.sem cc0_scratch2)) 0 ∗ held c yM Finset.univ fullShare (source m c)) := by
  rw [Pipeline.ΦD_eq, scopedRest0_eq, osem_eq, own_eq]
theorem PhiT_eq (c : Dev nD) : (Pipeline.ΦT pre0 (tbl m) c : sProp 𝕄) = table c (words m) := by
  unfold Pipeline.ΦT Pipeline.prefHeld
  rw [show (Finset.univ : Finset (Fin 1)) = {(0 : Fin 1)} from by decide, bigSep_singleton]
  rfl

/-! ## The proof data -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in the output block at point `t`. -/
def left (c : Dev nD) (t : Fin (cfgM m).N) : Vec F S256x1024 .f32 :=
  k0_pay1 (iblk m c 1 t) (iblk m c 0 t) (got (words m) (source m c) (grid0.coords t) 0) (got (words m) (source m c) (grid0.coords t) 1) (iblk m c 2 t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := iprop(Pipeline.ΦD osem spec0 own (V m) c ∗ Pipeline.ΦT pre0 (tbl m) c)
  q _ := fullShare
  owed _ := 0

theorem A_eq (c : Dev nD) (w : Fin (cfgM m).W) : (dats m 0 c).A w = V m c (Pipeline.arrRef spec0 w) := by dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = left m c t := by dsimp only [dats]; try rfl

/-- Each input's staging buffer holds its block at every point. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at a point -/

abbrev st_0 (t : Fin (cfgM m).N) : Memref sig .tc .vmem S256x1024 .f32 := spec0_0.stage ((cfgM m).slots t 0)
abbrev st_1 (t : Fin (cfgM m).N) : Memref sig .tc .vmem S256x2 .f32 := spec0_1.stage ((cfgM m).slots t 1)
abbrev st_2 (t : Fin (cfgM m).N) : Memref sig .tc .vmem S1x1024 .f32 := spec0_2.stage ((cfgM m).slots t 2)
abbrev st_3 (t : Fin (cfgM m).N) : Memref sig .tc .vmem S256x1024 .f32 := spec0_3.stage ((cfgM m).slots t 3)

abbrev bodyAt (t : Fin (cfgM m).N) : Prog (TpuEff nD τ sig (Elt F) Λ₀ .tc) PUnit :=
  cc0_moe_combine (grid0.coords t) tbM (Memref.isWhole_whole _) (st_0 m t) (hstage0_0 (((cfgM m).slots t 0).cast nbuf0_0)) (st_1 m t) (hstage0_1 (((cfgM m).slots t 1).cast nbuf0_1))
    (st_2 m t) (hstage0_2 (((cfgM m).slots t 2).cast nbuf0_2)) yM (Memref.isWhole_whole _) (st_3 m t) (hstage0_3 (((cfgM m).slots t 3).cast nbuf0_3)) aM (Memref.isWhole_whole _) bM (Memref.isWhole_whole _) cc0_scratch2

def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d)))
def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t))

theorem sound_body (hT : ∀ n, (words m n).toNat < 69632) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = iprop(Pipeline.ΦD osem spec0 own (V m) c ∗ Pipeline.ΦT pre0 (tbl m) c) from rfl, PhiT_eq, PhiD_eq]
  unfold left
  unfold Dat.owesAt Pipeline.owesWithin
  rw [show (dats m 0 c).owed t.castSucc = 0 from rfl]
  iintro ⟨⟨⟨⟨HA, HB⟩, Hg, Hc, HY⟩, HT⟩, ⟨%W, %hW, HO⟩, ⟨%d0, H0⟩, ⟨%d1, H1⟩, ⟨%d2, H2⟩, ⟨%d3, H3⟩⟩
  iapply (kernelRun (words m) (source m c) (grid0.coords t) c (st_0 m t) _ (st_1 m t) _ (st_2 m t) _ (st_3 m t) _ hT (iblk m c 0 t) (iblk m c 1 t) (iblk m c 2 t) W _)
  isplitl [H0]; · iexact H0
  isplitl [H1]; · iexact H1
  isplitl [H2]; · iexact H2
  isplitl [H3]; · iexists _; iexact H3
  isplitl [HA]; · iexact HA
  isplitl [HB]; · iexact HB
  isplitl [Hc]; · iexact Hc
  isplitl [HY]; · iexact HY
  isplitl [HT]; · iexact HT
  isplitl [HO]; · iexact HO
  iintro ⟨H0, H1, H2, H3, HA, HB, Hc, HY, HT, ⟨%W', HO⟩⟩
  isplitl [HA HB Hg Hc HY HT]
  · isplitl [HA HB Hg Hc HY]
    · isplitl [HA HB]
      · isplitl [HA]; · iexact HA
        iexact HB
      isplitl [Hg]; · iexact Hg
      isplitl [Hc]; · iexact Hc
      iexact HY
    iexact HT
  isplitl [HO]
  · iexists W'; isplitr; · ipureintro; exact fun _ _ => Or.inl trivial
    iexact HO
  isplitl [H0]; · iexact H0
  isplitl [H1]; · iexact H1
  isplitl [H2]; · iexact H2
  iexact H3

theorem defs₀_row (t : Fin (cfgM m).N) :
    defs₀ (F := F) .tc (cfgM m).body ((cfgM m).bodyArgs t ((cfgM m).slots t)) = bodyAt m t := by
  unfold defs₀; rw [Defs.onTc_tc]

theorem body_obligation (hT : ∀ n, (words m n).toNat < 69632) (c : Dev nD) : BodyObligation (dats (F := F) m 0 c) (defs₀ (F := F)) Variants.none () Set.univ := fun t => by
  rw [bigSep_W0, bigSep_W0, defs₀_row m]
  exact triple_restated (sound_body m hT c t) rfl .rfl fun _ => .rfl

/-! ## The run -/

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

-- the theorem's implicit arguments are found by unifying its conclusion with this statement
set_option backward.isDefEq.respectTransparency.types false in
theorem run_main_quiescent (hT : ∀ n, (words m n).toNat < 69632) :
    θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem defs₀ Variants.none osem_facts own own_sub m ρ main
    (hbody := fun c => (body_obligation m hT c).loose) (hshare := fun c => (dats m 0 c).share_full fun _ => rfl)
    (howed := fun _ _ => rfl) (V := V m) (hmain := hmain m Variants.none) (hA := A_eq m) (hpf := V_pre m)
    (hin := fun _ => .rfl) (hout := fun c => by
      show iprop(Pipeline.ΦD osem spec0 own (V m) c ∗ Pipeline.ΦT pre0 (tbl m) c) ⊢ _
      iintro ⟨H, -⟩; iexact H)

/-- The arguments end as they began, and every semaphore at zero. -/
theorem frame (hT : ∀ n, (words m n).toNat < 69632) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (by decide : main_arg0 ∈ Pipeline.restRefs sig spec0),
      ((h.1 c).1 0).trans (((dats m 0 c).arrAt_in 0 rfl _).trans (A_eq m c 0)),
      ((h.1 c).1 1).trans (((dats m 0 c).arrAt_in 1 rfl _).trans (A_eq m c 1)),
      (h.1 c).2 main_arg3 (by decide : main_arg3 ∈ Pipeline.restRefs sig spec0),
      ((h.1 c).1 2).trans (((dats m 0 c).arrAt_in 2 rfl _).trans (A_eq m c 2))⟩, h.2⟩) (run_main_quiescent m ρ hT)

end Cert.CombineIdeal.Rows

end
-- ==== Proof.CombBits.lean ====
/- The row numbers the precondition allows, and the frame of the combining step at both kinds of number. -/
module

public import proofs.«01_k».proof.Proof.CombFrame
public import proofs.«01_k».proof.Proof.Gen.Combine.Launch
public import proofs.«01_k».proof.Pre_rows_exist
public import proofs.«01_k».proof.Proof.Gen.Pre_rows_exist
public import Idealize.ShloMosaic.Lib.ReduceAll

@[expose] public section

set_option maxRecDepth 65536

noncomputable section

open Idealize.ShloMosaic Idealize.ShloMosaic.TcCoe Idealize.SL.Sem

namespace Cert.CombineIdeal.Rows

attribute [local instance] Cert.Pre_rows_exist.Gen.facts

/-- The precondition says of every row number that it names a row. -/
theorem rows_exist {F : FTy → Type} [FloatOps F] (T : IVec Cert.Pre_rows_exist.S65536 32) (X1 : FVec F Cert.Pre_rows_exist.S32768x1024 .f32) (X2 : FVec F Cert.Pre_rows_exist.S32768x2 .f32)
    (X3 : FVec F Cert.Pre_rows_exist.S69632x1024 .f32) (X4 : FVec F Cert.Pre_rows_exist.S1x1024 .f32)
    (h : Cert.Pre_rows_exist.fn (F := F) T X1 X2 X3 X4 = fun _ => 1#1) (n : Cert.Pre_rows_exist.S65536.Idx) : (T n).toNat < 69632 := by
  have h0 := congrFun h Idealize.ShloMosaic.ix0
  dsimp only [Cert.Pre_rows_exist.fn] at h0
  haveI : Subsingleton Cert.Pre_rows_exist.S_.Idx := ⟨fun x y => by funext d; exact d.elim0⟩
  have e := Host.reduce_andi_all _ _ _ _ _ h0 n
  obtain ⟨e1, e2⟩ := IntOp.andi_eq_one.1 e
  have l1 : (0#32 : BitVec 32).toInt ≤ (T n).toInt := IntOp.cmpi_sge.1 e1
  have l2 : (T n).toInt < (69632#32 : BitVec 32).toInt := IntOp.cmpi_slt.1 e2
  have z : (0#32 : BitVec 32).toInt = 0 := by decide
  have k : (69632#32 : BitVec 32).toInt = 69632 := by decide
  rw [z] at l1; rw [k] at l2
  have b := (T n).isLt
  rw [BitVec.toInt_eq_toNat_cond] at l1 l2
  split at l1 <;> omega

/-- The two programs call the same body. -/
theorem bodies_eq : @Cert.Combine.defs₀ Bits _ _ = @Cert.CombineIdeal.defs₀ Bits _ _ := by
  unfold Cert.Combine.defs₀ Cert.CombineIdeal.defs₀
  congr 1
  funext l a
  obtain ⟨l, hl⟩ := l
  match l, hl, a with
  | 0, _, (t, s) => rfl
  | n + 1, h, _ => exact absurd h (by omega)
theorem tables_eq : @Cert.Combine.defs Bits _ _ = @Cert.CombineIdeal.defs Bits _ _ :=
  congrArg (Pipeline.defs (Cert.CombineIdeal.pcfgs (F := Bits))) bodies_eq

/-- The frame at machine numbers: the program is the same text. -/
theorem frame_bits (m : (ℓ : Loc Cert.Combine.nD Cert.Combine.τ Cert.Combine.sig) → Buf (Elt Bits) ℓ) (g : Dev Cert.Combine.nD → PrngReg)
    (hT : ∀ n : Cert.CombineIdeal.S65536.Idx, (m ((0 : Dev Cert.Combine.nD), Cert.Combine.main_arg0) n : BitVec 32).toNat < 69632) :
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0) := by
  rw [tables_eq]
  exact Cert.CombineIdeal.Rows.frame (F := Bits) m g hT

end Cert.CombineIdeal.Rows

end
-- ==== Proof.CombReference.lean ====
/- The combining step's reference in stages, and its result at an index. -/
module

public import proofs.«01_k».proof.Proof.ProjSpec
public import Idealize.ShloMosaic.Lib.Routing.OpsPair
public import proofs.«01_k».proof.Proof.Gen.CombineReferenceIdeal.Run

@[expose] public section

set_option maxRecDepth 16384

noncomputable section

open Idealize.ShloMosaic Idealize.ShloMosaic.TcCoe Idealize.SL.Sem
open scoped Classical

namespace Cert.CombineReferenceIdeal.Value

open Cert.CombineReferenceIdeal Cert.CombineReferenceIdeal.Gen Proj

/-- The row numbers as indices, a negative one counted from the end. -/
def index (T : IVec S65536 32) : IVec S65536x1 32 :=
  broadcastInDim S65536x1 ![0] bcast_S65536_S65536x1_0 (select (cmpi .slt T (broadcastInDim S65536 ![] bcast_S_S65536 (constantI S_ 32 0#32)))
    (addi T (broadcastInDim S65536 ![] bcast_S_S65536 (constantI S_ 32 69632#32))) T)

/-- Each token's two rows, in the order of the row numbers. -/
def taken (T : IVec S65536 32) (Y : FVec Ideal S69632x1024 .f32) : FVec Ideal S65536x1024 .f32 :=
  Host.gather gather_S69632x1024_S65536x1_S65536x1024_1_0_n_n_0_1_11024 Y (index T)

/-- The same with a token's two rows together. -/
def pairs (T : IVec S65536 32) (Y : FVec Ideal S69632x1024 .f32) : FVec Ideal S32768x2x1024 .f32 :=
  shapeCast S32768x2x1024 (taken T Y) shapeCasts_S65536x1024_S32768x2x1024

/-- Each token's features with its weighted rows added. -/
def added (P : FVec Ideal S32768x2x1024 .f32) (X : FVec Ideal S32768x1024 .f32) (W : FVec Ideal S32768x2 .f32) : FVec Ideal S32768x1024 .f32 :=
  addf X (Host.reduceAdd (mulf P (broadcastInDim S32768x2x1024 ![0, 1, 2] bcast_S32768x2x1_S32768x2x1024_0_1_2
    (broadcastInDim S32768x2x1 ![0, 1] bcast_S32768x2_S32768x2x1_0_1 W))) (constant S_ .f32 0x00000000#32) reducesTo_S32768x2x1024_S32768x1024_d1 h_S_)

/-- The final norm. -/
def scaled (X : FVec Ideal S32768x1024 .f32) (G : FVec Ideal S1x1024 .f32) : FVec Ideal S32768x1024 .f32 :=
  mulf (mulf X (broadcastInDim S32768x1024 ![0, 1] bcast_S32768x1_S32768x1024_0_1 (Host.rsqrt (addf (Host.divf
    (broadcastInDim S32768x1 ![0] bcast_S32768_S32768x1_0 (Host.reduceAdd (mulf X X) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 G)

/-- The result. -/
def result (T : IVec S65536 32) (X : FVec Ideal S32768x1024 .f32) (W : FVec Ideal S32768x2 .f32) (Y : FVec Ideal S69632x1024 .f32) (G : FVec Ideal S1x1024 .f32) :
    FVec Ideal S32768x1024 .f32 := scaled (added (pairs T Y) X W) G

/-- The run ends with the result, and every argument kept. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

theorem index_at (T : IVec S65536 32) (n : Fin 65536) (h : (T (ix1 n)).toNat < 69632) : index T (ix2 n 0) = T (ix1 n) := by
  refine Eq.trans ?_ (Routing.wrap_of_lt (T (ix1 n)) (T (ix1 n) + 69632#32) (lt_trans h (by decide)))
  pointwise [index]
  rfl

/-- What is taken is the row the number names, where it names one. -/
theorem taken_at (T : IVec S65536 32) (Y : FVec Ideal S69632x1024 .f32) (n : Fin 65536) (h : (T (ix1 n)).toNat < 69632) (d : Fin 1024) :
    taken T Y (ix2 n d) = Y (ix2 ⟨(T (ix1 n)).toNat, h⟩ d) := by
  have hi : gather_S69632x1024_S65536x1_S65536x1024_1_0_n_n_0_1_11024.siIdx (ix2 n d) ⟨0, Nat.one_pos⟩ = ix2 n 0 := by
    funext x
    match x with
    | ⟨0, _⟩ => rfl
    | ⟨1, _⟩ => rfl
  have hs : gather_S69632x1024_S65536x1_S65536x1024_1_0_n_n_0_1_11024.start (ix2 n d) (index T) 0 = (T (ix1 n)).toNat := by
    unfold GatherDims.start
    rw [dif_pos (show (0 : Fin 2) ∈ gather_S69632x1024_S65536x1_S65536x1024_1_0_n_n_0_1_11024.startIndexMap from List.mem_singleton.2 rfl)]
    show min (index T (gather_S69632x1024_S65536x1_S65536x1024_1_0_n_n_0_1_11024.siIdx (ix2 n d) ⟨0, Nat.one_pos⟩)).toInt.toNat 69631 = _
    rw [hi, index_at T n h]
    have := BitVec.toInt_eq_toNat_of_lt (x := T (ix1 n)) (by omega)
    omega
  refine congrArg Y (funext fun x => Fin.ext ?_)
  match x with
  | ⟨0, _⟩ => exact hs
  | ⟨1, _⟩ => exact Nat.zero_add _

theorem pairs_at (T : IVec S65536 32) (Y : FVec Ideal S69632x1024 .f32) (R : Fin 32768) (s : Fin 2) (d : Fin 1024) :
    pairs T Y (ix3 R s d) = taken T Y (ix2 ⟨2 * R.val + s.val, by omega⟩ d) := by
  pointwise [pairs]
  exact congrArg (fun z => taken T Y (ix2 z d)) (Fin.ext (congrArg (· + s.val) (Nat.mul_comm _ _)))

theorem added_at (P : FVec Ideal S32768x2x1024 .f32) (X : FVec Ideal S32768x1024 .f32) (W : FVec Ideal S32768x2 .f32) (R : Fin 32768) (d : Fin 1024) :
    added P X W (ix2 R d) = X (ix2 R d) + (P (ix3 R 0 d) * W (ix2 R 0) + P (ix3 R 1 d) * W (ix2 R 1)) := by
  rw [← Fin.sum_univ_two (fun s : Fin 2 => P (ix3 R s d) * W (ix2 R s))]
  pointwise [added]

theorem scaled_at (X : FVec Ideal S32768x1024 .f32) (G : FVec Ideal S1x1024 .f32) (R : Fin 32768) (d : Fin 1024) :
    scaled X G (ix2 R d) = normed (fun e => X (ix2 R e)) (fun e => G (ix2 0 e)) d := by
  pointwise [scaled]
  rfl

/-- The result at a token's feature. -/
theorem result_at (T : IVec S65536 32) (X : FVec Ideal S32768x1024 .f32) (W : FVec Ideal S32768x2 .f32) (Y : FVec Ideal S69632x1024 .f32) (G : FVec Ideal S1x1024 .f32)
    (h : ∀ n, (T n).toNat < 69632) (R : Fin 32768) (d : Fin 1024) :
    result T X W Y G (ix2 R d) = normed (fun e => X (ix2 R e) + (Y (ix2 ⟨(T (ix1 ⟨2 * R.val, by omega⟩)).toNat, h _⟩ e) * W (ix2 R 0)
      + Y (ix2 ⟨(T (ix1 ⟨2 * R.val + 1, by omega⟩)).toNat, h _⟩ e) * W (ix2 R 1))) (fun e => G (ix2 0 e)) d := by
  unfold result
  rw [scaled_at]
  refine congrArg (fun f => normed f _ d) (funext fun e => ?_)
  rw [added_at, pairs_at, pairs_at, taken_at _ _ _ (h _), taken_at _ _ _ (h _)]
  rfl

end Cert.CombineReferenceIdeal.Value

end
-- ==== Proof.CombFinal.lean ====
/- The combining step's result is the reference's: each block of it comes from the 256 tokens of one grid point. -/
module

public import proofs.«01_k».proof.Proof.CombFrame
public import proofs.«01_k».proof.Proof.CombReference

@[expose] public section

set_option maxRecDepth 16384

noncomputable section

open Idealize.ShloMosaic Idealize.ShloMosaic.TcCoe Idealize.SL.Sem
open scoped Classical

namespace Cert.CombineIdeal.Rows

open Cert.CombineIdeal Cert.CombineIdeal.Gen Proj

/-- The body at a token's feature. -/
theorem body_at (w : FVec Ideal S256x2 .f32) (x a b : FVec Ideal S256x1024 .f32) (g : FVec Ideal S1x1024 .f32) (k : Fin 256) (d : Fin 1024) :
    k0_pay1 (F := Ideal) w x a b g (ix2 k d)
      = normed (fun e => x (ix2 k e) + (a (ix2 k e) * w (ix2 k 0) + b (ix2 k e) * w (ix2 k 1))) (fun e => g (ix2 0 e)) d := by
  pointwise [k0_pay1]
  rfl

section

variable (m : (ℓ : Loc nD τ sig) → Buf (Elt Ideal) ℓ) (c : Dev nD)

theorem point_lt (t : Fin (cfgM m).N) : t.val < 128 := t.isLt

/-- The tokens' blocks follow the grid. -/
theorem rows_idx : ∀ t : Fin grid0.N, cc0_transform_0 (grid0.coords t) = ![t.val, 0] ∧ cc0_transform_1 (grid0.coords t) = ![t.val, 0]
    ∧ cc0_transform_4 (grid0.coords t) = ![t.val, 0] ∧ ((grid0.coords t) 0).val = t.val := by
  decide +kernel

theorem idx0 (t : Fin (cfgM m).N) : ((cfgM m).win 0).index t = ![t.val, 0] := (rows_idx t).1
theorem idx1 (t : Fin (cfgM m).N) : ((cfgM m).win 1).index t = ![t.val, 0] := (rows_idx t).2.1
theorem idx2 (t : Fin (cfgM m).N) : ((cfgM m).win 2).index t = ![0, 0] := rfl
theorem idx3 (t : Fin (cfgM m).N) : ((cfgM m).win 3).index t = ![t.val, 0] := (rows_idx t).2.2.1

/-- Every point's block of the result is written out: the next point has another. -/
theorem flush3 (t : Fin (cfgM m).N) : ((cfgM m).win 3).flush t = true :=
  (by decide +kernel : ∀ t : Fin grid0.N, Pipeline.Window.flushOf grid0 true cc0_transform_4 t = true) t

/-- The blocks of the result cover it. -/
theorem covers : ((cfgM m).win 3).Covers := by
  have n0 : ((cfgM m).win 3).nblk (0 : Fin 2) = 128 := by
    show (32768 + 256 - 1) / 256 = 128
    norm_num
  have n1 : ((cfgM m).win 3).nblk (1 : Fin 2) = 1 := by
    show (1024 + 1024 - 1) / 1024 = 1
    norm_num
  refine ⟨(by decide : ∀ a : Fin 2, 0 < (![256, 1024] : Fin 2 → ℕ) a), fun β => ?_⟩
  have h0 := lt_of_lt_of_eq (β (0 : Fin 2)).isLt n0
  have h1 := lt_of_lt_of_eq (β (1 : Fin 2)).isLt n1
  refine ⟨(⟨(β (0 : Fin 2)).val, h0⟩ : Fin 128), flush3 m _, fun a => ⟨?_, Or.inl rfl⟩⟩
  refine (congrFun (idx3 m _) a).trans ?_
  match a with
  | ⟨0, _⟩ => rfl
  | ⟨1, _⟩ => exact (Nat.lt_one_iff.mp h1).symm

theorem block0 (t : Fin (cfgM m).N) (k : Fin 256) (d : Fin 1024) : (iblk m c 0 t : FVec Ideal S256x1024 .f32) (ix2 k d)
    = (V m c main_arg1 : FVec Ideal S32768x1024 .f32) (ix2 ⟨256 * t.val + k.val, by have := point_lt m t; omega⟩ d) := by
  blk_ext [iblk, idx0 m t]

theorem block1 (t : Fin (cfgM m).N) (k : Fin 256) (s : Fin 2) : (iblk m c 1 t : FVec Ideal S256x2 .f32) (ix2 k s)
    = (V m c main_arg2 : FVec Ideal S32768x2 .f32) (ix2 ⟨256 * t.val + k.val, by have := point_lt m t; omega⟩ s) := by
  blk_ext [iblk, idx1 m t]

theorem block2 (t : Fin (cfgM m).N) (d : Fin 1024) : (iblk m c 2 t : FVec Ideal S1x1024 .f32) (ix2 0 d)
    = (V m c main_arg4 : FVec Ideal S1x1024 .f32) (ix2 0 d) := by
  blk_ext [iblk, idx2 m t]

/-- A fetched row is the row the token's number names. -/
theorem got_at (hT : ∀ n, (words m n).toNat < 69632) (t : Fin (cfgM m).N) (s : Fin 2) (k : Fin 256) (d : Fin 1024) (n : Fin 65536)
    (hn : n.val = 2 * (256 * t.val + k.val) + s.val) :
    got (words m) (source m c) (grid0.coords t) s.val (ix2 k d) = source m c (ix2 (n0 := 69632) (n1 := 1024) ⟨(words m (ix1 n)).toNat, hT _⟩ d) := by
  have ht : ((grid0.coords t) 0).val = t.val := (rows_idx t).2.2.2
  have e : tabAt (512 * ((grid0.coords t) 0).val + 2 * k.val + s.val) = ix1 n := by
    funext a
    match a with
    | ⟨0, _⟩ =>
      refine Fin.ext ?_
      show (512 * ((grid0.coords t) 0).val + 2 * k.val + s.val) % 65536 = n.val
      rw [ht, Nat.mod_eq_of_lt (by have := n.isLt; omega)]
      omega
  refine congrArg (source m c) (funext fun a => ?_)
  match a with
  | ⟨0, _⟩ =>
    refine Fin.ext ?_
    show (words m (tabAt (512 * ((grid0.coords t) 0).val + 2 * k.val + s.val))).toNat % 69632 = (words m (ix1 n)).toNat
    rw [e]
    exact Nat.mod_eq_of_lt (hT _)
  | ⟨1, _⟩ => rfl

/-- The reference's result from the program's arguments. -/
abbrev res : FVec Ideal S32768x1024 .f32 :=
  Cert.CombineReferenceIdeal.Value.result (m ((c : Thread nD τ).loc main_arg0)) (m ((c : Thread nD τ).loc main_arg1))
    (m ((c : Thread nD τ).loc main_arg2)) (m ((c : Thread nD τ).loc main_arg3)) (m ((c : Thread nD τ).loc main_arg4))

/-- Equal numbers give equal results. -/
theorem sums_congr {x x' a a' b b' g g' : Fin 1024 → EReal} {u u' v v' : EReal} (hx : ∀ e, x e = x' e) (ha : ∀ e, a e = a' e) (hb : ∀ e, b e = b' e)
    (hu : u = u') (hv : v = v') (hg : ∀ e, g e = g' e) (d : Fin 1024) :
    normed (fun e => x e + (a e * u + b e * v)) g d = normed (fun e => x' e + (a' e * u' + b' e * v')) g' d := by
  rw [funext hx, funext ha, funext hb, hu, hv, funext hg]

/-- The whole result. -/
theorem final3 (hT : ∀ n, (words m n).toNat < 69632) : (dats m 0 c).arrAt 3 (cfgM m).N = res m c := by
  obtain rfl : c = 0 := Subsingleton.elim _ _
  refine (dats m 0 0).arrAt_eq_of_covers 3 _ (covers m) fun t _ y => ?_
  blk_simp
  rw [after_3]
  obtain ⟨k, d, rfl⟩ : ∃ (k : Fin 256) (d : Fin 1024), y = ix2 k d := ⟨y (0 : Fin 2), y (1 : Fin 2), eq_ix2 (n0 := 256) (n1 := 1024) y⟩
  have e : (((cfgM m).win 3).blk t).view.emb (ix2 k d) = ix2 (n0 := 32768) (n1 := 1024) ⟨256 * t.val + k.val, by have := point_lt m t; omega⟩ d := by
    blk_ext [idx3 m t]
  refine (body_at _ _ _ _ _ k d).trans (Eq.trans ?_ (congrArg (res m 0) e.symm))
  refine Eq.trans ?_ (Cert.CombineReferenceIdeal.Value.result_at _ _ _ _ _ hT _ d).symm
  exact sums_congr (fun e => block0 m 0 t k e) (fun e => got_at m 0 hT t 0 k e _ rfl) (fun e => got_at m 0 hT t 1 k e _ rfl)
    (block1 m 0 t k 0) (block1 m 0 t k 1) (fun e => block2 m 0 t e) d

/-- The run ends with the whole result, and every argument kept. -/
theorem run_result (ρ : Dev nD → PrngReg) (hT : ∀ n, (words m n).toNat < 69632) :
    θ_run (defs (F := Ideal)) (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨((h.1 c).1 3).trans (final3 m c hT),
      (h.1 c).2 main_arg0 (by decide : main_arg0 ∈ Pipeline.restRefs sig spec0),
      ((h.1 c).1 0).trans (((dats m 0 c).arrAt_in 0 rfl _).trans (A_eq m c 0)),
      ((h.1 c).1 1).trans (((dats m 0 c).arrAt_in 1 rfl _).trans (A_eq m c 1)),
      (h.1 c).2 main_arg3 (by decide : main_arg3 ∈ Pipeline.restRefs sig spec0),
      ((h.1 c).1 2).trans (((dats m 0 c).arrAt_in 2 rfl _).trans (A_eq m c 2))⟩) (run_main_quiescent m ρ hT)

end

end Cert.CombineIdeal.Rows

end
-- ==== Proof.CombClaims.lean ====
/- The five claims about the combining step. -/
module

public import proofs.«01_k».proof.Defs
public import proofs.«01_k».proof.Proof.CombBits
public import proofs.«01_k».proof.Proof.CombFinal

@[expose] public section

set_option maxRecDepth 16384

noncomputable section

namespace Cert.Proof.Combine

open Idealize.ShloMosaic Idealize.SL.Sem Cert.CombineIdeal.Rows

theorem frame : @Cert.quiescent_Combine Cert.Combine.Gen.facts Cert.Pre_rows_exist.Gen.facts := fun m g pre =>
  frame_bits m g (rows_exist _ _ _ _ _ (pre 0))

theorem frame_ideal : @Cert.quiescent_CombineIdeal Cert.CombineIdeal.Gen.facts Cert.Pre_rows_exist.Gen.facts := fun m g pre =>
  Cert.CombineIdeal.Rows.frame m g (rows_exist _ _ _ _ _ (pre 0))

/-- The reference's frame: no operation writes an argument, and it has no semaphore. -/
theorem frame_reference : @Cert.quiescent_CombineReferenceIdeal Cert.CombineReferenceIdeal.Gen.facts := fun m g _ =>
  (θ_run _ _ _).mono (fun r h => ⟨fun c => (h c).2, sem_eq_zero_of_no_sems (by decide) r.2⟩) (Cert.CombineReferenceIdeal.Value.run_stages m g)

/-- The same where the row numbers name rows. -/
theorem frame_reference_rows : @Cert.quiescent_CombineReferenceIdeal_pre_rows_exist Cert.CombineReferenceIdeal.Gen.facts Cert.Pre_rows_exist.Gen.facts := fun m g _ =>
  frame_reference m g trivial

theorem preserves : Cert.preserves_Combine_CombineIdeal := trivial

/-- The idealized kernel and the reference end with one result. -/
theorem value : @Cert.algebraic_CombineIdeal_CombineReferenceIdeal Cert.CombineIdeal.Gen.facts Cert.CombineReferenceIdeal.Gen.facts Cert.Pre_rows_exist.Gen.facts := by
  intro m g m' g' pre same
  refine ⟨fun c => res m c, run_result m g (rows_exist _ _ _ _ _ (pre 0)), ?_⟩
  refine (θ_run _ _ _).mono (fun r h c => ?_) (Cert.CombineReferenceIdeal.Value.run_stages m' g')
  obtain ⟨e0, e1, e2, e3, e4⟩ := same c
  refine ⟨(h c).1.trans ?_, (h c).2⟩
  rw [e0, e1, e2, e3, e4]

end Cert.Proof.Combine

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_past
public import proofs.«01_k».proof.Proof.Gen.KernelIdeal.Value
public import proofs.«01_k».proof.Proof.Gen.ReferenceIdeal.Run
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.Combine
public import proofs.«01_k».proof.Proof.Gen.Combine.Skeleton
public import proofs.«01_k».proof.Proof.Gen.Combine.Loops
public import proofs.«01_k».proof.Proof.Gen.Combine.Launch
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.CombineReferenceIdeal
public import proofs.«01_k».proof.Proof.Gen.CombineReferenceIdeal.Run
public import proofs.«01_k».proof.Proof.Gen.Pre_rows_exist
public import proofs.«01_k».proof.Proof.Final
public import proofs.«01_k».proof.Proof.ProjClaims
public import proofs.«01_k».proof.Proof.ExpClaims
public import proofs.«01_k».proof.Proof.CombClaims
public import Idealize.ShloMosaic.Adequacy
public import Idealize.ShloMosaic.Init

@[expose] public section

noncomputable section

namespace Cert.Proof

open Idealize.ShloMosaic Idealize.SL.Sem Cert.Kernel

/-- The reference's frame: no operation writes an argument, and it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems (by decide) r.2⟩) (Cert.ReferenceIdeal.Value.run m g)

/-- The idealized kernel and the reference end with one result, from arguments that the precondition admits. -/
theorem value : @Cert.algebraic_KernelIdeal_ReferenceIdeal_pre_finite_and_past Cert.KernelIdeal.Gen.facts Cert.ReferenceIdeal.Gen.facts Cert.Pre_finite_and_past.Gen.facts := by
  intro m g m' g' pre same
  refine ⟨fun c => Cert.ReferenceIdeal.Value.result (Cert.KernelIdeal.Value.argQ m c) (Cert.KernelIdeal.Value.argK m c) (Cert.KernelIdeal.Value.argV m c)
    (Cert.KernelIdeal.Value.argA m c) (Cert.KernelIdeal.Value.argI m c), ?_, ?_⟩
  · refine (θ_run _ _ _).mono (fun r h c => ?_) (Cert.KernelIdeal.Value.run_blocks m g)
    refine ⟨(h c).1.trans (Cert.KernelIdeal.Value.final m c (pre c)), (h c).2⟩
  · refine (θ_run _ _ _).mono (fun r h c => ?_) (Cert.ReferenceIdeal.Value.run m' g')
    obtain ⟨e0, e1, e2, e3, e4⟩ := same c
    refine ⟨(h c).1.trans ((Cert.ReferenceIdeal.Value.res_stages m' c).trans ?_), (h c).2⟩
    rw [e0, e1, e2, e3, e4]

theorem claim : Cert.Claim := ⟨Cert.Kernel.Gen.facts, Cert.KernelIdeal.Gen.facts, Cert.ReferenceIdeal.Gen.facts,
  Cert.Projection.Gen.facts, Cert.ProjectionIdeal.Gen.facts, Cert.ProjectionReferenceIdeal.Gen.facts,
  Cert.Experts.Gen.facts, Cert.ExpertsIdeal.Gen.facts, Cert.ExpertsReferenceIdeal.Gen.facts,
  Cert.Combine.Gen.facts, Cert.CombineIdeal.Gen.facts, Cert.CombineReferenceIdeal.Gen.facts, Cert.Pre_finite_and_past.Gen.facts, Cert.Pre_rows_exist.Gen.facts,
  fun m g _ => Cert.Kernel.Gen.frame m g, fun m g _ => Cert.KernelIdeal.Gen.frame m g, fun m g _ => Cert.KernelIdeal.Gen.frame m g,
  fun m g _ => frame_reference m g, fun m g _ => frame_reference m g, Projection.frame, Projection.frame_ideal, Projection.frame_reference,
  Experts.frame, Experts.frame_ideal, Experts.frame_reference,
  Combine.frame, Combine.frame_ideal, Combine.frame_reference, Combine.frame_reference_rows,
  trivial, value, Projection.preserves, Projection.value, Experts.preserves, Experts.value, Combine.preserves, Combine.value⟩

end Cert.Proof

end
